-- ==== Defs.lean ====
def Pre_Kernel [hPre_rows_grouped : Cert.Pre_rows_grouped.Facts] (m : (ℓ : Loc Cert.Kernel.nD Cert.Kernel.τ Cert.Kernel.sig) → Buf (Elt Bits) ℓ) : Prop :=
  ∀ c : Dev Cert.Kernel.nD,
    (Cert.Pre_rows_grouped.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_grouped : Cert.Pre_rows_grouped.Facts] (m : (ℓ : Loc Cert.KernelIdeal.nD Cert.KernelIdeal.τ Cert.KernelIdeal.sig) → Buf (Elt Ideal) ℓ) : Prop :=
  ∀ c : Dev Cert.KernelIdeal.nD,
    (Cert.Pre_rows_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_grouped [hPre_rows_grouped : Cert.Pre_rows_grouped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_grouped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_grouped : Cert.Pre_rows_grouped.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_grouped : Cert.Pre_rows_grouped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_grouped [hReferenceIdeal : Cert.ReferenceIdeal.Facts] [hPre_rows_grouped : Cert.Pre_rows_grouped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_grouped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_grouped : Cert.Pre_rows_grouped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39_0) = v0 c
          ∧ r.2.mem ((c.tc : Thread Cert.ReferenceIdeal.nD Cert.ReferenceIdeal.τ).loc Cert.ReferenceIdeal.main_v39_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_grouped : Cert.Pre_rows_grouped.Facts),
    quiescent_Kernel (hKernel := hKernel) (hPre_rows_grouped := hPre_rows_grouped)
    ∧ quiescent_KernelIdeal (hKernelIdeal := hKernelIdeal) (hPre_rows_grouped := hPre_rows_grouped)
    ∧ quiescent_ReferenceIdeal (hReferenceIdeal := hReferenceIdeal)
    ∧ quiescent_ReferenceIdeal_pre_rows_grouped (hReferenceIdeal := hReferenceIdeal) (hPre_rows_grouped := hPre_rows_grouped)
    ∧ preserves_Kernel_KernelIdeal
    ∧ algebraic_KernelIdeal_ReferenceIdeal (hKernelIdeal := hKernelIdeal) (hReferenceIdeal := hReferenceIdeal) (hPre_rows_grouped := hPre_rows_grouped)
-- ==== Pre_rows_grouped.lean ====
abbrev S49152x2048 : Shape := ⟨2, ![49152, 2048]⟩
abbrev S16 : Shape := ⟨1, ![16]⟩
abbrev S16x1024x6144 : Shape := ⟨3, ![16, 1024, 6144]⟩
abbrev S16x16x6144 : Shape := ⟨3, ![16, 16, 6144]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S49152x2048 .bf16) (main_arg1 : IVec S16 32) (main_arg2 : IVec S16x1024x6144 8) (main_arg3 : FVec F S16x16x6144 .bf16) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 49152#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 49152#32
  let main_v6 : IVec S_ 1 := cmpi .eq main_v5 main_c_2
  let main_v7 : IVec S16 1 := broadcastInDim S16 ![] bcast_S_S16 main_v6
  let main_v8 : IVec S16 1 := andi main_v4 main_v7
  main_v8
-- ==== Kernel.lean ====
abbrev S49152x2048 : Shape := ⟨2, ![49152, 2048]⟩
abbrev S16 : Shape := ⟨1, ![16]⟩
abbrev S16x1024x6144 : Shape := ⟨3, ![16, 1024, 6144]⟩
abbrev S16x16x6144 : Shape := ⟨3, ![16, 16, 6144]⟩
abbrev S_ : Shape := ⟨0, ![]⟩
abbrev S111 : Shape := ⟨1, ![111]⟩
abbrev S111x1 : Shape := ⟨2, ![111, 1]⟩
abbrev S1x16 : Shape := ⟨2, ![1, 16]⟩
abbrev S111x16 : Shape := ⟨2, ![111, 16]⟩
abbrev S1 : Shape := ⟨1, ![1]⟩
abbrev S49152x3072 : Shape := ⟨2, ![49152, 3072]⟩
abbrev S49152x1 : Shape := ⟨2, ![49152, 1]⟩
abbrev S512x2048 : Shape := ⟨2, ![512, 2048]⟩
abbrev S1x1024x6144 : Shape := ⟨3, ![1, 1024, 6144]⟩
abbrev S1x16x6144 : Shape := ⟨3, ![1, 16, 6144]⟩
abbrev S512x3072 : Shape := ⟨2, ![512, 3072]⟩
abbrev S512x1 : Shape := ⟨2, ![512, 1]⟩
abbrev S2048x6144 : Shape := ⟨2, ![2048, 6144]⟩
abbrev S1x64x256 : Shape := ⟨3, ![1, 64, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x1x256 : Shape := ⟨3, ![1, 1, 256]⟩
abbrev S1x256 : Shape := ⟨2, ![1, 256]⟩
abbrev S512x256 : Shape := ⟨2, ![512, 256]⟩
abbrev S2048x256 : Shape := ⟨2, ![2048, 256]⟩
abbrev S512 : Shape := ⟨1, ![512]⟩

abbrev nBuf : Space → Nat
  | .hbm => 128
  | .vmem => 12
  | .smem => 5
  | _ => 0

abbrev bufTy : (tb : Table) → Fin (tcTables nBuf tb) → BufTy
  | .hbm, ⟨0, _⟩ => ⟨S49152x2048, .bf16⟩
  | .hbm, ⟨1, _⟩ => ⟨S16, .i32⟩
  | .hbm, ⟨2, _⟩ => ⟨S16x1024x6144, .i8⟩
  | .hbm, ⟨3, _⟩ => ⟨S16x16x6144, .bf16⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i1⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S_, .i32⟩
  | .hbm, ⟨56, _⟩ => ⟨S16, .i32⟩
  | .hbm, ⟨57, _⟩ => ⟨S16, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S16, .i32⟩
  | .hbm, ⟨63, _⟩ => ⟨S16, .i32⟩
  | .hbm, ⟨64, _⟩ => ⟨S111, .i32⟩
  | .hbm, ⟨65, _⟩ => ⟨S_, .i32⟩
  | .hbm, ⟨66, _⟩ => ⟨S_, .i32⟩
  | .hbm, ⟨67, _⟩ => ⟨S111, .i32⟩
  | .hbm, ⟨68, _⟩ => ⟨S111, .i32⟩
  | .hbm, ⟨69, _⟩ => ⟨S111x1, .i32⟩
  | .hbm, ⟨70, _⟩ => ⟨S16, .i32⟩
  | .hbm, ⟨71, _⟩ => ⟨S1x16, .i32⟩
  | .hbm, ⟨72, _⟩ => ⟨S111x16, .i32⟩
  | .hbm, ⟨73, _⟩ => ⟨S111x16, .i32⟩
  | .hbm, ⟨74, _⟩ => ⟨S111x16, .i1⟩
  | .hbm, ⟨75, _⟩ => ⟨S111x16, .i32⟩
  | .hbm, ⟨76, _⟩ => ⟨S_, .i32⟩
  | .hbm, ⟨77, _⟩ => ⟨S_, .i32⟩
  | .hbm, ⟨78, _⟩ => ⟨S111, .i32⟩
  | .hbm, ⟨79, _⟩ => ⟨S111, .i1⟩
  | .hbm, ⟨80, _⟩ => ⟨S_, .i32⟩
  | .hbm, ⟨81, _⟩ => ⟨S111, .i32⟩
  | .hbm, ⟨82, _⟩ => ⟨S111, .i32⟩
  | .hbm, ⟨83, _⟩ => ⟨S111, .i32⟩
  | .hbm, ⟨84, _⟩ => ⟨S111x1, .i32⟩
  | .hbm, ⟨85, _⟩ => ⟨S111, .i32⟩
  | .hbm, ⟨86, _⟩ => ⟨S111, .i32⟩
  | .hbm, ⟨87, _⟩ => ⟨S_, .i32⟩
  | .hbm, ⟨88, _⟩ => ⟨S111, .i32⟩
  | .hbm, ⟨89, _⟩ => ⟨S111, .i1⟩
  | .hbm, ⟨90, _⟩ => ⟨S_, .i32⟩
  | .hbm, ⟨91, _⟩ => ⟨S111, .i32⟩
  | .hbm, ⟨92, _⟩ => ⟨S111, .i32⟩
  | .hbm, ⟨93, _⟩ => ⟨S111, .i32⟩
  | .hbm, ⟨94, _⟩ => ⟨S111x1, .i32⟩
  | .hbm, ⟨95, _⟩ => ⟨S111, .i32⟩
  | .hbm, ⟨96, _⟩ => ⟨S_, .i32⟩
  | .hbm, ⟨97, _⟩ => ⟨S111, .i32⟩
  | .hbm, ⟨98, _⟩ => ⟨S111, .i1⟩
  | .hbm, ⟨99, _⟩ => ⟨S_, .i32⟩
  | .hbm, ⟨100, _⟩ => ⟨S111, .i32⟩
  | .hbm, ⟨101, _⟩ => ⟨S111, .i32⟩
  | .hbm, ⟨102, _⟩ => ⟨S111, .i32⟩
  | .hbm, ⟨103, _⟩ => ⟨S111x1, .i32⟩
  | .hbm, ⟨104, _⟩ => ⟨S111, .i32⟩
  | .hbm, ⟨105, _⟩ => ⟨S_, .i32⟩
  | .hbm, ⟨106, _⟩ => ⟨S111, .i32⟩
  | .hbm, ⟨107, _⟩ => ⟨S111, .i32⟩
  | .hbm, ⟨108, _⟩ => ⟨S111, .i32⟩
  | .hbm, ⟨109, _⟩ => ⟨S_, .i32⟩
  | .hbm, ⟨110, _⟩ => ⟨S111, .i32⟩
  | .hbm, ⟨111, _⟩ => ⟨S_, .i32⟩
  | .hbm, ⟨112, _⟩ => ⟨S111, .i32⟩
  | .hbm, ⟨113, _⟩ => ⟨S111, .i1⟩
  | .hbm, ⟨114, _⟩ => ⟨S_, .i32⟩
  | .hbm, ⟨115, _⟩ => ⟨S111, .i32⟩
  | .hbm, ⟨116, _⟩ => ⟨S111, .i32⟩
  | .hbm, ⟨117, _⟩ => ⟨S111, .i32⟩
  | .hbm, ⟨118, _⟩ => ⟨S111x1, .i32⟩
  | .hbm, ⟨119, _⟩ => ⟨S111, .i32⟩
  | .hbm, ⟨120, _⟩ => ⟨S_, .i32⟩
  | .hbm, ⟨121, _⟩ => ⟨S111, .i32⟩
  | .hbm, ⟨122, _⟩ => ⟨S111, .i32⟩
  | .hbm, ⟨123, _⟩ => ⟨S111, .i32⟩
  | .hbm, ⟨124, _⟩ => ⟨S_, .i32⟩
  | .hbm, ⟨125, _⟩ => ⟨S111, .i32⟩
  | .hbm, ⟨126, _⟩ => ⟨S49152x3072, .fp8e4m3⟩
  | .hbm, ⟨127, _⟩ => ⟨S49152x1, .f32⟩
  | .local _ .vmem, ⟨0, _⟩ => ⟨S512x2048, .bf16⟩
  | .local _ .vmem, ⟨1, _⟩ => ⟨S512x2048, .bf16⟩
  | .local _ .vmem, ⟨2, _⟩ => ⟨S1x1024x6144, .i8⟩
  | .local _ .vmem, ⟨3, _⟩ => ⟨S1x1024x6144, .i8⟩
  | .local _ .vmem, ⟨4, _⟩ => ⟨S1x16x6144, .bf16⟩
  | .local _ .vmem, ⟨5, _⟩ => ⟨S1x16x6144, .bf16⟩
  | .local _ .vmem, ⟨6, _⟩ => ⟨S512x3072, .fp8e4m3⟩
  | .local _ .vmem, ⟨7, _⟩ => ⟨S512x3072, .fp8e4m3⟩
  | .local _ .vmem, ⟨8, _⟩ => ⟨S512x1, .f32⟩
  | .local _ .vmem, ⟨9, _⟩ => ⟨S512x1, .f32⟩
  | .local _ .vmem, ⟨10, _⟩ => ⟨S2048x6144, .bf16⟩
  | .local _ .vmem, ⟨11, _⟩ => ⟨S512x3072, .f32⟩
  | .local _ .smem, ⟨0, _⟩ => ⟨S111, .i32⟩
  | .local _ .smem, ⟨1, _⟩ => ⟨S111, .i32⟩
  | .local _ .smem, ⟨2, _⟩ => ⟨S111, .i32⟩
  | .local _ .smem, ⟨3, _⟩ => ⟨S111, .i32⟩
  | .local _ .smem, ⟨4, _⟩ => ⟨S1, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_c_5 : Ref sig .tc := ⟨.hbm, 58, rfl⟩
abbrev main_v12 : Ref sig .tc := ⟨.hbm, 59, rfl⟩
abbrev main_call4_call0_c : Ref sig .tc := ⟨.hbm, 60, rfl⟩
abbrev main_call4_call0_v0 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_6 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c_7 : Ref sig .tc := ⟨.hbm, 76, rfl⟩
abbrev main_c_8 : Ref sig .tc := ⟨.hbm, 77, rfl⟩
abbrev main_v27 : Ref sig .tc := ⟨.hbm, 78, rfl⟩
abbrev main_v28 : Ref sig .tc := ⟨.hbm, 79, rfl⟩
abbrev main_c_9 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_c_10 : Ref sig .tc := ⟨.hbm, 87, rfl⟩
abbrev main_v35 : Ref sig .tc := ⟨.hbm, 88, rfl⟩
abbrev main_v36 : Ref sig .tc := ⟨.hbm, 89, rfl⟩
abbrev main_c_11 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_12 : Ref sig .tc := ⟨.hbm, 96, rfl⟩
abbrev main_v43 : Ref sig .tc := ⟨.hbm, 97, rfl⟩
abbrev main_v44 : Ref sig .tc := ⟨.hbm, 98, rfl⟩
abbrev main_c_13 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_c_14 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_c_15 : Ref sig .tc := ⟨.hbm, 109, rfl⟩
abbrev main_v53 : Ref sig .tc := ⟨.hbm, 110, rfl⟩
abbrev main_c_16 : Ref sig .tc := ⟨.hbm, 111, rfl⟩
abbrev main_v55 : Ref sig .tc := ⟨.hbm, 112, rfl⟩
abbrev main_v56 : Ref sig .tc := ⟨.hbm, 113, rfl⟩
abbrev main_c_17 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_18 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_c_19 : Ref sig .tc := ⟨.hbm, 124, rfl⟩
abbrev main_v65 : Ref sig .tc := ⟨.hbm, 125, rfl⟩
abbrev main_v68_0 : Ref sig .tc := ⟨.hbm, 126, rfl⟩
abbrev main_v68_1 : Ref sig .tc := ⟨.hbm, 127, rfl⟩
abbrev main_v26 : Ref sig .tc := ⟨.smem, 0, rfl⟩
abbrev main_v42 : Ref sig .tc := ⟨.smem, 1, rfl⟩
abbrev main_v54 : Ref sig .tc := ⟨.smem, 2, rfl⟩
abbrev main_v66 : Ref sig .tc := ⟨.smem, 3, rfl⟩
abbrev main_v67 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![111], ![false]⟩

abbrev pre0 : Pipeline.Prefetch sig := ⟨5, ![main_v26.idx, main_v42.idx, main_v54.idx, main_v66.idx, main_v67.idx], fun | 0 => main_v26.names | 1 => main_v42.names | 2 => main_v54.names | 3 => main_v66.names | 4 => main_v67.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
@[reducible] def k0_t1_loop : Scf.Loop 32 :=
  let c0_i32_239 : BitVec 32 := 0#32
  let c24_i32 : BitVec 32 := 24#32
  let v409 : BitVec 32 := Scalar.addi c0_i32_239 c24_i32
  let c1_i32_240 : BitVec 32 := 1#32
  ⟨c0_i32_239, v409, c1_i32_240⟩
def k0_mult1 (k0_t1 : Fin k0_t1_loop.trips) : BitVec 32 :=
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  v410
def k0_off4 (k0_t1 : Fin k0_t1_loop.trips) : Fin 3 → Nat :=
  let c0_242 : Index := 0#32
  let c0_243 : Index := 0#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v412 : Index := Scalar.indexCast v411
  ![0, 0, v412.toNat]
def k0_off5 (k0_t1 : Fin k0_t1_loop.trips) : Fin 3 → Nat :=
  let c0_246 : Index := 0#32
  let c0_247 : Index := 0#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v430 : Index := Scalar.indexCast v411
  ![0, 0, v430.toNat]
def k0_off6 (k0_t1 : Fin k0_t1_loop.trips) : Fin 2 → Nat :=
  let c0_248 : Index := 0#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v436 : Index := Scalar.indexCast v411
  ![0, v436.toNat]
def k0_off7 (k0_t1 : Fin k0_t1_loop.trips) : Fin 3 → Nat :=
  let c0_249 : Index := 0#32
  let c64 : Index := 64#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v440 : Index := Scalar.indexCast v411
  ![0, 64, v440.toNat]
def k0_off8 (k0_t1 : Fin k0_t1_loop.trips) : Fin 3 → Nat :=
  let c0_254 : Index := 0#32
  let c1 : Index := 1#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v458 : Index := Scalar.indexCast v411
  ![0, 1, v458.toNat]
def k0_off9 (k0_t1 : Fin k0_t1_loop.trips) : Fin 2 → Nat :=
  let c128 : Index := 128#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v464 : Index := Scalar.indexCast v411
  ![128, v464.toNat]
def k0_off10 (k0_t1 : Fin k0_t1_loop.trips) : Fin 3 → Nat :=
  let c0_255 : Index := 0#32
  let c128_256 : Index := 128#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v468 : Index := Scalar.indexCast v411
  ![0, 128, v468.toNat]
def k0_off11 (k0_t1 : Fin k0_t1_loop.trips) : Fin 3 → Nat :=
  let c0_261 : Index := 0#32
  let c2 : Index := 2#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v486 : Index := Scalar.indexCast v411
  ![0, 2, v486.toNat]
def k0_off12 (k0_t1 : Fin k0_t1_loop.trips) : Fin 2 → Nat :=
  let c256_262 : Index := 256#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v492 : Index := Scalar.indexCast v411
  ![256, v492.toNat]
def k0_off13 (k0_t1 : Fin k0_t1_loop.trips) : Fin 3 → Nat :=
  let c0_263 : Index := 0#32
  let c192 : Index := 192#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v496 : Index := Scalar.indexCast v411
  ![0, 192, v496.toNat]
def k0_off14 (k0_t1 : Fin k0_t1_loop.trips) : Fin 3 → Nat :=
  let c0_268 : Index := 0#32
  let c3 : Index := 3#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v514 : Index := Scalar.indexCast v411
  ![0, 3, v514.toNat]
def k0_off15 (k0_t1 : Fin k0_t1_loop.trips) : Fin 2 → Nat :=
  let c384 : Index := 384#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v520 : Index := Scalar.indexCast v411
  ![384, v520.toNat]
def k0_off16 (k0_t1 : Fin k0_t1_loop.trips) : Fin 3 → Nat :=
  let c0_269 : Index := 0#32
  let c256_270 : Index := 256#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v524 : Index := Scalar.indexCast v411
  ![0, 256, v524.toNat]
def k0_off17 (k0_t1 : Fin k0_t1_loop.trips) : Fin 3 → Nat :=
  let c0_275 : Index := 0#32
  let c4 : Index := 4#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v542 : Index := Scalar.indexCast v411
  ![0, 4, v542.toNat]
def k0_off18 (k0_t1 : Fin k0_t1_loop.trips) : Fin 2 → Nat :=
  let c512_276 : Index := 512#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v548 : Index := Scalar.indexCast v411
  ![512, v548.toNat]
def k0_off19 (k0_t1 : Fin k0_t1_loop.trips) : Fin 3 → Nat :=
  let c0_277 : Index := 0#32
  let c320 : Index := 320#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v552 : Index := Scalar.indexCast v411
  ![0, 320, v552.toNat]
def k0_off20 (k0_t1 : Fin k0_t1_loop.trips) : Fin 3 → Nat :=
  let c0_282 : Index := 0#32
  let c5 : Index := 5#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v570 : Index := Scalar.indexCast v411
  ![0, 5, v570.toNat]
def k0_off21 (k0_t1 : Fin k0_t1_loop.trips) : Fin 2 → Nat :=
  let c640 : Index := 640#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v576 : Index := Scalar.indexCast v411
  ![640, v576.toNat]
def k0_off22 (k0_t1 : Fin k0_t1_loop.trips) : Fin 3 → Nat :=
  let c0_283 : Index := 0#32
  let c384_284 : Index := 384#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v580 : Index := Scalar.indexCast v411
  ![0, 384, v580.toNat]
def k0_off23 (k0_t1 : Fin k0_t1_loop.trips) : Fin 3 → Nat :=
  let c0_289 : Index := 0#32
  let c6 : Index := 6#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v598 : Index := Scalar.indexCast v411
  ![0, 6, v598.toNat]
def k0_off24 (k0_t1 : Fin k0_t1_loop.trips) : Fin 2 → Nat :=
  let c768_290 : Index := 768#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v604 : Index := Scalar.indexCast v411
  ![768, v604.toNat]
def k0_off25 (k0_t1 : Fin k0_t1_loop.trips) : Fin 3 → Nat :=
  let c0_291 : Index := 0#32
  let c448 : Index := 448#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v608 : Index := Scalar.indexCast v411
  ![0, 448, v608.toNat]
def k0_off26 (k0_t1 : Fin k0_t1_loop.trips) : Fin 3 → Nat :=
  let c0_296 : Index := 0#32
  let c7 : Index := 7#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v626 : Index := Scalar.indexCast v411
  ![0, 7, v626.toNat]
def k0_off27 (k0_t1 : Fin k0_t1_loop.trips) : Fin 2 → Nat :=
  let c896 : Index := 896#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v632 : Index := Scalar.indexCast v411
  ![896, v632.toNat]
def k0_off28 (k0_t1 : Fin k0_t1_loop.trips) : Fin 3 → Nat :=
  let c0_297 : Index := 0#32
  let c512_298 : Index := 512#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v636 : Index := Scalar.indexCast v411
  ![0, 512, v636.toNat]
def k0_off29 (k0_t1 : Fin k0_t1_loop.trips) : Fin 3 → Nat :=
  let c0_303 : Index := 0#32
  let c8 : Index := 8#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v654 : Index := Scalar.indexCast v411
  ![0, 8, v654.toNat]
def k0_off30 (k0_t1 : Fin k0_t1_loop.trips) : Fin 2 → Nat :=
  let c1024_304 : Index := 1024#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v660 : Index := Scalar.indexCast v411
  ![1024, v660.toNat]
def k0_off31 (k0_t1 : Fin k0_t1_loop.trips) : Fin 3 → Nat :=
  let c0_305 : Index := 0#32
  let c576 : Index := 576#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v664 : Index := Scalar.indexCast v411
  ![0, 576, v664.toNat]
def k0_off32 (k0_t1 : Fin k0_t1_loop.trips) : Fin 3 → Nat :=
  let c0_310 : Index := 0#32
  let c9 : Index := 9#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v682 : Index := Scalar.indexCast v411
  ![0, 9, v682.toNat]
def k0_off33 (k0_t1 : Fin k0_t1_loop.trips) : Fin 2 → Nat :=
  let c1152 : Index := 1152#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v688 : Index := Scalar.indexCast v411
  ![1152, v688.toNat]
def k0_off34 (k0_t1 : Fin k0_t1_loop.trips) : Fin 3 → Nat :=
  let c0_311 : Index := 0#32
  let c640_312 : Index := 640#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v692 : Index := Scalar.indexCast v411
  ![0, 640, v692.toNat]
def k0_off35 (k0_t1 : Fin k0_t1_loop.trips) : Fin 3 → Nat :=
  let c0_317 : Index := 0#32
  let c10 : Index := 10#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v710 : Index := Scalar.indexCast v411
  ![0, 10, v710.toNat]
def k0_off36 (k0_t1 : Fin k0_t1_loop.trips) : Fin 2 → Nat :=
  let c1280_318 : Index := 1280#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v716 : Index := Scalar.indexCast v411
  ![1280, v716.toNat]
def k0_off37 (k0_t1 : Fin k0_t1_loop.trips) : Fin 3 → Nat :=
  let c0_319 : Index := 0#32
  let c704 : Index := 704#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v720 : Index := Scalar.indexCast v411
  ![0, 704, v720.toNat]
def k0_off38 (k0_t1 : Fin k0_t1_loop.trips) : Fin 3 → Nat :=
  let c0_324 : Index := 0#32
  let c11 : Index := 11#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v738 : Index := Scalar.indexCast v411
  ![0, 11, v738.toNat]
def k0_off39 (k0_t1 : Fin k0_t1_loop.trips) : Fin 2 → Nat :=
  let c1408 : Index := 1408#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v744 : Index := Scalar.indexCast v411
  ![1408, v744.toNat]
def k0_off40 (k0_t1 : Fin k0_t1_loop.trips) : Fin 3 → Nat :=
  let c0_325 : Index := 0#32
  let c768_326 : Index := 768#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v748 : Index := Scalar.indexCast v411
  ![0, 768, v748.toNat]
def k0_off41 (k0_t1 : Fin k0_t1_loop.trips) : Fin 3 → Nat :=
  let c0_331 : Index := 0#32
  let c12 : Index := 12#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v766 : Index := Scalar.indexCast v411
  ![0, 12, v766.toNat]
def k0_off42 (k0_t1 : Fin k0_t1_loop.trips) : Fin 2 → Nat :=
  let c1536_332 : Index := 1536#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v772 : Index := Scalar.indexCast v411
  ![1536, v772.toNat]
def k0_off43 (k0_t1 : Fin k0_t1_loop.trips) : Fin 3 → Nat :=
  let c0_333 : Index := 0#32
  let c832 : Index := 832#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v776 : Index := Scalar.indexCast v411
  ![0, 832, v776.toNat]
def k0_off44 (k0_t1 : Fin k0_t1_loop.trips) : Fin 3 → Nat :=
  let c0_338 : Index := 0#32
  let c13 : Index := 13#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v794 : Index := Scalar.indexCast v411
  ![0, 13, v794.toNat]
def k0_off45 (k0_t1 : Fin k0_t1_loop.trips) : Fin 2 → Nat :=
  let c1664 : Index := 1664#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v800 : Index := Scalar.indexCast v411
  ![1664, v800.toNat]
def k0_off46 (k0_t1 : Fin k0_t1_loop.trips) : Fin 3 → Nat :=
  let c0_339 : Index := 0#32
  let c896_340 : Index := 896#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v804 : Index := Scalar.indexCast v411
  ![0, 896, v804.toNat]
def k0_off47 (k0_t1 : Fin k0_t1_loop.trips) : Fin 3 → Nat :=
  let c0_345 : Index := 0#32
  let c14 : Index := 14#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v822 : Index := Scalar.indexCast v411
  ![0, 14, v822.toNat]
def k0_off48 (k0_t1 : Fin k0_t1_loop.trips) : Fin 2 → Nat :=
  let c1792_346 : Index := 1792#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v828 : Index := Scalar.indexCast v411
  ![1792, v828.toNat]
def k0_off49 (k0_t1 : Fin k0_t1_loop.trips) : Fin 3 → Nat :=
  let c0_347 : Index := 0#32
  let c960 : Index := 960#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v832 : Index := Scalar.indexCast v411
  ![0, 960, v832.toNat]
def k0_off50 (k0_t1 : Fin k0_t1_loop.trips) : Fin 3 → Nat :=
  let c0_352 : Index := 0#32
  let c15 : Index := 15#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v850 : Index := Scalar.indexCast v411
  ![0, 15, v850.toNat]
def k0_off51 (k0_t1 : Fin k0_t1_loop.trips) : Fin 2 → Nat :=
  let c1920 : Index := 1920#32
  let c0_i32_239 : BitVec 32 := 0#32
  let c1_i32_240 : BitVec 32 := 1#32
  let arg13 : BitVec 32 := Scf.iv c0_i32_239 c1_i32_240 k0_t1
  let c256_i32 : BitVec 32 := 256#32
  let v410 : BitVec 32 := Scalar.muli arg13 c256_i32
  let v411 : BitVec 32 := v410
  let v856 : Index := Scalar.indexCast v411
  ![1920, v856.toNat]
def k0_off52 (i : grid0.Coords) : Fin 1 → Nat :=
  let arg0 : BitVec 32 := BitVec.ofNat 32 (i 0).val
  let v16 : Index := Scalar.indexCast arg0
  ![v16.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x6144 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S49152x2048 : Shape := ⟨2, ![49152, 2048]⟩
abbrev S16 : Shape := ⟨1, ![16]⟩
abbrev S16x1024x6144 : Shape := ⟨3, ![16, 1024, 6144]⟩
abbrev S16x16x6144 : Shape := ⟨3, ![16, 16, 6144]⟩
abbrev S16x1024x1x6144 : Shape := ⟨4, ![16, 1024, 1, 6144]⟩
abbrev S16x1024x2x6144 : Shape := ⟨4, ![16, 1024, 2, 6144]⟩
abbrev S_ : Shape := ⟨0, ![]⟩
abbrev S16x16x128x6144 : Shape := ⟨4, ![16, 16, 128, 6144]⟩
abbrev S16x16x1x6144 : Shape := ⟨4, ![16, 16, 1, 6144]⟩
abbrev S16x2048x6144 : Shape := ⟨3, ![16, 2048, 6144]⟩
abbrev S49152 : Shape := ⟨1, ![49152]⟩
abbrev S1x49152 : Shape := ⟨2, ![1, 49152]⟩
abbrev S16x1 : Shape := ⟨2, ![16, 1]⟩
abbrev S16x49152 : Shape := ⟨2, ![16, 49152]⟩
abbrev S16x6144x49152 : Shape := ⟨3, ![16, 6144, 49152]⟩
abbrev S16x1x49152 : Shape := ⟨3, ![16, 1, 49152]⟩
abbrev S6144x49152 : Shape := ⟨2, ![6144, 49152]⟩
abbrev S49152x6144 : Shape := ⟨2, ![49152, 6144]⟩
abbrev S49152x3072 : Shape := ⟨2, ![49152, 3072]⟩
abbrev S49152x1 : Shape := ⟨2, ![49152, 1]⟩
abbrev S49152x254 : Shape := ⟨2, ![49152, 254]⟩

abbrev nBuf : Space → Nat
  | .hbm => 63
  | .vmem => 3
  | .smem => 0
  | _ => 0

abbrev bufTy : (tb : Table) → Fin (tcTables nBuf tb) → BufTy
  | .hbm, ⟨0, _⟩ => ⟨S49152x2048, .bf16⟩
  | .hbm, ⟨1, _⟩ => ⟨S16, .i32⟩
  | .hbm, ⟨2, _⟩ => ⟨S16x1024x6144, .i8⟩
  | .hbm, ⟨3, _⟩ => ⟨S16x16x6144, .bf16⟩
  | .hbm, ⟨4, _⟩ => ⟨S16x1024x1x6144, .i8⟩
  | .hbm, ⟨5, _⟩ => ⟨S16x1024x1x6144, .i32⟩
  | .hbm, ⟨6, _⟩ => ⟨S16x1024x2x6144, .i32⟩
  | .hbm, ⟨7, _⟩ => ⟨S16x1024x2x6144, .i32⟩
  | .hbm, ⟨8, _⟩ => ⟨S_, .i32⟩
  | .hbm, ⟨9, _⟩ => ⟨S16x1024x2x6144, .i32⟩
  | .hbm, ⟨10, _⟩ => ⟨S16x1024x2x6144, .i32⟩
  | .hbm, ⟨11, _⟩ => ⟨S16x1024x2x6144, .i32⟩
  | .hbm, ⟨12, _⟩ => ⟨S_, .i32⟩
  | .hbm, ⟨13, _⟩ => ⟨S16x1024x2x6144, .i32⟩
  | .hbm, ⟨14, _⟩ => ⟨S16x1024x2x6144, .i32⟩
  | .hbm, ⟨15, _⟩ => ⟨S_, .i32⟩
  | .hbm, ⟨16, _⟩ => ⟨S16x1024x2x6144, .i32⟩
  | .hbm, ⟨17, _⟩ => ⟨S16x1024x2x6144, .i32⟩
  | .hbm, ⟨18, _⟩ => ⟨S16x1024x2x6144, .bf16⟩
  | .hbm, ⟨19, _⟩ => ⟨S16x16x128x6144, .bf16⟩
  | .hbm, ⟨20, _⟩ => ⟨S16x16x1x6144, .bf16⟩
  | .hbm, ⟨21, _⟩ => ⟨S16x16x128x6144, .bf16⟩
  | .hbm, ⟨22, _⟩ => ⟨S16x16x128x6144, .bf16⟩
  | .hbm, ⟨23, _⟩ => ⟨S16x2048x6144, .bf16⟩
  | .hbm, ⟨24, _⟩ => ⟨S_, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S49152, .i32⟩
  | .hbm, ⟨29, _⟩ => ⟨S1x49152, .i32⟩
  | .hbm, ⟨30, _⟩ => ⟨S16x1, .i32⟩
  | .hbm, ⟨31, _⟩ => ⟨S16x49152, .i32⟩
  | .hbm, ⟨32, _⟩ => ⟨S16x49152, .i32⟩
  | .hbm, ⟨33, _⟩ => ⟨S16x49152, .i1⟩
  | .hbm, ⟨34, _⟩ => ⟨S16x1, .i32⟩
  | .hbm, ⟨35, _⟩ => ⟨S16x49152, .i32⟩
  | .hbm, ⟨36, _⟩ => ⟨S16x49152, .i32⟩
  | .hbm, ⟨37, _⟩ => ⟨S16x49152, .i1⟩
  | .hbm, ⟨38, _⟩ => ⟨S16x49152, .i1⟩
  | .hbm, ⟨39, _⟩ => ⟨S16x6144x49152, .f32⟩
  | .hbm, ⟨40, _⟩ => ⟨S16x1x49152, .i1⟩
  | .hbm, ⟨41, _⟩ => ⟨S_, .f32⟩
  | .hbm, ⟨42, _⟩ => ⟨S_, .f32⟩
  | .hbm, ⟨43, _⟩ => ⟨S16x6144x49152, .i1⟩
  | .hbm, ⟨44, _⟩ => ⟨S16x6144x49152, .f32⟩
  | .hbm, ⟨45, _⟩ => ⟨S16x6144x49152, .f32⟩
  | .hbm, ⟨46, _⟩ => ⟨S_, .f32⟩
  | .hbm, ⟨47, _⟩ => ⟨S6144x49152, .f32⟩
  | .hbm, ⟨48, _⟩ => ⟨S49152x6144, .f32⟩
  | .hbm, ⟨49, _⟩ => ⟨S49152x3072, .f32⟩
  | .hbm, ⟨50, _⟩ => ⟨S49152x3072, .f32⟩
  | .hbm, ⟨51, _⟩ => ⟨S49152x3072, .f32⟩
  | .hbm, ⟨52, _⟩ => ⟨S49152x3072, .f32⟩
  | .hbm, ⟨53, _⟩ => ⟨S_, .f32⟩
  | .hbm, ⟨54, _⟩ => ⟨S49152x3072, .f32⟩
  | .hbm, ⟨55, _⟩ => ⟨S49152x3072, .f32⟩
  | .hbm, ⟨56, _⟩ => ⟨S_, .f32⟩
  | .hbm, ⟨57, _⟩ => ⟨S49152x3072, .f32⟩
  | .hbm, ⟨58, _⟩ => ⟨S49152x3072, .f32⟩
  | .hbm, ⟨59, _⟩ => ⟨S49152x3072, .f32⟩
  | .hbm, ⟨60, _⟩ => ⟨S49152x3072, .f32⟩
  | .hbm, ⟨61, _⟩ => ⟨S49152x3072, .fp8e4m3⟩
  | .hbm, ⟨62, _⟩ => ⟨S49152x1, .f32⟩
  | .local _ .vmem, ⟨0, _⟩ => ⟨S49152x3072, .f32⟩
  | .local _ .vmem, ⟨1, _⟩ => ⟨S49152x3072, .fp8e4m3⟩
  | .local _ .vmem, ⟨2, _⟩ => ⟨S49152x1, .f32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_call0_c : Ref sig .tc := ⟨.hbm, 24, rfl⟩
abbrev main_call0_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S49152x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelBody.lean ====
/-
  ONE RUN OF THE KERNEL'S BODY: what its twelve buffers hold afterwards, in the three cases that its two conditions leave. A visit past the
  last one changes nothing. A visit of the same expert as the one before keeps the unpacked weights; any other unpacks them first.
-/
module

public import proofs.«01_k».proof.Proof.Gen.Kernel.Loops
public import proofs.«01_k».proof.Proof.Gen.Kernel.Launch
public import Idealize.ShloMosaic.Lib.Exec
public import Idealize.ShloMosaic.Lib.Tactic
public import Idealize.ShloMosaic.Lib.Pipeline.Kit

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

set_option maxHeartbeats 4000000 in
set_option maxRecDepth 8192 in
/-- The weights are kept. -/
def body_kept (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : ¬ Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
   { L : List (View.Piece (Elt F) S512x3072 .fp8e4m3) × List (View.Piece (Elt F) S512x1 .f32) × List (View.Piece (Elt F) S512x3072 .f32) //
     ∀ (E : Set ℕ) f9 f10, (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2.1)) ∗ (arg11.view.loc (c : Thread nD τ) ↦[arg11.view.set]{fullShare} f11) ∗ (arg12.view.loc (c : Thread nD τ) ↦[arg12.view.set]{fullShare} (arg12.view.writes (Elt F) f12 L.2.2)))) } := by
  refine ⟨⟨?_, ?_, ?_⟩, fun E f9 f10 => ?run⟩
  case run =>
    simp only [cc0__body_eq_skeleton]; unfold cc0__body_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H1, H2, H3, H4, H5, H6, H7, H8, H9, H10, H11, H12⟩
    sl_exec
    sl_step
    sl_close

set_option maxHeartbeats 4000000 in
set_option maxRecDepth 8192 in
/-- The weights are unpacked first. -/
def body_fresh (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
   { L : List (View.Piece (Elt F) S512x3072 .fp8e4m3) × List (View.Piece (Elt F) S512x1 .f32) × List (View.Piece (Elt F) S2048x6144 .bf16) × List (View.Piece (Elt F) S512x3072 .f32) //
     ∀ (E : Set ℕ) f9 f10, (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2.1)) ∗ (arg11.view.loc (c : Thread nD τ) ↦[arg11.view.set]{fullShare} (arg11.view.writes (Elt F) f11 L.2.2.1)) ∗ (arg12.view.loc (c : Thread nD τ) ↦[arg12.view.set]{fullShare} (arg12.view.writes (Elt F) f12 L.2.2.2)))) } := by
  refine ⟨⟨?_, ?_, ?_, ?_⟩, fun E f9 f10 => ?run⟩
  case run =>
    simp only [cc0__body_eq_skeleton]; unfold cc0__body_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H1, H2, H3, H4, H5, H6, H7, H8, H9, H10, H11, H12⟩
    sl_exec
    sl_step
    sl_close

set_option maxHeartbeats 4000000 in
set_option maxRecDepth 8192 in
/-- Nothing happens. -/
theorem body_idle (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : ¬ k0_cond1 i (arg5.view.readAt (Elt F) (Rect.unit (s := S1) ![0] S1.size inb_S1_S1_0).toLoadRect f5 (Shape.Idx.first (numel1_S1.symm ▸ Nat.one_pos))) = 1#1) (E : Set ℕ) (f9 : BufTy.Contents (Elt F) arg9.view.ty) (f10 : BufTy.Contents (Elt F) arg10.view.ty) :
     (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))) := by
  simp only [cc0__body_eq_skeleton]; unfold cc0__body_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  iintro ⟨H1, H2, H3, H4, H5, H6, H7, H8, H9, H10, H11, H12⟩
  sl_exec
  sl_step
  sl_close

end Cert.Kernel

end
-- ==== Proof.Sched.lean ====
/-
  THE SCHEDULE OF THE VISITS, over the naturals.

  Sixteen experts own consecutive stretches of rows: expert `j` owns the rows from `P f j` up to `P f (j + 1)`, where `P f n` is the sum of the
  first `n` group sizes. The rows are cut into tiles of 512. An expert with rows visits every tile that its rows meet, so a tile that two
  experts share is visited twice in a row. This file defines, for a visit `v`, its expert, its tile and the rows of the tile that the visit
  owns, and proves what the kernel's bookkeeping needs: the visits' rows follow one another without a gap from row 0 to row 49152.
-/
module

public import Idealize.ShloMosaic.Lib.Routing.OpsSearch

@[expose] public section

namespace Cert.Sched

/-- The sum of the first `n` values of `f`. -/
def P (f : ℕ → ℕ) (n : ℕ) : ℕ := ((List.range n).map f).sum

theorem P_zero (f : ℕ → ℕ) : P f 0 = 0 := rfl

theorem P_succ (f : ℕ → ℕ) (n : ℕ) : P f (n + 1) = P f n + f n := by
  simp [P, List.range_succ]

theorem P_mono (f : ℕ → ℕ) {a b : ℕ} (h : a ≤ b) : P f a ≤ P f b := by
  induction b, h using Nat.le_induction with
  | base => exact le_refl _
  | succ n _ ih => rw [P_succ]; omega

/-- The number of indices below `N` at which the running sum has not passed `v`. -/
def idx (c : ℕ → ℕ) (v N : ℕ) : ℕ := Nat.count (fun q => P c (q + 1) ≤ v) N

/-- The index found is the one whose stretch holds `v`. -/
theorem idx_eq (c : ℕ → ℕ) (v N e : ℕ) (he : e < N) (h1 : P c e ≤ v) (h2 : v < P c (e + 1)) : idx c v N = e := by
  have low : ∀ n, n ≤ e → Nat.count (fun q => P c (q + 1) ≤ v) n = n := by
    intro n hn
    induction n with
    | zero => simp
    | succ n ih =>
      rw [Nat.count_succ, ih (by omega), if_pos ((P_mono c hn).trans h1)]
  have high : ∀ n, e ≤ n → Nat.count (fun q => P c (q + 1) ≤ v) n = e := by
    intro n hn
    induction n, hn using Nat.le_induction with
    | base => exact low e (le_refl _)
    | succ n hn ih =>
      have := P_mono c (show e + 1 ≤ n + 1 by omega)
      rw [Nat.count_succ, ih, if_neg (by omega), Nat.add_zero]
  exact high N he.le

theorem idx_spec (c : ℕ → ℕ) (v N : ℕ) (hv : v < P c N) :
    idx c v N < N ∧ P c (idx c v N) ≤ v ∧ v < P c (idx c v N + 1) := by
  have : ∃ e, e < N ∧ P c e ≤ v ∧ v < P c (e + 1) := by
    induction N with
    | zero => simp [P_zero] at hv
    | succ n ih =>
      by_cases h : v < P c n
      · obtain ⟨e, h1, h2⟩ := ih h
        exact ⟨e, by omega, h2⟩
      · exact ⟨n, by omega, by omega, hv⟩
  obtain ⟨e, h0, h1, h2⟩ := this
  rw [idx_eq c v N e h0 h1 h2]
  exact ⟨h0, h1, h2⟩

/-- How many visits expert `j` makes. -/
def cn (f : ℕ → ℕ) (j : ℕ) : ℕ := if 0 < f j then (P f (j + 1) - 1) / 512 - P f j / 512 + 1 else 0

/-- How many visits there are. -/
def tot (f : ℕ → ℕ) : ℕ := P (cn f) 16

/-- A grid point's visit: past the last one, the last one again. -/
def vv (f : ℕ → ℕ) (t : ℕ) : ℕ := min t (tot f - 1)

/-- The expert of a grid point. -/
def ex (f : ℕ → ℕ) (t : ℕ) : ℕ := idx (cn f) (vv f t) 16

/-- The tile of a grid point. -/
def tl (f : ℕ → ℕ) (t : ℕ) : ℕ := P f (ex f t) / 512 + vv f t - P (cn f) (ex f t)

/-- The first row of the tile that the grid point owns. -/
def lo (f : ℕ → ℕ) (t : ℕ) : ℕ := P f (ex f t) - tl f t * 512

/-- One past the last row of the tile that the grid point owns. -/
def hi (f : ℕ → ℕ) (t : ℕ) : ℕ := min (P f (ex f t + 1) - tl f t * 512) 512

/-- The expert of a row. -/
def own (f : ℕ → ℕ) (R : ℕ) : ℕ := idx f R 16

theorem cn_pos (f : ℕ → ℕ) (j : ℕ) : 0 < cn f j ↔ 0 < f j := by
  unfold cn; split <;> simp_all

theorem tot_pos (f : ℕ → ℕ) (hf : P f 16 = 49152) : 0 < tot f := by
  by_contra h
  have h0 : P (cn f) 16 = 0 := by unfold tot at h; omega
  have : ∀ n, n ≤ 16 → P f n = 0 := by
    intro n hn
    induction n with
    | zero => rfl
    | succ n ih =>
      have hs := P_succ (cn f) n
      have := P_mono (cn f) hn
      have hc : ¬ 0 < cn f n := by omega
      rw [cn_pos] at hc
      rw [P_succ, ih (by omega)]; omega
  rw [this 16 (le_refl _)] at hf
  omega

theorem tot_le (f : ℕ → ℕ) (hf : P f 16 = 49152) : tot f ≤ 111 := by
  have : ∀ n, (P f n = 0 → P (cn f) n = 0) ∧ (0 < P f n → P (cn f) n + 1 ≤ (P f n + 511) / 512 + n) := by
    intro n
    induction n with
    | zero => exact ⟨fun _ => rfl, fun h => absurd h (by simp [P_zero])⟩
    | succ n ih =>
      have h1 := P_succ f n
      have h2 := P_succ (cn f) n
      have h3 : cn f n = if 0 < f n then (P f (n + 1) - 1) / 512 - P f n / 512 + 1 else 0 := rfl
      obtain ⟨ia, ib⟩ := ih
      rw [h2, h3]
      constructor
      · intro h
        rw [ia (by omega), if_neg (by omega)]
      · intro h
        split
        · rcases Nat.eq_zero_or_pos (P f n) with h0 | h0
          · rw [ia h0, h0]; omega
          · have := ib h0
            omega
        · have := ib (by omega)
          rw [h1]
          have : f n = 0 := by omega
          rw [this]; omega
  have := (this 16).2 (by omega)
  rw [hf] at this
  unfold tot
  omega

theorem vv_lt (f : ℕ → ℕ) (hf : P f 16 = 49152) (t : ℕ) : vv f t < tot f := by
  have := tot_pos f hf
  unfold vv; omega

/-- What a visit's expert satisfies. -/
theorem ex_spec (f : ℕ → ℕ) (hf : P f 16 = 49152) (t : ℕ) :
    ex f t < 16 ∧ P (cn f) (ex f t) ≤ vv f t ∧ vv f t < P (cn f) (ex f t) + cn f (ex f t) ∧ 0 < f (ex f t)
      ∧ cn f (ex f t) = (P f (ex f t + 1) - 1) / 512 - P f (ex f t) / 512 + 1
      ∧ P f (ex f t + 1) = P f (ex f t) + f (ex f t) ∧ P f (ex f t + 1) ≤ 49152 := by
  obtain ⟨h0, h1, h2⟩ := idx_spec (cn f) (vv f t) 16 (vv_lt f hf t)
  change ex f t < 16 at h0
  change P (cn f) (ex f t) ≤ _ at h1
  change _ < P (cn f) (ex f t + 1) at h2
  rw [P_succ] at h2
  have hc : 0 < cn f (ex f t) := by omega
  have hp := (cn_pos f _).1 hc
  refine ⟨h0, h1, h2, hp, ?_, P_succ f _, ?_⟩
  · conv_lhs => unfold cn
    rw [if_pos hp]
  · rw [← hf]; exact P_mono f (by omega)

theorem ex_lt (f : ℕ → ℕ) (hf : P f 16 = 49152) (t : ℕ) : ex f t < 16 := (ex_spec f hf t).1

theorem tl_lt (f : ℕ → ℕ) (hf : P f 16 = 49152) (t : ℕ) : tl f t < 96 := by
  obtain ⟨h0, h1, h2, h3, h4, h5, h6⟩ := ex_spec f hf t
  unfold tl; omega

theorem hi_le (f : ℕ → ℕ) (t : ℕ) : hi f t ≤ 512 := by unfold hi; omega

theorem lo_lt_hi (f : ℕ → ℕ) (hf : P f 16 = 49152) (t : ℕ) : lo f t < hi f t := by
  obtain ⟨h0, h1, h2, h3, h4, h5, h6⟩ := ex_spec f hf t
  unfold lo hi tl; omega

/-- A row that the visit owns is a row of the visit's expert. -/
theorem own_eq (f : ℕ → ℕ) (hf : P f 16 = 49152) (t r : ℕ) (h : lo f t ≤ r) (h' : r < hi f t) :
    own f (tl f t * 512 + r) = ex f t := by
  obtain ⟨h0, h1, h2, h3, h4, h5, h6⟩ := ex_spec f hf t
  refine idx_eq f _ 16 _ h0 ?_ ?_
  · unfold lo at h; omega
  · unfold hi at h'; omega

theorem P_flat (f : ℕ → ℕ) {a b : ℕ} (h : a ≤ b) (he : P (cn f) a = P (cn f) b) : P f a = P f b := by
  induction b, h using Nat.le_induction with
  | base => rfl
  | succ n hn ih =>
    have h1 := P_succ (cn f) n
    have h2 := P_mono (cn f) hn
    have hc : ¬ 0 < cn f n := by omega
    rw [cn_pos] at hc
    rw [P_succ, ← ih (by omega)]; omega

/-- From a visit to the next: the same tile, whose next rows are owned; or the next tile from its first row, the one before being full. -/
theorem step (f : ℕ → ℕ) (hf : P f 16 = 49152) (t : ℕ) (ht : t + 1 < tot f) :
    (tl f (t + 1) = tl f t ∧ lo f (t + 1) = hi f t) ∨ (tl f (t + 1) = tl f t + 1 ∧ lo f (t + 1) = 0 ∧ hi f t = 512) := by
  obtain ⟨h0, h1, h2, h3, h4, h5, h6⟩ := ex_spec f hf t
  obtain ⟨g0, g1, g2, g3, g4, g5, g6⟩ := ex_spec f hf (t + 1)
  have hv : vv f t = t := by unfold vv; omega
  have hv' : vv f (t + 1) = t + 1 := by unfold vv; omega
  rw [hv] at h1 h2
  rw [hv'] at g1 g2
  have hle : ex f t ≤ ex f (t + 1) := by
    by_contra hlt
    have := P_mono (cn f) (show ex f (t + 1) + 1 ≤ ex f t by omega)
    rw [P_succ] at this
    omega
  unfold lo hi tl
  rw [hv, hv']
  rcases Nat.eq_or_lt_of_le hle with he | hlt
  · rw [← he] at g1 g2 ⊢
    right; omega
  · have m := P_mono (cn f) (show ex f t + 1 ≤ ex f (t + 1) by omega)
    have s := P_succ (cn f) (ex f t)
    have fl := P_flat f (show ex f t + 1 ≤ ex f (t + 1) by omega) (by omega)
    omega

/-- The first visit starts at row 0. -/
theorem start (f : ℕ → ℕ) (hf : P f 16 = 49152) : tl f 0 = 0 ∧ lo f 0 = 0 := by
  obtain ⟨h0, h1, h2, h3, h4, h5, h6⟩ := ex_spec f hf 0
  have hv : vv f 0 = 0 := by unfold vv; omega
  have fl := P_flat f (show 0 ≤ ex f 0 by omega) (by rw [P_zero]; omega)
  rw [P_zero] at fl
  unfold lo tl
  omega

/-- The last visit ends at the last row. -/
theorem finish (f : ℕ → ℕ) (hf : P f 16 = 49152) (t : ℕ) (ht : tot f ≤ t + 1) : tl f t = 95 ∧ hi f t = 512 := by
  obtain ⟨h0, h1, h2, h3, h4, h5, h6⟩ := ex_spec f hf t
  have hp := tot_pos f hf
  have hv : vv f t = tot f - 1 := by unfold vv; omega
  have m := P_mono (cn f) (show ex f t + 1 ≤ 16 by omega)
  have s := P_succ (cn f) (ex f t)
  have fl := P_flat f (show ex f t + 1 ≤ 16 by omega) (by unfold tot at hv hp; omega)
  unfold hi tl
  rw [hv]
  unfold tot at hv hp ⊢
  omega

/-- Past the last visit nothing moves. -/
theorem rest (f : ℕ → ℕ) (t : ℕ) (ht : tot f ≤ t + 1) : vv f (t + 1) = vv f t := by
  unfold vv; omega

theorem rest_all (f : ℕ → ℕ) (t : ℕ) (ht : tot f ≤ t + 1) :
    ex f (t + 1) = ex f t ∧ tl f (t + 1) = tl f t ∧ lo f (t + 1) = lo f t ∧ hi f (t + 1) = hi f t := by
  have h := rest f t ht
  have he : ex f (t + 1) = ex f t := by unfold ex; rw [h]
  have ht : tl f (t + 1) = tl f t := by unfold tl; rw [he, h]
  exact ⟨he, ht, by unfold lo; rw [he, ht], by unfold hi; rw [he, ht]⟩

/-- From a grid point to the next, the tile stays or grows by one; where it grows the one before is full. -/
theorem tl_succ (f : ℕ → ℕ) (hf : P f 16 = 49152) (t : ℕ) :
    tl f (t + 1) = tl f t ∨ (tl f (t + 1) = tl f t + 1 ∧ hi f t = 512) := by
  by_cases h : t + 1 < tot f
  · rcases step f hf t h with h | h
    · exact .inl h.1
    · exact .inr ⟨h.1, h.2.2⟩
  · exact .inl (rest_all f t (by omega)).2.1

theorem tl_mono (f : ℕ → ℕ) (hf : P f 16 = 49152) {a b : ℕ} (h : a ≤ b) : tl f a ≤ tl f b := by
  induction b, h using Nat.le_induction with
  | base => exact le_refl _
  | succ n _ ih => rcases tl_succ f hf n with h | h <;> omega

/-- Every tile has a last grid point, and that grid point leaves the tile full. -/
theorem last_of_tile (f : ℕ → ℕ) (hf : P f 16 = 49152) (n : ℕ) (hn : n < 96) :
    ∃ u < 111, tl f u = n ∧ hi f u = 512 ∧ (u + 1 = 111 ∨ tl f (u + 1) ≠ n) ∧ ∀ w, u < w → w < 111 → tl f w ≠ n := by
  have hend : tl f 110 = 95 := (finish f hf 110 (by have := tot_le f hf; omega)).1
  have hhi : hi f 110 = 512 := (finish f hf 110 (by have := tot_le f hf; omega)).2
  have key : ∀ k, k ≤ 110 → n < tl f k → ∃ u < k, tl f u = n ∧ hi f u = 512 ∧ tl f (u + 1) = n + 1 := by
    intro k
    induction k with
    | zero => intro _ h; rw [(start f hf).1] at h; omega
    | succ k ih =>
      intro hk h
      by_cases hlt : n < tl f k
      · obtain ⟨u, hu, h⟩ := ih (by omega) hlt
        exact ⟨u, by omega, h⟩
      · rcases tl_succ f hf k with h1 | ⟨h1, h2⟩
        · omega
        · exact ⟨k, by omega, by omega, h2, by omega⟩
  by_cases h95 : n = 95
  · exact ⟨110, by omega, by omega, hhi, .inl rfl, fun w hw hw' => by omega⟩
  · obtain ⟨u, hu, h1, h2, h3⟩ := key 110 (le_refl _) (by omega)
    refine ⟨u, by omega, h1, h2, .inr (by omega), fun w hw _ => ?_⟩
    have := tl_mono f hf (show u + 1 ≤ w by omega)
    omega

end Cert.Sched
-- ==== Proof.Words.lean ====
/-
  THE TABLES OF THE VISITS AS WORDS.

  The host computes, from the sixteen group sizes, five integer tables for the 111 grid points: the expert, the tile, the first and one past
  the last owned row, and the number of visits. Each is written here as the composition of vector operations that computes it, and shown to
  hold, at every entry, the natural number that the schedule (Sched.lean) gives.
-/
module

public import Idealize.ShloMosaic.Lib.Routing.OpsSearch
public import proofs.«01_k».proof.Proof.Sched

@[expose] public section

noncomputable section

namespace Cert.Words

open Idealize.ShloMosaic Idealize.ShloMosaic.ValueIdx Idealize.ShloMosaic.Routing Idealize.ShloMosaic.WordCmp
open Cert.Sched (P cn tot vv ex tl lo hi)

theorem hb16 : shape0.BroadcastsInDim (shape1 16) (![] : Fin 0 → Fin (shape1 16).rank) := by decide
theorem hb111 : shape0.BroadcastsInDim (shape1 111) (![] : Fin 0 → Fin (shape1 111).rank) := by decide
theorem hb1 : shape0.BroadcastsInDim (shape1 1) (![] : Fin 0 → Fin (shape1 1).rank) := by decide
theorem hb0 : shape0.BroadcastsInDim shape0 (![] : Fin 0 → Fin shape0.rank) := by decide
theorem hcol : (shape1 111).BroadcastsInDim (shape2 111 1) (![0] : Fin 1 → Fin (shape2 111 1).rank) := by decide
theorem hrow : (shape1 16).BroadcastsInDim (shape2 1 16) (![1] : Fin 1 → Fin (shape2 1 16).rank) := by decide
theorem hcols : (shape2 111 1).BroadcastsInDim (shape2 111 16) (![0, 1] : Fin 2 → Fin (shape2 111 16).rank) := by decide
theorem hrows : (shape2 1 16).BroadcastsInDim (shape2 111 16) (![0, 1] : Fin 2 → Fin (shape2 111 16).rank) := by decide
theorem hwin : (shape1 16).ReduceWindows (![16] : Fin 1 → Nat) ![1] ![15] ![0] (shape1 16) := by decide
theorem hred : (shape1 16).ReducesTo [0] shape0 := by decide
theorem hred1 : (shape2 111 16).ReducesTo [1] (shape1 111) := by decide
theorem hu0 : 0 < shape0.numel := by decide

/-- A constant vector. -/
abbrev cst16 (k : BitVec 32) : IVec (shape1 16) 32 := broadcastInDim (shape1 16) ![] hb16 (constantI shape0 32 k)
abbrev cst111 (k : BitVec 32) : IVec (shape1 111) 32 := broadcastInDim (shape1 111) ![] hb111 (constantI shape0 32 k)

/-- The running sum. -/
abbrev cum (x : IVec (shape1 16) 32) : IVec (shape1 16) 32 :=
  Host.reduceWindow IntOp.addi ![16] ![1] ![15] ![0] x (broadcastInDim shape0 ![] hb0 (constantI shape0 32 0#32)) hwin hu0

/-- Division by 512, rounding down, as it prints. -/
abbrev fdiv (x : IVec (shape1 16) 32) : IVec (shape1 16) 32 :=
  select (andi (cmpi .ne (signi x) (broadcastInDim (shape1 16) ![] hb16 (signi (constantI shape0 32 512#32))))
      (cmpi .ne (Host.remsi x (cst16 512#32)) (cst16 0#32)))
    (subi (Host.divsi x (cst16 512#32)) (cst16 1#32)) (Host.divsi x (cst16 512#32))

/-- The number of visits of each expert, from the group sizes, the running sums, and the first tiles. -/
abbrev cnt (g e ft : IVec (shape1 16) 32) : IVec (shape1 16) 32 :=
  select (cmpi .sgt g (cst16 0#32)) (addi (subi (fdiv (subi e (cst16 1#32))) ft) (cst16 1#32)) (cst16 0#32)

/-- The number of visits. -/
abbrev total (c : IVec (shape1 16) 32) : IVec shape0 32 := Host.reduce IntOp.addi c (constantI shape0 32 0#32) hred hu0

/-- The visit of each grid point. -/
abbrev visit (T : IVec shape0 32) : IVec (shape1 111) 32 :=
  minsi (iotaInDim (shape1 111) 32 0) (broadcastInDim (shape1 111) ![] hb111 (subi T (constantI shape0 32 1#32)))

/-- The expert of each grid point: how many experts are done before it. -/
abbrev expert (T : IVec shape0 32) (b c : IVec (shape1 16) 32) : IVec (shape1 111) 32 :=
  Host.reduce IntOp.addi
    (extui 32 (cmpi .sge (broadcastInDim (shape2 111 16) ![0, 1] hcols (broadcastInDim (shape2 111 1) ![0] hcol (visit T)))
      (broadcastInDim (shape2 111 16) ![0, 1] hrows (broadcastInDim (shape2 1 16) ![1] hrow (addi b c)))) (by decide))
    (constantI shape0 32 0#32) hred1 hu0

/-- The column of positions to read a table of sixteen at, a negative position counted from the end. -/
abbrev pos (e : IVec (shape1 111) 32) : IVec (shape2 111 1) 32 :=
  broadcastInDim (shape2 111 1) ![0] hcol (select (cmpi .slt e (cst111 0#32)) (addi e (cst111 16#32)) e)

section Tables
variable (d : GatherDims (shape1 16) (shape2 111 1) (shape1 111))

abbrev tile (ft b : IVec (shape1 16) 32) (v e : IVec (shape1 111) 32) : IVec (shape1 111) 32 :=
  subi (addi (Host.gather d ft (pos e)) v) (Host.gather d b (pos e))

abbrev first (s : IVec (shape1 16) 32) (t e : IVec (shape1 111) 32) : IVec (shape1 111) 32 :=
  maxsi (subi (Host.gather d s (pos e)) (muli t (cst111 512#32))) (cst111 0#32)

abbrev last (en : IVec (shape1 16) 32) (t e : IVec (shape1 111) 32) : IVec (shape1 111) 32 :=
  minsi (subi (Host.gather d en (pos e)) (muli t (cst111 512#32))) (cst111 512#32)

end Tables

/-! ## The values -/

theorem iota_ap (p : Fin 111) : iotaInDim (shape1 111) 32 0 (ix1 p) = BitVec.ofNat 32 p.val := rfl

theorem cum_ap (x : IVec (shape1 16) 32) (f : ℕ → ℕ) (hx : ∀ i : Fin 16, x (ix1 i) = BitVec.ofNat 32 (f i.val)) (j : Fin 16) :
    cum x (ix1 j) = BitVec.ofNat 32 (P f (j.val + 1)) :=
  cumsum1 (by norm_num) x f hx _ rfl hwin hu0 j

theorem fdiv_ap (x : IVec (shape1 16) 32) (j : Fin 16) {a : ℕ} (hx : x (ix1 j) = BitVec.ofNat 32 a) (ha : a < 2 ^ 31) :
    fdiv x (ix1 j) = BitVec.ofNat 32 (a / 512) := by
  have hs : fdiv x (ix1 j) = pyDiv0 (fun _ => x (ix1 j)) (constantI shape0 32 512#32) ix0 := by
    unfold pyDiv0
    rfl
  rw [hs]
  exact pyDiv0_ap _ _ hx rfl ha (by norm_num) (by norm_num)

theorem sub_word {a b : ℕ} (h : b ≤ a) : IntOp.subi (BitVec.ofNat 32 a) (BitVec.ofNat 32 b) = BitVec.ofNat 32 (a - b) := ofNat32_sub h

theorem add_word (a b : ℕ) : IntOp.addi (BitVec.ofNat 32 a) (BitVec.ofNat 32 b) = BitVec.ofNat 32 (a + b) :=
  (BitVec.ofNat_add a b).symm

theorem mul_word (a b : ℕ) : IntOp.muli (BitVec.ofNat 32 a) (BitVec.ofNat 32 b) = BitVec.ofNat 32 (a * b) :=
  (BitVec.ofNat_mul a b).symm

theorem bit_of_iff {b : BitVec 1} {p : Prop} [Decidable p] (h : b = 1#1 ↔ p) : b = if p then 1#1 else 0#1 := by
  by_cases hp : p
  · rw [if_pos hp]; exact h.2 hp
  · rw [if_neg hp]
    rcases BitVec.eq_zero_or_eq_one b with hb | hb
    · exact hb
    · exact absurd (h.1 hb) hp

theorem toNat_small {a : ℕ} (ha : a < 2 ^ 31) : (BitVec.ofNat 32 a).toNat = a := by
  rw [BitVec.toNat_ofNat]; omega

theorem sgt_word {a b : ℕ} (ha : a < 2 ^ 31) (hb : b < 2 ^ 31) : IntOp.cmpi .sgt (BitVec.ofNat 32 a) (BitVec.ofNat 32 b) = 1#1 ↔ b < a := by
  rw [StableHlo.Predicate.sgt_iff_toNat (by rw [toNat_small ha]; exact ha) (by rw [toNat_small hb]; exact hb), toNat_small ha, toNat_small hb]

theorem sge_word {a b : ℕ} (ha : a < 2 ^ 31) (hb : b < 2 ^ 31) : IntOp.cmpi .sge (BitVec.ofNat 32 a) (BitVec.ofNat 32 b) = 1#1 ↔ b ≤ a := by
  rw [StableHlo.Predicate.sge_iff_toNat (by rw [toNat_small ha]; exact ha) (by rw [toNat_small hb]; exact hb), toNat_small ha, toNat_small hb]

theorem slt_word {a b : ℕ} (ha : a < 2 ^ 31) (hb : b < 2 ^ 31) : IntOp.cmpi .slt (BitVec.ofNat 32 a) (BitVec.ofNat 32 b) = 1#1 ↔ a < b := by
  rw [StableHlo.Predicate.slt_iff_toNat (by rw [toNat_small ha]; exact ha) (by rw [toNat_small hb]; exact hb), toNat_small ha, toNat_small hb]

theorem min_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left h.le]
  · rw [if_neg (by simpa using h), Nat.min_eq_right (by omega)]

/-- The larger of a difference and zero. -/
theorem max_sub_word {a b : ℕ} (ha : a < 2 ^ 30) (hb : b < 2 ^ 30) :
    IntOp.maxsi (IntOp.subi (BitVec.ofNat 32 a) (BitVec.ofNat 32 b)) 0#32 = BitVec.ofNat 32 (a - b) := by
  by_cases h : b ≤ a
  · rw [sub_word h]
    have := slt_ofNat32 (a := 0) (b := a - b) (by norm_num) (by omega)
    unfold IntOp.maxsi
    by_cases h0 : 0 < a - b
    · rw [if_pos (by rw [show (0#32 : BitVec 32) = BitVec.ofNat 32 0 from rfl, this]; exact decide_eq_true h0)]
    · rw [if_neg (by rw [show (0#32 : BitVec 32) = BitVec.ofNat 32 0 from rfl, this]; simpa using h0), show a - b = 0 by omega]
  · have hn : (IntOp.subi (BitVec.ofNat 32 a) (BitVec.ofNat 32 b)) = -(BitVec.ofNat 32 (b - a)) := by
      rw [← sub_word (show a ≤ b by omega)]
      show _ - _ = -(_ - _)
      rw [BitVec.neg_sub, BitVec.add_comm, BitVec.sub_eq_add_neg]
    have hlt : ¬ BitVec.slt 0#32 (IntOp.subi (BitVec.ofNat 32 a) (BitVec.ofNat 32 b)) = true := by
      rw [BitVec.slt, decide_eq_true_eq, hn, BitVec.toInt_eq_msb_cond, BitVec.toInt_eq_msb_cond]
      have hm : (-(BitVec.ofNat 32 (b - a))).msb = true := by
        rw [BitVec.msb_eq_true_iff_two_mul_ge, BitVec.toNat_neg, BitVec.toNat_ofNat]
        omega
      rw [hm]
      have := (-(BitVec.ofNat 32 (b - a))).isLt
      simp only [if_true]
      have h0 : (0#32 : BitVec 32).msb = false := by decide
      rw [h0]
      simp only [Bool.false_eq_true, if_false]
      have : (0#32 : BitVec 32).toNat = 0 := rfl
      omega
    unfold IntOp.maxsi
    rw [if_neg hlt, show a - b = 0 by omega]

variable {f : ℕ → ℕ} (hf : P f 16 = 49152) (g : IVec (shape1 16) 32) (hg : ∀ i : Fin 16, g (ix1 i) = BitVec.ofNat 32 (f i.val))
include hf hg

theorem P_le (n : ℕ) (hn : n ≤ 16) : P f n ≤ 49152 := by rw [← hf]; exact Sched.P_mono f hn

theorem f_le (i : Fin 16) : f i.val ≤ 49152 := by
  have h1 := P_le hf g hg (i.val + 1) (by omega)
  rw [Sched.P_succ] at h1
  omega

theorem ends_ap (j : Fin 16) : cum g (ix1 j) = BitVec.ofNat 32 (P f (j.val + 1)) := cum_ap g f hg j

theorem starts_ap (j : Fin 16) : subi (cum g) g (ix1 j) = BitVec.ofNat 32 (P f j.val) := by
  show IntOp.subi _ _ = _
  rw [ends_ap hf g hg, hg, sub_word (by rw [Sched.P_succ]; omega), Sched.P_succ]
  congr 1; omega

theorem ft_ap (j : Fin 16) : fdiv (subi (cum g) g) (ix1 j) = BitVec.ofNat 32 (P f j.val / 512) := by
  have := P_le hf g hg j.val (by omega)
  exact fdiv_ap _ _ (starts_ap hf g hg j) (by omega)

theorem cnt_ap (j : Fin 16) : cnt g (cum g) (fdiv (subi (cum g) g)) (ix1 j) = BitVec.ofNat 32 (cn f j.val) := by
  have h1 := P_le hf g hg (j.val + 1) (by omega)
  have h2 := f_le hf g hg j
  have hs := Sched.P_succ f j.val
  show Scalar.select (IntOp.cmpi .sgt (g (ix1 j)) (BitVec.ofNat 32 0))
    (IntOp.addi (IntOp.subi (fdiv (subi (cum g) (cst16 1#32)) (ix1 j)) (fdiv (subi (cum g) g) (ix1 j))) (BitVec.ofNat 32 1)) (BitVec.ofNat 32 0) = _
  have hb : IntOp.cmpi .sgt (g (ix1 j)) (BitVec.ofNat 32 0) = 1#1 ↔ 0 < f j.val := by
    rw [hg]; exact sgt_word (by omega) (by norm_num)
  rw [bit_of_iff hb, ft_ap hf g hg]
  unfold cn
  by_cases h : 0 < f j.val
  · have hd : subi (cum g) (cst16 1#32) (ix1 j) = BitVec.ofNat 32 (P f (j.val + 1) - 1) := by
      show IntOp.subi _ (BitVec.ofNat 32 1) = _
      rw [ends_ap hf g hg, sub_word (by omega)]
    rw [if_pos h, if_pos h, fdiv_ap _ _ hd (by omega), sub_word (by omega), add_word]
    rfl
  · rw [if_neg h, if_neg h]
    rfl

theorem cnt_le (n : ℕ) (hn : n ≤ 16) : P (cn f) n ≤ 111 := (Sched.P_mono _ hn).trans (Sched.tot_le f hf)

section Counted
variable (c : IVec (shape1 16) 32) (hc : ∀ i : Fin 16, c (ix1 i) = BitVec.ofNat 32 (cn f i.val))
include hc

theorem total_ap (j : shape0.Idx) : total c j = BitVec.ofNat 32 (tot f) := by
  rw [eq_ix0 j]
  exact reduce_sum c (cn f) hc hred hu0

theorem before_ap (j : Fin 16) : subi (cum c) c (ix1 j) = BitVec.ofNat 32 (P (cn f) j.val) := by
  show IntOp.subi _ _ = _
  rw [cum_ap c (cn f) hc, hc, sub_word (by rw [Sched.P_succ]; omega), Sched.P_succ]
  congr 1; omega

theorem visit_ap (p : Fin 111) : visit (total c) (ix1 p) = BitVec.ofNat 32 (vv f p.val) := by
  have h1 := Sched.tot_le f hf
  have h2 := Sched.tot_pos f hf
  show IntOp.minsi (iotaInDim (shape1 111) 32 0 (ix1 p)) (broadcastInDim (shape1 111) ![] hb111 (subi (total c) (constantI shape0 32 1#32)) (ix1 p)) = _
  rw [bc0, iota_ap]
  show IntOp.minsi _ (IntOp.subi (total c ix0) (BitVec.ofNat 32 1)) = _
  rw [total_ap hf g hg c hc, sub_word (by omega), min_word (by omega) (by omega)]
  rfl

theorem expert_ap (p : Fin 111) : expert (total c) (subi (cum c) c) c (ix1 p) = BitVec.ofNat 32 (ex f p.val) := by
  refine reduce_count (by norm_num) _ _ hred1 hu0 p (fun q => P (cn f) (q + 1) ≤ vv f p.val) fun q => ?_
  show IntOp.cmpi .sge (broadcastInDim (shape2 111 16) ![0, 1] hcols (broadcastInDim (shape2 111 1) ![0] hcol (visit (total c))) (ix2 p q))
    (broadcastInDim (shape2 111 16) ![0, 1] hrows (broadcastInDim (shape2 1 16) ![1] hrow (addi (subi (cum c) c) c)) (ix2 p q)) = 1#1 ↔ _
  rw [bcRows, bcCols, visit_ap hf g hg c hc]
  show IntOp.cmpi .sge _ (IntOp.addi (subi (cum c) c (ix1 q)) (c (ix1 q))) = 1#1 ↔ _
  have h1 := Sched.vv_lt f hf p.val
  have h2 := Sched.tot_le f hf
  have h3 := cnt_le hf g hg (q.val + 1) (by omega)
  rw [before_ap hf g hg c hc, hc, add_word, ← Sched.P_succ]
  exact sge_word (by omega) (by omega)

theorem pos_ap (e : IVec (shape1 111) 32) (p : Fin 111) (k : ℕ) (hk : k < 16) (he : e (ix1 p) = BitVec.ofNat 32 k) :
    pos e (ix2 p (0 : Fin 1)) = BitVec.ofNat 32 k := by
  unfold pos
  rw [bcCol]
  show Scalar.select (IntOp.cmpi .slt (e (ix1 p)) (BitVec.ofNat 32 0)) _ (e (ix1 p)) = _
  have hb : IntOp.cmpi .slt (e (ix1 p)) (BitVec.ofNat 32 0) = 1#1 ↔ k < 0 := by
    rw [he]; exact slt_word (by omega) (by norm_num)
  rw [bit_of_iff hb, if_neg (by omega), he]
  rfl

section Tables
variable (d : GatherDims (shape1 16) (shape2 111 1) (shape1 111)) (hcoll : d.collapsedSliceDims = [0]) (hob : d.operandBatchingDims = [])
  (hsim : d.startIndexMap = [0]) (hivd : d.indexVectorDim = 1)
include hcoll hob hsim hivd

theorem take (x : IVec (shape1 16) 32) (p : Fin 111) :
    Host.gather d x (pos (expert (total c) (subi (cum c) c) c)) (ix1 p) = x (ix1 ⟨ex f p.val, Sched.ex_lt f hf p.val⟩) :=
  take_ap d hcoll hob hsim hivd x _ p (Sched.ex_lt f hf p.val) (by have := Sched.ex_lt f hf p.val; omega)
    (pos_ap hf g hg c hc _ p _ (Sched.ex_lt f hf p.val) (expert_ap hf g hg c hc p))

theorem tile_ap (p : Fin 111) :
    tile d (fdiv (subi (cum g) g)) (subi (cum c) c) (visit (total c)) (expert (total c) (subi (cum c) c) c) (ix1 p) = BitVec.ofNat 32 (tl f p.val) := by
  show IntOp.subi (IntOp.addi (Host.gather d _ _ (ix1 p)) (visit (total c) (ix1 p))) (Host.gather d _ _ (ix1 p)) = _
  rw [take hf g hg c hc d hcoll hob hsim hivd, take hf g hg c hc d hcoll hob hsim hivd, ft_ap hf g hg, before_ap hf g hg c hc,
    visit_ap hf g hg c hc, add_word, sub_word (by have := Sched.ex_spec f hf p.val; show P (cn f) (ex f p.val) ≤ P f (ex f p.val) / 512 + _; omega)]
  rfl

theorem first_ap (t : IVec (shape1 111) 32) (p : Fin 111) (ht : t (ix1 p) = BitVec.ofNat 32 (tl f p.val)) :
    first d (subi (cum g) g) t (expert (total c) (subi (cum c) c) c) (ix1 p) = BitVec.ofNat 32 (lo f p.val) := by
  have h1 := P_le hf g hg (ex f p.val) (Sched.ex_lt f hf p.val).le
  have h2 := Sched.tl_lt f hf p.val
  show IntOp.maxsi (IntOp.subi (Host.gather d _ _ (ix1 p)) (IntOp.muli (t (ix1 p)) (BitVec.ofNat 32 512))) 0#32 = _
  rw [take hf g hg c hc d hcoll hob hsim hivd, starts_ap hf g hg, ht, mul_word, max_sub_word (show P f (ex f p.val) < 2 ^ 30 by omega) (by omega)]
  rfl

theorem last_ap (t : IVec (shape1 111) 32) (p : Fin 111) (ht : t (ix1 p) = BitVec.ofNat 32 (tl f p.val)) :
    last d (cum g) t (expert (total c) (subi (cum c) c) c) (ix1 p) = BitVec.ofNat 32 (hi f p.val) := by
  have h0 := Sched.ex_lt f hf p.val
  have h1 := P_le hf g hg (ex f p.val + 1) h0
  have h2 := Sched.tl_lt f hf p.val
  have h3 := Sched.lo_lt_hi f hf p.val
  show IntOp.minsi (IntOp.subi (Host.gather d _ _ (ix1 p)) (IntOp.muli (t (ix1 p)) (BitVec.ofNat 32 512))) (BitVec.ofNat 32 512) = _
  rw [take hf g hg c hc d hcoll hob hsim hivd, ends_ap hf g hg, ht, mul_word,
    sub_word (show tl f p.val * 512 ≤ P f (ex f p.val + 1) by unfold hi at h3; omega),
    min_word (show P f (ex f p.val + 1) - tl f p.val * 512 < 2 ^ 31 by omega) (by norm_num)]
  rfl

end Tables
end Counted

end Cert.Words
-- ==== Proof.KernelRegion.lean ====
/-
  THE PROGRAM UP TO ITS KERNEL: the host operations that compute the tables of the visits, the contents of the buffers when the kernel is
  entered, and the tables' values.
-/
module

public import proofs.«01_k».proof.Proof.Gen.Kernel.Launch
public import proofs.«01_k».proof.Proof.Words
public import Idealize.ShloMosaic.Lib.Pipeline.FrameBody
public import Idealize.ShloMosaic.Lib.Claim
public import Idealize.ShloMosaic.Lib.StableHlo.Run

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Routing

variable {F : FTy → Type} [FloatOps F]

local notation "𝕄" => MT nD τ sig Unit (Elt F) ℕ (UR sig nD τ) ℕ

variable (m : (ℓ : Loc nD τ sig) → Buf (Elt F) ℓ)

/-- The buffers of a core when the kernel is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 1600000 in
/-- The program is its host operations, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The buffers after the counting of the visits, before the tables. -/
abbrev V₁ (c : Dev nD) : Valuation τ sig (Elt F) := StableHlo.after (List.flatten [hostOps0, hostOps0_1, hostOps0_2, hostOps0_3, hostOps0_4, hostOps0_5, hostOps0_6, hostOps0_7, hostOps0_8]) (fun b => m (c, b))

theorem V_eq (c : Dev nD) (b : Ref sig .tc) : V m c b = StableHlo.after hostOps0_9 (V₁ m c) b := by
  unfold V V₁
  rw [← StableHlo.after_append]
  simp only [List.flatten_cons, List.flatten_nil, List.append_nil, List.append_assoc]

theorem hostOps0_plain : (hostOps0 : List (HloOp τ sig (Elt F))) =
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_arg1 main_call0_call0_v0 main_v0 ((fun x v => Host.reduceWindow IntOp.addi ![16] ![1] ![15] ![0] x v reduceWindows_S16_S16_w16s1p15_0 h_S_) : (⟨S16, .i32⟩ : BufTy).Contents (Elt F) → (⟨S_, .i32⟩ : BufTy).Contents (Elt F) → (⟨S16, .i32⟩ : BufTy).Contents (Elt F)) ] := by
  have h : ∀ f : (⟨S16, .i32⟩ : BufTy).Contents (Elt F) → (⟨S_, .i32⟩ : BufTy).Contents (Elt F) → (⟨S16, .i32⟩ : BufTy).Contents (Elt F),
(  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_arg1 : StableHlo.TRef sig ⟨S16, .i32⟩) (.of main_call0_call0_v0 : StableHlo.TRef sig ⟨S_, .i32⟩) (.of main_v0 : StableHlo.TRef sig ⟨S16, .i32⟩) f ] : List (HloOp τ sig (Elt F))) =
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_arg1 main_call0_call0_v0 main_v0 f ] := fun _ => rfl
  exact h _

theorem hostOps0_2_plain : (hostOps0_2 : List (HloOp τ sig (Elt F))) =
  [ StableHlo.unary main_c main_call1_v0 (id : (⟨S_, .i32⟩ : BufTy).Contents (Elt F) → (⟨S_, .i32⟩ : BufTy).Contents (Elt F)),
    StableHlo.unary main_call1_v0 main_call1_v1 ((broadcastInDim S16 ![] bcast_S_S16) : (⟨S_, .i32⟩ : BufTy).Contents (Elt F) → (⟨S16, .i32⟩ : BufTy).Contents (Elt F)),
    StableHlo.binary main_v1 main_call1_v1 main_call1_v2 (Host.divsi : (⟨S16, .i32⟩ : BufTy).Contents (Elt F) → (⟨S16, .i32⟩ : BufTy).Contents (Elt F) → (⟨S16, .i32⟩ : BufTy).Contents (Elt F)),
    StableHlo.unary main_v1 main_call1_v3 (signi : (⟨S16, .i32⟩ : BufTy).Contents (Elt F) → (⟨S16, .i32⟩ : BufTy).Contents (Elt F)),
    StableHlo.unary main_call1_v0 main_call1_v4 (signi : (⟨S_, .i32⟩ : BufTy).Contents (Elt F) → (⟨S_, .i32⟩ : BufTy).Contents (Elt F)),
    StableHlo.unary main_call1_v4 main_call1_v5 ((broadcastInDim S16 ![] bcast_S_S16) : (⟨S_, .i32⟩ : BufTy).Contents (Elt F) → (⟨S16, .i32⟩ : BufTy).Contents (Elt F)),
    StableHlo.binary main_call1_v3 main_call1_v5 main_call1_v6 ((cmpi .ne) : (⟨S16, .i32⟩ : BufTy).Contents (Elt F) → (⟨S16, .i32⟩ : BufTy).Contents (Elt F) → (⟨S16, .i1⟩ : BufTy).Contents (Elt F)),
    StableHlo.unary main_call1_v0 main_call1_v7 ((broadcastInDim S16 ![] bcast_S_S16) : (⟨S_, .i32⟩ : BufTy).Contents (Elt F) → (⟨S16, .i32⟩ : BufTy).Contents (Elt F)),
    StableHlo.binary main_v1 main_call1_v7 main_call1_v8 (Host.remsi : (⟨S16, .i32⟩ : BufTy).Contents (Elt F) → (⟨S16, .i32⟩ : BufTy).Contents (Elt F) → (⟨S16, .i32⟩ : BufTy).Contents (Elt F)),
    StableHlo.nullary main_call1_c ((constantI S_ 32 0#32) : (⟨S_, .i32⟩ : BufTy).Contents (Elt F)),
    StableHlo.unary main_call1_c main_call1_v9 ((broadcastInDim S16 ![] bcast_S_S16) : (⟨S_, .i32⟩ : BufTy).Contents (Elt F) → (⟨S16, .i32⟩ : BufTy).Contents (Elt F)),
    StableHlo.binary main_call1_v8 main_call1_v9 main_call1_v10 ((cmpi .ne) : (⟨S16, .i32⟩ : BufTy).Contents (Elt F) → (⟨S16, .i32⟩ : BufTy).Contents (Elt F) → (⟨S16, .i1⟩ : BufTy).Contents (Elt F)),
    StableHlo.binary main_call1_v6 main_call1_v10 main_call1_v11 (andi : (⟨S16, .i1⟩ : BufTy).Contents (Elt F) → (⟨S16, .i1⟩ : BufTy).Contents (Elt F) → (⟨S16, .i1⟩ : BufTy).Contents (Elt F)),
    StableHlo.nullary main_call1_c_0 ((constantI S_ 32 1#32) : (⟨S_, .i32⟩ : BufTy).Contents (Elt F)),
    StableHlo.unary main_call1_c_0 main_call1_v12 ((broadcastInDim S16 ![] bcast_S_S16) : (⟨S_, .i32⟩ : BufTy).Contents (Elt F) → (⟨S16, .i32⟩ : BufTy).Contents (Elt F)),
    StableHlo.binary main_call1_v2 main_call1_v12 main_call1_v13 (subi : (⟨S16, .i32⟩ : BufTy).Contents (Elt F) → (⟨S16, .i32⟩ : BufTy).Contents (Elt F) → (⟨S16, .i32⟩ : BufTy).Contents (Elt F)),
    StableHlo.ternary main_call1_v11 main_call1_v13 main_call1_v2 main_v2 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ] := rfl

theorem hostOps0_4_plain : (hostOps0_4 : List (HloOp τ sig (Elt F))) =
  [ StableHlo.unary main_c_2 main_call2_v0 (id : (⟨S_, .i32⟩ : BufTy).Contents (Elt F) → (⟨S_, .i32⟩ : BufTy).Contents (Elt F)),
    StableHlo.unary main_call2_v0 main_call2_v1 ((broadcastInDim S16 ![] bcast_S_S16) : (⟨S_, .i32⟩ : BufTy).Contents (Elt F) → (⟨S16, .i32⟩ : BufTy).Contents (Elt F)),
    StableHlo.binary main_v6 main_call2_v1 main_call2_v2 (Host.divsi : (⟨S16, .i32⟩ : BufTy).Contents (Elt F) → (⟨S16, .i32⟩ : BufTy).Contents (Elt F) → (⟨S16, .i32⟩ : BufTy).Contents (Elt F)),
    StableHlo.unary main_v6 main_call2_v3 (signi : (⟨S16, .i32⟩ : BufTy).Contents (Elt F) → (⟨S16, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 ((broadcastInDim S16 ![] bcast_S_S16) : (⟨S_, .i32⟩ : BufTy).Contents (Elt F) → (⟨S16, .i32⟩ : BufTy).Contents (Elt F)),
    StableHlo.binary main_call2_v3 main_call2_v5 main_call2_v6 ((cmpi .ne) : (⟨S16, .i32⟩ : BufTy).Contents (Elt F) → (⟨S16, .i32⟩ : BufTy).Contents (Elt F) → (⟨S16, .i1⟩ : BufTy).Contents (Elt F)),
    StableHlo.unary main_call2_v0 main_call2_v7 ((broadcastInDim S16 ![] bcast_S_S16) : (⟨S_, .i32⟩ : BufTy).Contents (Elt F) → (⟨S16, .i32⟩ : BufTy).Contents (Elt F)),
    StableHlo.binary main_v6 main_call2_v7 main_call2_v8 (Host.remsi : (⟨S16, .i32⟩ : BufTy).Contents (Elt F) → (⟨S16, .i32⟩ : BufTy).Contents (Elt F) → (⟨S16, .i32⟩ : BufTy).Contents (Elt F)),
    StableHlo.nullary main_call2_c ((constantI S_ 32 0#32) : (⟨S_, .i32⟩ : BufTy).Contents (Elt F)),
    StableHlo.unary main_call2_c main_call2_v9 ((broadcastInDim S16 ![] bcast_S_S16) : (⟨S_, .i32⟩ : BufTy).Contents (Elt F) → (⟨S16, .i32⟩ : BufTy).Contents (Elt F)),
    StableHlo.binary main_call2_v8 main_call2_v9 main_call2_v10 ((cmpi .ne) : (⟨S16, .i32⟩ : BufTy).Contents (Elt F) → (⟨S16, .i32⟩ : BufTy).Contents (Elt F) → (⟨S16, .i1⟩ : BufTy).Contents (Elt F)),
    StableHlo.binary main_call2_v6 main_call2_v10 main_call2_v11 (andi : (⟨S16, .i1⟩ : BufTy).Contents (Elt F) → (⟨S16, .i1⟩ : BufTy).Contents (Elt F) → (⟨S16, .i1⟩ : BufTy).Contents (Elt F)),
    StableHlo.nullary main_call2_c_0 ((constantI S_ 32 1#32) : (⟨S_, .i32⟩ : BufTy).Contents (Elt F)),
    StableHlo.unary main_call2_c_0 main_call2_v12 ((broadcastInDim S16 ![] bcast_S_S16) : (⟨S_, .i32⟩ : BufTy).Contents (Elt F) → (⟨S16, .i32⟩ : BufTy).Contents (Elt F)),
    StableHlo.binary main_call2_v2 main_call2_v12 main_call2_v13 (subi : (⟨S16, .i32⟩ : BufTy).Contents (Elt F) → (⟨S16, .i32⟩ : BufTy).Contents (Elt F) → (⟨S16, .i32⟩ : BufTy).Contents (Elt F)),
    StableHlo.ternary main_call2_v11 main_call2_v13 main_call2_v2 main_v7 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ] := rfl

theorem hostOps0_6_plain : (hostOps0_6 : List (HloOp τ sig (Elt F))) =
  [ StableHlo.unary main_c_4 main_call3_v0 (id : (⟨S_, .i32⟩ : BufTy).Contents (Elt F) → (⟨S_, .i32⟩ : BufTy).Contents (Elt F)),
    StableHlo.unary main_call3_v0 main_call3_v1 ((broadcastInDim S16 ![] bcast_S_S16) : (⟨S_, .i32⟩ : BufTy).Contents (Elt F) → (⟨S16, .i32⟩ : BufTy).Contents (Elt F)),
    StableHlo.ternary main_v4 main_v10 main_call3_v1 main_v11 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ] := rfl

theorem hostOps0_8_plain : (hostOps0_8 : List (HloOp τ sig (Elt F))) =
  [ StableHlo.nullary main_call4_call0_c ((constantI S_ 32 0#32) : (⟨S_, .i32⟩ : BufTy).Contents (Elt F)),
    StableHlo.unary main_call4_call0_c main_call4_call0_v0 ((broadcastInDim S_ ![] bcast_S_S_) : (⟨S_, .i32⟩ : BufTy).Contents (Elt F) → (⟨S_, .i32⟩ : BufTy).Contents (Elt F)),
    StableHlo.binary main_v11 main_call4_call0_v0 main_v13 ((fun x v => Host.reduceWindow IntOp.addi ![16] ![1] ![15] ![0] x v reduceWindows_S16_S16_w16s1p15_0 h_S_) : (⟨S16, .i32⟩ : BufTy).Contents (Elt F) → (⟨S_, .i32⟩ : BufTy).Contents (Elt F) → (⟨S16, .i32⟩ : BufTy).Contents (Elt F)) ] := by
  have h : ∀ f : (⟨S16, .i32⟩ : BufTy).Contents (Elt F) → (⟨S_, .i32⟩ : BufTy).Contents (Elt F) → (⟨S16, .i32⟩ : BufTy).Contents (Elt F),
(  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v11 : StableHlo.TRef sig ⟨S16, .i32⟩) (.of main_call4_call0_v0 : StableHlo.TRef sig ⟨S_, .i32⟩) (.of main_v13 : StableHlo.TRef sig ⟨S16, .i32⟩) f ] : List (HloOp τ sig (Elt F))) =
  [ StableHlo.nullary main_call4_call0_c ((constantI S_ 32 0#32) : (⟨S_, .i32⟩ : BufTy).Contents (Elt F)),
    StableHlo.unary main_call4_call0_c main_call4_call0_v0 ((broadcastInDim S_ ![] bcast_S_S_) : (⟨S_, .i32⟩ : BufTy).Contents (Elt F) → (⟨S_, .i32⟩ : BufTy).Contents (Elt F)),
    StableHlo.binary main_v11 main_call4_call0_v0 main_v13 f ] := fun _ => rfl
  exact h _

set_option maxHeartbeats 1600000 in
theorem V₁_main_v0 (c : Dev nD) : V₁ m c (Proc.devRef .tc main_v0) = Words.cum (m (c, Proc.devRef .tc main_arg1) : IVec (shape1 16) 32) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v1 (c : Dev nD) : V₁ m c (Proc.devRef .tc main_v1) = subi (Words.cum (m (c, Proc.devRef .tc main_arg1) : IVec (shape1 16) 32)) (m (c, Proc.devRef .tc main_arg1) : IVec (shape1 16) 32) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v2 (c : Dev nD) : V₁ m c (Proc.devRef .tc main_v2) = Words.fdiv (subi (Words.cum (m (c, Proc.devRef .tc main_arg1) : IVec (shape1 16) 32)) (m (c, Proc.devRef .tc main_arg1) : IVec (shape1 16) 32)) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v11 (c : Dev nD) : V₁ m c (Proc.devRef .tc main_v11) = Words.cnt (m (c, Proc.devRef .tc main_arg1) : IVec (shape1 16) 32) (Words.cum (m (c, Proc.devRef .tc main_arg1) : IVec (shape1 16) 32)) (Words.fdiv (subi (Words.cum (m (c, Proc.devRef .tc main_arg1) : IVec (shape1 16) 32)) (m (c, Proc.devRef .tc main_arg1) : IVec (shape1 16) 32))) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v12 (c : Dev nD) : V₁ m c (Proc.devRef .tc main_v12) = Words.total (Words.cnt (m (c, Proc.devRef .tc main_arg1) : IVec (shape1 16) 32) (Words.cum (m (c, Proc.devRef .tc main_arg1) : IVec (shape1 16) 32)) (Words.fdiv (subi (Words.cum (m (c, Proc.devRef .tc main_arg1) : IVec (shape1 16) 32)) (m (c, Proc.devRef .tc main_arg1) : IVec (shape1 16) 32)))) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v13 (c : Dev nD) : V₁ m c (Proc.devRef .tc main_v13) = Words.cum (Words.cnt (m (c, Proc.devRef .tc main_arg1) : IVec (shape1 16) 32) (Words.cum (m (c, Proc.devRef .tc main_arg1) : IVec (shape1 16) 32)) (Words.fdiv (subi (Words.cum (m (c, Proc.devRef .tc main_arg1) : IVec (shape1 16) 32)) (m (c, Proc.devRef .tc main_arg1) : IVec (shape1 16) 32)))) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem after_main_v26 (X : Valuation τ sig (Elt F)) : StableHlo.after hostOps0_9 X (Proc.devRef .tc main_v26) = (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32)) := by
  simp only [hostOps0_9]
  after_results_simp

set_option maxHeartbeats 1600000 in
theorem after_main_v42 (X : Valuation τ sig (Elt F)) : StableHlo.after hostOps0_9 X (Proc.devRef .tc main_v42) = (Words.tile gather_S16_S111x1_S111_n_0_n_n_0_1_1 (X (Proc.devRef .tc main_v2) : IVec (shape1 16) 32) (subi (X (Proc.devRef .tc main_v13) : IVec (shape1 16) 32) (X (Proc.devRef .tc main_v11) : IVec (shape1 16) 32)) (Words.visit (X (Proc.devRef .tc main_v12) : IVec (shape0) 32)) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32))) := by
  simp only [hostOps0_9]
  after_results_simp

set_option maxHeartbeats 1600000 in
theorem after_main_v54 (X : Valuation τ sig (Elt F)) : StableHlo.after hostOps0_9 X (Proc.devRef .tc main_v54) = Words.first gather_S16_S111x1_S111_n_0_n_n_0_1_1 (X (Proc.devRef .tc main_v1) : IVec (shape1 16) 32) (Words.tile gather_S16_S111x1_S111_n_0_n_n_0_1_1 (X (Proc.devRef .tc main_v2) : IVec (shape1 16) 32) (subi (X (Proc.devRef .tc main_v13) : IVec (shape1 16) 32) (X (Proc.devRef .tc main_v11) : IVec (shape1 16) 32)) (Words.visit (X (Proc.devRef .tc main_v12) : IVec (shape0) 32)) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32))) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32)) := by
  simp only [hostOps0_9]
  after_results_simp

set_option maxHeartbeats 1600000 in
theorem after_main_v66 (X : Valuation τ sig (Elt F)) : StableHlo.after hostOps0_9 X (Proc.devRef .tc main_v66) = Words.last gather_S16_S111x1_S111_n_0_n_n_0_1_1 (X (Proc.devRef .tc main_v0) : IVec (shape1 16) 32) (Words.tile gather_S16_S111x1_S111_n_0_n_n_0_1_1 (X (Proc.devRef .tc main_v2) : IVec (shape1 16) 32) (subi (X (Proc.devRef .tc main_v13) : IVec (shape1 16) 32) (X (Proc.devRef .tc main_v11) : IVec (shape1 16) 32)) (Words.visit (X (Proc.devRef .tc main_v12) : IVec (shape0) 32)) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32))) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32)) := by
  simp only [hostOps0_9]
  after_results_simp

set_option maxHeartbeats 1600000 in
theorem after_main_v67 (X : Valuation τ sig (Elt F)) : StableHlo.after hostOps0_9 X (Proc.devRef .tc main_v67) = broadcastInDim (shape1 1) ![] Words.hb1 (X (Proc.devRef .tc main_v12) : IVec (shape0) 32) := by
  simp only [hostOps0_9]
  after_results_simp

section Values
variable (c : Dev nD) {f : ℕ → ℕ} (hf : Sched.P f 16 = 49152)
  (hg : ∀ i : Fin 16, (m (c, Proc.devRef .tc main_arg1) : IVec (shape1 16) 32) (ix1 i) = BitVec.ofNat 32 (f i.val))
include hf hg

/-- The table of experts. -/
theorem V_expert (p : Fin 111) : (V m c main_v26 : IVec (shape1 111) 32) (ix1 p) = BitVec.ofNat 32 (Sched.ex f p.val) := by
  rw [V_eq, after_main_v26, V₁_main_v12, V₁_main_v13, V₁_main_v11]
  exact Words.expert_ap hf _ hg _ (Words.cnt_ap hf _ hg) p

/-- The table of tiles. -/
theorem V_tile (p : Fin 111) : (V m c main_v42 : IVec (shape1 111) 32) (ix1 p) = BitVec.ofNat 32 (Sched.tl f p.val) := by
  rw [V_eq, after_main_v42, V₁_main_v12, V₁_main_v13, V₁_main_v11, V₁_main_v2]
  exact Words.tile_ap hf _ hg _ (Words.cnt_ap hf _ hg) gather_S16_S111x1_S111_n_0_n_n_0_1_1 rfl rfl rfl rfl p

/-- The table of first rows. -/
theorem V_first (p : Fin 111) : (V m c main_v54 : IVec (shape1 111) 32) (ix1 p) = BitVec.ofNat 32 (Sched.lo f p.val) := by
  rw [V_eq, after_main_v54, V₁_main_v12, V₁_main_v13, V₁_main_v11, V₁_main_v2, V₁_main_v1]
  exact Words.first_ap hf _ hg _ (Words.cnt_ap hf _ hg) gather_S16_S111x1_S111_n_0_n_n_0_1_1 rfl rfl rfl rfl _ p
    (Words.tile_ap hf _ hg _ (Words.cnt_ap hf _ hg) gather_S16_S111x1_S111_n_0_n_n_0_1_1 rfl rfl rfl rfl p)

/-- The table of last rows. -/
theorem V_last (p : Fin 111) : (V m c main_v66 : IVec (shape1 111) 32) (ix1 p) = BitVec.ofNat 32 (Sched.hi f p.val) := by
  rw [V_eq, after_main_v66, V₁_main_v12, V₁_main_v13, V₁_main_v11, V₁_main_v2, V₁_main_v0]
  exact Words.last_ap hf _ hg _ (Words.cnt_ap hf _ hg) gather_S16_S111x1_S111_n_0_n_n_0_1_1 rfl rfl rfl rfl _ p
    (Words.tile_ap hf _ hg _ (Words.cnt_ap hf _ hg) gather_S16_S111x1_S111_n_0_n_n_0_1_1 rfl rfl rfl rfl p)

/-- The number of visits. -/
theorem V_total (p : Fin 1) : (V m c main_v67 : IVec (shape1 1) 32) (ix1 p) = BitVec.ofNat 32 (Sched.tot f) := by
  rw [V_eq, after_main_v67, V₁_main_v12, bc0]
  exact Words.total_ap hf _ hg _ (Words.cnt_ap hf _ hg) _

end Values

end Cert.Kernel
-- ==== Proof.Grouped.lean ====
/-
  WHAT THE PRECONDITION SAYS: sixteen group sizes, none negative, that add up to the number of rows.
-/
module

public import proofs.«01_k».proof.Pre_rows_grouped
public import proofs.«01_k».proof.Proof.Words
public import Idealize.ShloMosaic.Lib.StableHlo.Predicate

@[expose] public section

namespace Cert

open Idealize.ShloMosaic Idealize.ShloMosaic.ValueIdx Idealize.ShloMosaic.Routing

/-- The size of group `i`, as a natural number; zero past the last group. -/
def sizes (g : IVec (shape1 16) 32) (i : ℕ) : ℕ := if h : i < 16 then (g (ix1 ⟨i, h⟩)).toNat else 0

theorem sizes_ap (g : IVec (shape1 16) 32) (i : Fin 16) : g (ix1 i) = BitVec.ofNat 32 (sizes g i.val) := by
  unfold sizes; rw [dif_pos i.isLt, BitVec.ofNat_toNat]; simp

variable {F : FTy → Type} [FloatOps F] [Pre_rows_grouped.Facts]

theorem and_bits {a b : BitVec 1} (h : IntOp.andi a b = 1#1) : a = 1#1 ∧ b = 1#1 := by
  revert a b; decide

theorem size_le {x : BitVec 32} (h1 : IntOp.cmpi .sge x 0#32 = 1#1) (h2 : IntOp.cmpi .sle x 49152#32 = 1#1) : x.toNat ≤ 49152 := by
  have a : (0#32).sle x = true := by
    unfold IntOp.cmpi at h1; revert h1; cases (0#32).sle x <;> simp
  have b : x.sle 49152#32 = true := by
    unfold IntOp.cmpi at h2; revert h2; cases x.sle 49152#32 <;> simp
  rw [BitVec.sle_eq_decide, decide_eq_true_eq] at a b
  have e1 : (0#32 : BitVec 32).toInt = 0 := by decide
  have e2 : (49152#32 : BitVec 32).toInt = 49152 := by decide
  rw [e1, BitVec.toInt_eq_toNat_cond] at a
  rw [e2, BitVec.toInt_eq_toNat_cond] at b
  have := x.isLt
  split at a <;> split at b <;> omega

theorem grouped (x : FVec F Pre_rows_grouped.S49152x2048 .bf16) (g : IVec (shape1 16) 32) (w : IVec Pre_rows_grouped.S16x1024x6144 8)
    (s : FVec F Pre_rows_grouped.S16x16x6144 .bf16) (h : Pre_rows_grouped.fn (F := F) x g w s = fun _ => 1#1) :
    Sched.P (sizes g) 16 = 49152 := by
  have hb : ∀ i : Fin 16, (g (ix1 i)).toNat ≤ 49152 := fun i => by
    have e := and_bits (and_bits (congrFun h (ix1 i))).1
    exact size_le e.1 e.2
  have hs := (and_bits (congrFun h (ix1 (0 : Fin 16)))).2
  have hs' := StableHlo.Predicate.cmpi_eq_iff.1 (show IntOp.cmpi .eq (Host.reduce IntOp.addi g (constantI shape0 32 0#32)
      Pre_rows_grouped.Facts.reducesTo_S16_S_d0 Pre_rows_grouped.Facts.h_S_ _) 49152#32 = 1#1 from hs)
  have hr := reduce_sum g (sizes g) (sizes_ap g) Pre_rows_grouped.Facts.reducesTo_S16_S_d0 Pre_rows_grouped.Facts.h_S_
  have hs2 : BitVec.ofNat 32 ((List.range 16).map (sizes g)).sum = 49152#32 := by
    refine hr.symm.trans ((congrArg _ ?_).trans hs')
    exact (eq_ix0 _).symm
  have hlt : ∀ n, n ≤ 16 → Sched.P (sizes g) n ≤ n * 49152 := by
    intro n
    induction n with
    | zero => intro _; rw [Sched.P_zero]
    | succ n ih =>
      intro hn
      rw [Sched.P_succ]
      have := ih (by omega)
      have h3 : sizes g n ≤ 49152 := by unfold sizes; rw [dif_pos (by omega)]; exact hb _
      omega
  have h16 := hlt 16 le_rfl
  have := congrArg BitVec.toNat hs2
  rw [BitVec.toNat_ofNat, BitVec.toNat_ofNat] at this
  change Sched.P (sizes g) 16 % _ = _ at this
  omega

end Cert
-- ==== Proof.KernelRun.lean ====
/-
  THE WHOLE RUN. What is said of the buffers between the visits is a parameter: a statement `I t` about the two scratch buffers before visit
  `t`, and statements `Q3 t`, `Q4 t` about the blocks of the two results that visit `t` leaves. Given that one visit carries them on
  (`Holds`), the program terminates, leaves its arguments as they were, and every block it wrote back satisfied them.
-/
module

public import proofs.«01_k».proof.Proof.KernelBody
public import proofs.«01_k».proof.Proof.KernelRegion
public import proofs.«01_k».proof.Proof.Grouped
public import proofs.«01_k».proof.Proof.Gen.Kernel.Loops
public import proofs.«01_k».proof.Proof.Gen.Kernel.Launch
public import Idealize.ShloMosaic.Lib.Exec
public import Idealize.ShloMosaic.Lib.Tactic
public import Idealize.ShloMosaic.Lib.Pipeline.Kit

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

open Idealize.ShloMosaic.ValueIdx Idealize.ShloMosaic.Routing Idealize.ShloMosaic.Pipeline

/-! ## One visit, its three cases together -/

set_option maxHeartbeats 1000000 in
theorem body_all (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)
   (R : BufTy.Contents (Elt F) arg9.view.ty → BufTy.Contents (Elt F) arg10.view.ty → BufTy.Contents (Elt F) arg11.view.ty → BufTy.Contents (Elt F) arg12.view.ty → Prop)
   (hK : ∀ (h1 : k0_cond1 i (arg5.view.readAt (Elt F) (Rect.unit (s := S1) ![0] S1.size inb_S1_S1_0).toLoadRect f5 (Shape.Idx.first (numel1_S1.symm ▸ Nat.one_pos))) = 1#1) (h2 : ¬ Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1),
     R (arg9.view.writes (Elt F) f9 (body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.1) (arg10.view.writes (Elt F) f10 (body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.1) f11 (arg12.view.writes (Elt F) f12 (body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2))
   (hF : ∀ (h1 : k0_cond1 i (arg5.view.readAt (Elt F) (Rect.unit (s := S1) ![0] S1.size inb_S1_S1_0).toLoadRect f5 (Shape.Idx.first (numel1_S1.symm ▸ Nat.one_pos))) = 1#1) (h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1),
     R (arg9.view.writes (Elt F) f9 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.1) (arg10.view.writes (Elt F) f10 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.1) (arg11.view.writes (Elt F) f11 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.1) (arg12.view.writes (Elt F) f12 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.2))
   (hI : ∀ (h1 : ¬ k0_cond1 i (arg5.view.readAt (Elt F) (Rect.unit (s := S1) ![0] S1.size inb_S1_S1_0).toLoadRect f5 (Shape.Idx.first (numel1_S1.symm ▸ Nat.one_pos))) = 1#1), R f9 f10 f11 f12) (E : Set ℕ) :
   (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop(∃ g9 g10 g11 g12, ⌜R g9 g10 g11 g12⌝ ∗ (arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12))) := by
  by_cases h1 : k0_cond1 i (arg5.view.readAt (Elt F) (Rect.unit (s := S1) ![0] S1.size inb_S1_S1_0).toLoadRect f5 (Shape.Idx.first (numel1_S1.symm ▸ Nat.one_pos))) = 1#1
  · by_cases h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1
    · refine triple_restated ((body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).2 E f9 f10) rfl .rfl fun _ => ?_
      iintro ⟨H1, H2, H3, H4, H5, H6, H7, H8, H9, H10, H11, H12⟩
      iexists _, _, _, _
      isplitr
      · ipureintro; exact hF h1 h2
      · sl_close
    · refine triple_restated ((body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).2 E f9 f10) rfl .rfl fun _ => ?_
      iintro ⟨H1, H2, H3, H4, H5, H6, H7, H8, H9, H10, H11, H12⟩
      iexists _, _, _, _
      isplitr
      · ipureintro; exact hK h1 h2
      · sl_close
  · refine triple_restated (body_idle c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 E f9 f10) rfl .rfl fun _ => ?_
    iintro ⟨H1, H2, H3, H4, H5, H6, H7, H8, H9, H10, H11, H12⟩
    iexists _, _, _, _
    isplitr
    · ipureintro; exact hI h1
    · sl_close

/-! ## The tables the kernel runs at -/

variable (m : (ℓ : Loc nD τ sig) → Buf (Elt F) ℓ) (ρ : Dev nD → PrngReg)

/-- The five tables' contents. -/
def tabs : pre0.Contents (Elt F) := fun k => V m 0 (pre0.ref k)

theorem tabs_eq (c : Dev nD) (k : Fin pre0.K) : V m c (pre0.ref k) = tabs m k := by
  rw [Subsingleton.elim c 0]; rfl

variable {f : ℕ → ℕ} (hf : Sched.P f 16 = 49152)
  (hg : ∀ c (i : Fin 16), (m (c, Proc.devRef (τ := τ) .tc main_arg1) : IVec (shape1 16) 32) (ix1 i) = BitVec.ofNat 32 (f i.val))
include hf hg

omit hf hg in
theorem emb_word (k n : ℕ) (hk : k = n) (hn : n < 111) (inb : ∀ a, (![k] : Fin 1 → ℕ) a + S1.size a ≤ S111.size a) (x : S1.Idx) :
    ((Rect.unit (s := S111) ![k] S1.size inb).emb x : S111.Idx) = ix1 ⟨n, hn⟩ := by
  subst hk
  rw [eq_ix1 ((Rect.unit (s := S111) ![k] S1.size inb).emb x)]
  refine congrArg ix1 (Fin.ext ?_)
  have : (x 0).val = 0 := by have h := (x 0).isLt; change _ < 1 at h; omega
  show k + 1 * (x 0).val = k
  omega

omit hf hg in
theorem coord (t : grid0.Coords) : (Scalar.indexCast (BitVec.ofNat 32 (t 0).val)).toNat = (t 0).val := by
  have h : (t 0).val < 111 := (t 0).isLt
  show (BitVec.ofNat 32 (t 0).val).toNat = _
  rw [BitVec.toNat_ofNat]; omega

theorem tile_word (t : grid0.Coords) : (tabs m).at 1 (Rect.unit (s := S111) ![(Scalar.indexCast (BitVec.ofNat 32 (t 0).val)).toNat] S1.size (k0_off1_inb t)) numel1_S1
    = BitVec.ofNat 32 (Sched.tl f (t 0).val) := by
  refine Eq.trans ?_ (V_tile m 0 hf (hg 0) ⟨(t 0).val, (t 0).isLt⟩)
  exact congrArg (V m 0 main_v42 : IVec (shape1 111) 32) (emb_word _ _ (coord t) (t 0).isLt _ _)

theorem expert_word (t : grid0.Coords) : (tabs m).at 0 (Rect.unit (s := S111) ![(Scalar.indexCast (BitVec.ofNat 32 (t 0).val)).toNat] S1.size (k0_off1_inb t)) numel1_S1
    = BitVec.ofNat 32 (Sched.ex f (t 0).val) := by
  refine Eq.trans ?_ (V_expert m 0 hf (hg 0) ⟨(t 0).val, (t 0).isLt⟩)
  exact congrArg (V m 0 main_v26 : IVec (shape1 111) 32) (emb_word _ _ (coord t) (t 0).isLt _ _)

/-- The windows of `x`, `y` and `s` stand at the tile, those of the weights and the scales at the expert. -/
theorem ix_tile (t : grid0.Coords) : cc0_transform_0 k0_off1_inb numel1_S1 (tabs m) t = ![Sched.tl f (t 0).val, 0] := by
  have h := Sched.tl_lt f hf (t 0).val
  unfold cc0_transform_0
  dsimp only
  rw [tile_word m hf hg t, BitVec.toNat_ofNat, Nat.mod_eq_of_lt (by omega)]
  rfl

theorem ix_expert (t : grid0.Coords) : cc0_transform_1 k0_off1_inb numel1_S1 (tabs m) t = ![Sched.ex f (t 0).val, 0, 0] := by
  have h := Sched.ex_lt f hf (t 0).val
  unfold cc0_transform_1
  dsimp only
  rw [expert_word m hf hg t, BitVec.toNat_ofNat, Nat.mod_eq_of_lt (by omega)]
  rfl

theorem ok : ok0 (tabs m) := by
  have a0 := ix_tile m hf hg
  have a1 := ix_expert m hf hg
  have a2 : ∀ t, cc0_transform_2 k0_off1_inb numel1_S1 (tabs m) t = ![Sched.ex f (t 0).val, 0, 0] := a1
  have a3 : ∀ t, cc0_transform_3 k0_off1_inb numel1_S1 (tabs m) t = ![Sched.tl f (t 0).val, 0] := a0
  have a4 : ∀ t, cc0_transform_4 k0_off1_inb numel1_S1 (tabs m) t = ![Sched.tl f (t 0).val, 0] := a0
  refine ⟨fun i => ⟨?_, .inr (Affine.block_words_dvd (by decide) (by decide))⟩, fun i => ⟨?_, .inr (Affine.block_words_dvd (by decide) (by decide))⟩, fun i => ⟨?_, .inr (Affine.block_words_dvd (by decide) (by decide))⟩, fun i => ⟨?_, .inr (Affine.block_words_dvd (by decide) (by decide))⟩, fun i => ⟨?_, .inl rfl⟩⟩
  all_goals
    have h1 := Sched.tl_lt f hf (i 0).val
    have h2 := Sched.ex_lt f hf (i 0).val
    simp only [a0, a1, a2, a3, a4]
  · intro a; match a with
    | ⟨0, _⟩ => show (Sched.tl f (i 0).val + 1) * 512 ≤ 49152; omega
    | ⟨1, _⟩ => show (0 + 1) * 2048 ≤ 2048; omega
  · intro a; match a with
    | ⟨0, _⟩ => show (Sched.ex f (i 0).val + 1) * 1 ≤ 16; omega
    | ⟨1, _⟩ => show (0 + 1) * 1024 ≤ 1024; omega
    | ⟨2, _⟩ => show (0 + 1) * 6144 ≤ 6144; omega
  · intro a; match a with
    | ⟨0, _⟩ => show (Sched.ex f (i 0).val + 1) * 1 ≤ 16; omega
    | ⟨1, _⟩ => show (0 + 1) * 16 ≤ 16; omega
    | ⟨2, _⟩ => show (0 + 1) * 6144 ≤ 6144; omega
  · intro a; match a with
    | ⟨0, _⟩ => show (Sched.tl f (i 0).val + 1) * 512 ≤ 49152; omega
    | ⟨1, _⟩ => show (0 + 1) * 3072 ≤ 3072; omega
  · intro a; match a with
    | ⟨0, _⟩ => show (Sched.tl f (i 0).val + 1) * 512 ≤ 49152; omega
    | ⟨1, _⟩ => show (0 + 1) * 1 ≤ 1; omega

omit hf hg

/-- The tables, as contents the pipeline admits. -/
def adm (hok : ok0 (tabs m)) : (pcfg0 (F := F)).Adm := ⟨tabs m, hok⟩

/-! ## The proof data -/

section Run

variable (hok : ok0 (tabs m))
  (I : ℕ → (S2048x6144.Idx → Elt F .bf16) → (S512x3072.Idx → Elt F .f32) → Prop)
  (Q3 : ℕ → (S512x3072.Idx → Elt F .fp8e4m3) → Prop) (Q4 : ℕ → (S512x1.Idx → Elt F .f32) → Prop)

/-- Between the visits: the scratch buffers as `I` says, the tables and the generator register. -/
def Inv (c : Dev nD) (t : ℕ) : sProp 𝕄 :=
  iprop((∃ W H, ⌜I t W H⌝ ∗ ((c : Thread nD τ).loc cc0_scratch0 ↦{fullShare} W) ∗ ((c : Thread nD τ).loc cc0_scratch1 ↦{fullShare} H))
    ∗ Pipeline.ΦT (U := UR sig nD τ) pre0 (tabs m) c ∗ ∃ r, prngReg c r)

/-- The proof data of the pipeline. -/
def rdat (c : Dev nD) : RDat τ (Elt F) Unit ℕ (UR sig nD τ) ℕ (cfg0 (adm m hok)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => Q3 t.val X
    | ⟨4, _⟩ => fun _ X => Q4 t.val X
  Φ t := Inv m I c t.val
  q _ := fullShare
  owed _ := 0

/-- What one visit has to carry on, in its three cases. -/
structure Holds : Prop where
  kept : ∀ (c : Dev nD) (t : Fin (cfg0 (adm m hok)).N) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) f6 f7 f8 f9 f10 f11 f12 (Y : (w : Fin 5) → (win0 (adm m hok) w).block.Idx → Elt F (win0 (adm m hok) w).elt),
    (∀ w, (rdat m hok I Q3 Q4 c).Finds w t (Y w)) → arg6.view.read (Elt F) f6 = Y 0 → arg7.view.read (Elt F) f7 = Y 1 → arg8.view.read (Elt F) f8 = Y 2 → I t.val f11 f12 →
    ∀ (h1 : k0_cond1 (grid0.coords t) ((Memref.whole main_v67).view.readAt (Elt F) (Rect.unit (s := S1) ![0] S1.size inb_S1_S1_0).toLoadRect (V m c main_v67) (Shape.Idx.first (numel1_S1.symm ▸ Nat.one_pos))) = 1#1) (h2 : ¬ Scalar.cmpi .ne (Scalar.extui (Scalar.ori (Scalar.cmpi .eq (BitVec.ofNat 32 (grid0.coords t 0).val) 0#32) (Scalar.cmpi .ne ((Memref.whole main_v26).view.readAt (Elt F) (Rect.unit (s := S111) (k0_off2 (grid0.coords t)) S1.size (k0_off2_inb (grid0.coords t))).toLoadRect (V m c main_v26) (Shape.Idx.first (numel1_S1.symm ▸ Nat.one_pos))) ((Memref.whole main_v26).view.readAt (Elt F) (Rect.unit (s := S111) (k0_off3 (grid0.coords t)) S1.size (k0_off3_inb (grid0.coords t))).toLoadRect (V m c main_v26) (Shape.Idx.first (numel1_S1.symm ▸ Nat.one_pos)))) : BitVec 1) : BitVec 32) 0#32 = 1#1),
      Q3 t.val (arg9.view.read (Elt F) (arg9.view.writes (Elt F) f9 (body_kept c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.1))
      ∧ Q4 t.val (arg10.view.read (Elt F) (arg10.view.writes (Elt F) f10 (body_kept c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.1))
      ∧ I (t.val + 1) f11 ((Memref.whole cc0_scratch1).view.writes (Elt F) f12 (body_kept c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.2)
  fresh : ∀ (c : Dev nD) (t : Fin (cfg0 (adm m hok)).N) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) f6 f7 f8 f9 f10 f11 f12 (Y : (w : Fin 5) → (win0 (adm m hok) w).block.Idx → Elt F (win0 (adm m hok) w).elt),
    (∀ w, (rdat m hok I Q3 Q4 c).Finds w t (Y w)) → arg6.view.read (Elt F) f6 = Y 0 → arg7.view.read (Elt F) f7 = Y 1 → arg8.view.read (Elt F) f8 = Y 2 → I t.val f11 f12 →
    ∀ (h1 : k0_cond1 (grid0.coords t) ((Memref.whole main_v67).view.readAt (Elt F) (Rect.unit (s := S1) ![0] S1.size inb_S1_S1_0).toLoadRect (V m c main_v67) (Shape.Idx.first (numel1_S1.symm ▸ Nat.one_pos))) = 1#1) (h2 : Scalar.cmpi .ne (Scalar.extui (Scalar.ori (Scalar.cmpi .eq (BitVec.ofNat 32 (grid0.coords t 0).val) 0#32) (Scalar.cmpi .ne ((Memref.whole main_v26).view.readAt (Elt F) (Rect.unit (s := S111) (k0_off2 (grid0.coords t)) S1.size (k0_off2_inb (grid0.coords t))).toLoadRect (V m c main_v26) (Shape.Idx.first (numel1_S1.symm ▸ Nat.one_pos))) ((Memref.whole main_v26).view.readAt (Elt F) (Rect.unit (s := S111) (k0_off3 (grid0.coords t)) S1.size (k0_off3_inb (grid0.coords t))).toLoadRect (V m c main_v26) (Shape.Idx.first (numel1_S1.symm ▸ Nat.one_pos)))) : BitVec 1) : BitVec 32) 0#32 = 1#1),
      Q3 t.val (arg9.view.read (Elt F) (arg9.view.writes (Elt F) f9 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.1))
      ∧ Q4 t.val (arg10.view.read (Elt F) (arg10.view.writes (Elt F) f10 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.1))
      ∧ I (t.val + 1) ((Memref.whole cc0_scratch0).view.writes (Elt F) f11 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.2.1)
          ((Memref.whole cc0_scratch1).view.writes (Elt F) f12 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.2.2)
  idle : ∀ (c : Dev nD) (t : Fin (cfg0 (adm m hok)).N) f11 f12 (Y : (w : Fin 5) → (win0 (adm m hok) w).block.Idx → Elt F (win0 (adm m hok) w).elt),
    (∀ w, (rdat m hok I Q3 Q4 c).Finds w t (Y w)) → I t.val f11 f12 →
    ∀ (h1 : ¬ k0_cond1 (grid0.coords t) ((Memref.whole main_v67).view.readAt (Elt F) (Rect.unit (s := S1) ![0] S1.size inb_S1_S1_0).toLoadRect (V m c main_v67) (Shape.Idx.first (numel1_S1.symm ▸ Nat.one_pos))) = 1#1), Q3 t.val (Y 3) ∧ Q4 t.val (Y 4) ∧ I (t.val + 1) f11 f12

theorem tables_five (c : Dev nD) :
    (Pipeline.ΦT (U := UR sig nD τ) pre0 (tabs m) c : sProp 𝕄)
      = iprop(((c : Thread nD τ).loc main_v26 ↦{fullShare.right} V m c main_v26) ∗ ((c : Thread nD τ).loc main_v42 ↦{fullShare.right} V m c main_v42)
          ∗ ((c : Thread nD τ).loc main_v54 ↦{fullShare.right} V m c main_v54) ∗ ((c : Thread nD τ).loc main_v66 ↦{fullShare.right} V m c main_v66)
          ∗ ((c : Thread nD τ).loc main_v67 ↦{fullShare.right} V m c main_v67)) := by
  unfold Pipeline.ΦT Pipeline.prefHeld
  obtain rfl := Subsingleton.elim c 0
  exact bigSep_W0 _

set_option maxHeartbeats 2000000 in
set_option backward.isDefEq.respectTransparency.types false in
theorem obligation (hH : Holds m hok I Q3 Q4) (c : Dev nD) : (rdat m hok I Q3 Q4 c).BodyObligation (defs₀ (F := F)) Variants.none () Set.univ := by
  intro t Y hY
  rw [bigSep_W0, bigSep_W0]
  unfold defs₀; rw [Defs.onTc_tc]
  show iprop(Inv m I c t.val ∗ _ ∗ _) ⊢ wp _ _ _ _ (fun _ => iprop(Inv m I c (t.val + 1) ∗ _ ∗ _))
  unfold Inv owns
  rw [tables_five]
  iintro ⟨⟨⟨%W, %H, %hI, HW, HH⟩, ⟨T1, T2, T3, T4, T5⟩, HR⟩, Ho, ⟨%g6, %e6, S6⟩, ⟨%g7, %e7, S7⟩, ⟨%g8, %e8, S8⟩, ⟨%g9, %e9, S9⟩, ⟨%g10, %e10, S10⟩⟩
  have key := body_all c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) (spec0_0.stage ((cfg0 (adm m hok)).slots t 0)) (hstage0_0 (((cfg0 (adm m hok)).slots t 0).cast nbuf0_0)) (spec0_1.stage ((cfg0 (adm m hok)).slots t 1)) (hstage0_1 (((cfg0 (adm m hok)).slots t 1).cast nbuf0_1)) (spec0_2.stage ((cfg0 (adm m hok)).slots t 2)) (hstage0_2 (((cfg0 (adm m hok)).slots t 2).cast nbuf0_2)) (spec0_3.stage ((cfg0 (adm m hok)).slots t 3)) (hstage0_3 (((cfg0 (adm m hok)).slots t 3).cast nbuf0_3)) (spec0_4.stage ((cfg0 (adm m hok)).slots t 4)) (hstage0_4 (((cfg0 (adm m hok)).slots t 4).cast nbuf0_4)) (Memref.whole cc0_scratch0) (Memref.isWhole_whole _) (Memref.whole cc0_scratch1) (Memref.isWhole_whole _) (V m c main_v26) (V m c main_v42) (V m c main_v54) (V m c main_v66) (V m c main_v67) g6 g7 g8 g9 g10 W H
    (fun g9 g10 W H => Q3 t.val ((spec0_3.stage ((cfg0 (adm m hok)).slots t 3)).view.read (Elt F) g9) ∧ Q4 t.val ((spec0_4.stage ((cfg0 (adm m hok)).slots t 4)).view.read (Elt F) g10) ∧ I (t.val + 1) W H)
    (hH.kept c t (spec0_0.stage ((cfg0 (adm m hok)).slots t 0)) (hstage0_0 (((cfg0 (adm m hok)).slots t 0).cast nbuf0_0)) (spec0_1.stage ((cfg0 (adm m hok)).slots t 1)) (hstage0_1 (((cfg0 (adm m hok)).slots t 1).cast nbuf0_1)) (spec0_2.stage ((cfg0 (adm m hok)).slots t 2)) (hstage0_2 (((cfg0 (adm m hok)).slots t 2).cast nbuf0_2)) (spec0_3.stage ((cfg0 (adm m hok)).slots t 3)) (hstage0_3 (((cfg0 (adm m hok)).slots t 3).cast nbuf0_3)) (spec0_4.stage ((cfg0 (adm m hok)).slots t 4)) (hstage0_4 (((cfg0 (adm m hok)).slots t 4).cast nbuf0_4)) g6 g7 g8 g9 g10 W H Y hY e6 e7 e8 hI)
    (hH.fresh c t (spec0_0.stage ((cfg0 (adm m hok)).slots t 0)) (hstage0_0 (((cfg0 (adm m hok)).slots t 0).cast nbuf0_0)) (spec0_1.stage ((cfg0 (adm m hok)).slots t 1)) (hstage0_1 (((cfg0 (adm m hok)).slots t 1).cast nbuf0_1)) (spec0_2.stage ((cfg0 (adm m hok)).slots t 2)) (hstage0_2 (((cfg0 (adm m hok)).slots t 2).cast nbuf0_2)) (spec0_3.stage ((cfg0 (adm m hok)).slots t 3)) (hstage0_3 (((cfg0 (adm m hok)).slots t 3).cast nbuf0_3)) (spec0_4.stage ((cfg0 (adm m hok)).slots t 4)) (hstage0_4 (((cfg0 (adm m hok)).slots t 4).cast nbuf0_4)) g6 g7 g8 g9 g10 W H Y hY e6 e7 e8 hI)
    (fun h1 => by have := hH.idle c t W H Y hY hI h1; rw [← e9, ← e10] at this; exact this) Set.univ
  rw [show (Memref.whole main_v26).view.set = Finset.univ from View.set_whole _, show (Memref.whole main_v42).view.set = Finset.univ from View.set_whole _,
    show (Memref.whole main_v54).view.set = Finset.univ from View.set_whole _, show (Memref.whole main_v66).view.set = Finset.univ from View.set_whole _,
    show (Memref.whole main_v67).view.set = Finset.univ from View.set_whole _, show (Memref.whole cc0_scratch0).view.set = Finset.univ from View.set_whole _,
    show (Memref.whole cc0_scratch1).view.set = Finset.univ from View.set_whole _] at key
  iapply (wp_wand_r Idealize.ShloMosaic.frame (wpE (defs₀ (F := F)) Variants.none (c : Thread nD τ) none) Set.univ)
  isplitl [T1 T2 T3 T4 T5 S6 S7 S8 S9 S10 HW HH]
  · iapply key
    isplitl [T1]; · iexact T1
    isplitl [T2]; · iexact T2
    isplitl [T3]; · iexact T3
    isplitl [T4]; · iexact T4
    isplitl [T5]; · iexact T5
    isplitl [S6]; · iexact S6
    isplitl [S7]; · iexact S7
    isplitl [S8]; · iexact S8
    isplitl [S9]; · iexact S9
    isplitl [S10]; · iexact S10
    isplitl [HW]; · iexact HW
    iexact HH
  iintro %_ ⟨%k9, %k10, %W', %H', %hR, T1, T2, T3, T4, T5, S6, S7, S8, S9, S10, HW, HH⟩
  isplitl [T1 T2 T3 T4 T5 HW HH HR]
  · isplitl [HW HH]
    · iexists W', H'
      isplitr
      · ipureintro; exact hR.2.2
      isplitl [HW]; · iexact HW
      iexact HH
    isplitr [HR]
    · isplitl [T1]; · iexact T1
      isplitl [T2]; · iexact T2
      isplitl [T3]; · iexact T3
      isplitl [T4]; · iexact T4
      iexact T5
    · iexact HR
  isplitl [Ho]; · iexact Ho
  isplitl [S6]
  · iexists Y 0; isplitr
    · ipureintro; exact rfl
    iexists g6; isplitr
    · ipureintro; exact e6
    iexact S6
  isplitl [S7]
  · iexists Y 1; isplitr
    · ipureintro; exact rfl
    iexists g7; isplitr
    · ipureintro; exact e7
    iexact S7
  isplitl [S8]
  · iexists Y 2; isplitr
    · ipureintro; exact rfl
    iexists g8; isplitr
    · ipureintro; exact e8
    iexact S8
  isplitl [S9]
  · iexists _; isplitr
    · ipureintro; exact hR.1
    iexists k9; isplitr
    · ipureintro; exact rfl
    iexact S9
  · iexists _; isplitr
    · ipureintro; exact hR.2.1
    iexists k10; isplitr
    · ipureintro; exact rfl
    iexact S10

set_option backward.isDefEq.respectTransparency.types false in
set_option maxHeartbeats 1600000 in
/-- The launch. -/
theorem run_main (hH : Holds m hok I Q3 Q4) (h0 : ∀ W H, I 0 W H) :
    θ_run defs (onTc (τ := τ) (main (F := F))) (s₀ m ρ)
      (fun r => RDat.FramePost (cfg0 (adm m hok)) (rdat m hok I Q3 Q4) (V m) r ∧ r.2.sem = fun _ => 0) :=
  RDat.θ_run_frameP_track (Q' := _) pcfgs (fun _ => adm m hok) (0 : Fin 1) launch0 defs₀ Variants.none (rdat m hok I Q3 Q4) m ρ main
    (hbody := obligation m hok I Q3 Q4 hH) (hshare := fun c w => by unfold RDat.share; split <;> rfl)
    (howed := fun _ _ => rfl) (V := V m) (hmain := hmain m Variants.none) (hA := fun _ _ => rfl) (hpf := tabs_eq m)
    (hin := fun c => by
      show _ ⊢ Inv m I c 0
      unfold Pipeline.ΦA Inv
      rw [scopedRest0_eq]
      iintro ⟨⟨⟨⟨%W, HW⟩, ⟨%H, HH⟩⟩, HR⟩, HT⟩
      isplitl [HW HH]
      · iexists W, H
        isplitr
        · ipureintro; exact h0 W H
        isplitl [HW]; · iexact HW
        iexact HH
      isplitl [HT]; · iexact HT
      iexact HR)
    (hout := fun c => by
      show Inv m I c _ ⊢ _
      unfold Pipeline.ΦA Inv
      rw [scopedRest0_eq]
      iintro ⟨⟨%W, %H, -, HW, HH⟩, -, HR⟩
      isplitl [HW HH]
      · isplitl [HW]
        · iexists W; iexact HW
        · iexists H; iexact HH
      iexact HR)

omit hok in
theorem rest_arg1 : main_arg1 ∈ Pipeline.restRefs sig spec0 := Pipeline.mem_restRefs_of main_arg1 (by decide) (by decide)

set_option maxHeartbeats 800000 in
/-- The run: the arguments end as they were, the two results hold what the write-backs of the visits can make of them. -/
theorem run (hH : Holds m hok I Q3 Q4) (h0 : ∀ W H, I 0 W H) :
    θ_run defs (onTc (τ := τ) (main (F := F))) ⟨m, fun _ => 0, ρ⟩ (fun r =>
      (∀ c : Dev nD, (rdat m hok I Q3 Q4 c).ArrAt 3 grid0.N (r.2.mem ((c.tc : Thread nD τ).loc main_v68_0))
        ∧ (rdat m hok I Q3 Q4 c).ArrAt 4 grid0.N (r.2.mem ((c.tc : Thread nD τ).loc main_v68_1)))
      ∧ (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run defs _ _).mono (fun r h => ⟨fun c => ⟨(h.1 c).1 3, (h.1 c).1 4⟩, fun c => ⟨?_, ?_, ?_, ?_⟩, h.2⟩) (run_main m ρ hok I Q3 Q4 hH h0)
  · exact (Eq.mp (congrFun (RDat.ArrAt_in (rdat m hok I Q3 Q4 c) 0 rfl _) _) ((h.1 c).1 0)).trans (V_main_arg0 m c)
  · exact ((h.1 c).2 main_arg1 rest_arg1).trans (V_main_arg1 m c)
  · exact (Eq.mp (congrFun (RDat.ArrAt_in (rdat m hok I Q3 Q4 c) 1 rfl _) _) ((h.1 c).1 1)).trans (V_main_arg2 m c)
  · exact (Eq.mp (congrFun (RDat.ArrAt_in (rdat m hok I Q3 Q4 c) 2 rfl _) _) ((h.1 c).1 2)).trans (V_main_arg3 m c)

end Run

/-- The program terminates with its arguments as they were, whatever the values. -/
theorem unharmed [Pre_rows_grouped.Facts]
    (hp : ∀ c : Dev nD, Pre_rows_grouped.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => h.2)
    (run m ρ (ok m (grouped _ (m ((0 : Dev nD), Proc.devRef (τ := τ) .tc main_arg1)) _ _ (hp 0)) fun c => by
        rw [Subsingleton.elim c 0]; exact sizes_ap _)
      (fun _ _ _ => True) (fun _ _ => True) (fun _ _ => True)
      ⟨by intros; trivial, by intros; trivial, by intros; trivial⟩ fun _ _ => trivial)

end Cert.Kernel

end
-- ==== Proof.KernelIdealBody.lean ====
/-
  ONE RUN OF THE KERNEL'S BODY: what its twelve buffers hold afterwards, in the three cases that its two conditions leave. A visit past the
  last one changes nothing. A visit of the same expert as the one before keeps the unpacked weights; any other unpacks them first.
-/
module

public import proofs.«01_k».proof.Proof.Gen.KernelIdeal.Loops
public import proofs.«01_k».proof.Proof.Gen.KernelIdeal.Launch
public import Idealize.ShloMosaic.Lib.Exec
public import Idealize.ShloMosaic.Lib.Tactic
public import Idealize.ShloMosaic.Lib.Pipeline.Kit

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

set_option maxHeartbeats 4000000 in
set_option maxRecDepth 8192 in
/-- The weights are kept. -/
def body_kept (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : ¬ Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
   { L : List (View.Piece (Elt F) S512x3072 .fp8e4m3) × List (View.Piece (Elt F) S512x1 .f32) × List (View.Piece (Elt F) S512x3072 .f32) //
     ∀ (E : Set ℕ) f9 f10, (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2.1)) ∗ (arg11.view.loc (c : Thread nD τ) ↦[arg11.view.set]{fullShare} f11) ∗ (arg12.view.loc (c : Thread nD τ) ↦[arg12.view.set]{fullShare} (arg12.view.writes (Elt F) f12 L.2.2)))) } := by
  refine ⟨⟨?_, ?_, ?_⟩, fun E f9 f10 => ?run⟩
  case run =>
    simp only [cc0__body_eq_skeleton]; unfold cc0__body_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H1, H2, H3, H4, H5, H6, H7, H8, H9, H10, H11, H12⟩
    sl_exec
    sl_step
    sl_close

set_option maxHeartbeats 4000000 in
set_option maxRecDepth 8192 in
/-- The weights are unpacked first. -/
def body_fresh (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
   { L : List (View.Piece (Elt F) S512x3072 .fp8e4m3) × List (View.Piece (Elt F) S512x1 .f32) × List (View.Piece (Elt F) S2048x6144 .bf16) × List (View.Piece (Elt F) S512x3072 .f32) //
     ∀ (E : Set ℕ) f9 f10, (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2.1)) ∗ (arg11.view.loc (c : Thread nD τ) ↦[arg11.view.set]{fullShare} (arg11.view.writes (Elt F) f11 L.2.2.1)) ∗ (arg12.view.loc (c : Thread nD τ) ↦[arg12.view.set]{fullShare} (arg12.view.writes (Elt F) f12 L.2.2.2)))) } := by
  refine ⟨⟨?_, ?_, ?_, ?_⟩, fun E f9 f10 => ?run⟩
  case run =>
    simp only [cc0__body_eq_skeleton]; unfold cc0__body_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H1, H2, H3, H4, H5, H6, H7, H8, H9, H10, H11, H12⟩
    sl_exec
    sl_step
    sl_close

set_option maxHeartbeats 4000000 in
set_option maxRecDepth 8192 in
/-- Nothing happens. -/
theorem body_idle (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : ¬ k0_cond1 i (arg5.view.readAt (Elt F) (Rect.unit (s := S1) ![0] S1.size inb_S1_S1_0).toLoadRect f5 (Shape.Idx.first (numel1_S1.symm ▸ Nat.one_pos))) = 1#1) (E : Set ℕ) (f9 : BufTy.Contents (Elt F) arg9.view.ty) (f10 : BufTy.Contents (Elt F) arg10.view.ty) :
     (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))) := by
  simp only [cc0__body_eq_skeleton]; unfold cc0__body_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  iintro ⟨H1, H2, H3, H4, H5, H6, H7, H8, H9, H10, H11, H12⟩
  sl_exec
  sl_step
  sl_close

end Cert.KernelIdeal

end
-- ==== Proof.KernelIdealRegion.lean ====
/-
  THE PROGRAM UP TO ITS KERNEL: the host operations that compute the tables of the visits, the contents of the buffers when the kernel is
  entered, and the tables' values.
-/
module

public import proofs.«01_k».proof.Proof.Gen.KernelIdeal.Launch
public import proofs.«01_k».proof.Proof.Words
public import Idealize.ShloMosaic.Lib.Pipeline.FrameBody
public import Idealize.ShloMosaic.Lib.Claim
public import Idealize.ShloMosaic.Lib.StableHlo.Run

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Routing

variable {F : FTy → Type} [FloatOps F]

local notation "𝕄" => MT nD τ sig Unit (Elt F) ℕ (UR sig nD τ) ℕ

variable (m : (ℓ : Loc nD τ sig) → Buf (Elt F) ℓ)

/-- The buffers of a core when the kernel is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 1600000 in
/-- The program is its host operations, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The buffers after the counting of the visits, before the tables. -/
abbrev V₁ (c : Dev nD) : Valuation τ sig (Elt F) := StableHlo.after (List.flatten [hostOps0, hostOps0_1, hostOps0_2, hostOps0_3, hostOps0_4, hostOps0_5, hostOps0_6, hostOps0_7, hostOps0_8]) (fun b => m (c, b))

theorem V_eq (c : Dev nD) (b : Ref sig .tc) : V m c b = StableHlo.after hostOps0_9 (V₁ m c) b := by
  unfold V V₁
  rw [← StableHlo.after_append]
  simp only [List.flatten_cons, List.flatten_nil, List.append_nil, List.append_assoc]

theorem hostOps0_plain : (hostOps0 : List (HloOp τ sig (Elt F))) =
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_arg1 main_call0_call0_v0 main_v0 ((fun x v => Host.reduceWindow IntOp.addi ![16] ![1] ![15] ![0] x v reduceWindows_S16_S16_w16s1p15_0 h_S_) : (⟨S16, .i32⟩ : BufTy).Contents (Elt F) → (⟨S_, .i32⟩ : BufTy).Contents (Elt F) → (⟨S16, .i32⟩ : BufTy).Contents (Elt F)) ] := by
  have h : ∀ f : (⟨S16, .i32⟩ : BufTy).Contents (Elt F) → (⟨S_, .i32⟩ : BufTy).Contents (Elt F) → (⟨S16, .i32⟩ : BufTy).Contents (Elt F),
(  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_arg1 : StableHlo.TRef sig ⟨S16, .i32⟩) (.of main_call0_call0_v0 : StableHlo.TRef sig ⟨S_, .i32⟩) (.of main_v0 : StableHlo.TRef sig ⟨S16, .i32⟩) f ] : List (HloOp τ sig (Elt F))) =
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_arg1 main_call0_call0_v0 main_v0 f ] := fun _ => rfl
  exact h _

theorem hostOps0_2_plain : (hostOps0_2 : List (HloOp τ sig (Elt F))) =
  [ StableHlo.unary main_c main_call1_v0 (id : (⟨S_, .i32⟩ : BufTy).Contents (Elt F) → (⟨S_, .i32⟩ : BufTy).Contents (Elt F)),
    StableHlo.unary main_call1_v0 main_call1_v1 ((broadcastInDim S16 ![] bcast_S_S16) : (⟨S_, .i32⟩ : BufTy).Contents (Elt F) → (⟨S16, .i32⟩ : BufTy).Contents (Elt F)),
    StableHlo.binary main_v1 main_call1_v1 main_call1_v2 (Host.divsi : (⟨S16, .i32⟩ : BufTy).Contents (Elt F) → (⟨S16, .i32⟩ : BufTy).Contents (Elt F) → (⟨S16, .i32⟩ : BufTy).Contents (Elt F)),
    StableHlo.unary main_v1 main_call1_v3 (signi : (⟨S16, .i32⟩ : BufTy).Contents (Elt F) → (⟨S16, .i32⟩ : BufTy).Contents (Elt F)),
    StableHlo.unary main_call1_v0 main_call1_v4 (signi : (⟨S_, .i32⟩ : BufTy).Contents (Elt F) → (⟨S_, .i32⟩ : BufTy).Contents (Elt F)),
    StableHlo.unary main_call1_v4 main_call1_v5 ((broadcastInDim S16 ![] bcast_S_S16) : (⟨S_, .i32⟩ : BufTy).Contents (Elt F) → (⟨S16, .i32⟩ : BufTy).Contents (Elt F)),
    StableHlo.binary main_call1_v3 main_call1_v5 main_call1_v6 ((cmpi .ne) : (⟨S16, .i32⟩ : BufTy).Contents (Elt F) → (⟨S16, .i32⟩ : BufTy).Contents (Elt F) → (⟨S16, .i1⟩ : BufTy).Contents (Elt F)),
    StableHlo.unary main_call1_v0 main_call1_v7 ((broadcastInDim S16 ![] bcast_S_S16) : (⟨S_, .i32⟩ : BufTy).Contents (Elt F) → (⟨S16, .i32⟩ : BufTy).Contents (Elt F)),
    StableHlo.binary main_v1 main_call1_v7 main_call1_v8 (Host.remsi : (⟨S16, .i32⟩ : BufTy).Contents (Elt F) → (⟨S16, .i32⟩ : BufTy).Contents (Elt F) → (⟨S16, .i32⟩ : BufTy).Contents (Elt F)),
    StableHlo.nullary main_call1_c ((constantI S_ 32 0#32) : (⟨S_, .i32⟩ : BufTy).Contents (Elt F)),
    StableHlo.unary main_call1_c main_call1_v9 ((broadcastInDim S16 ![] bcast_S_S16) : (⟨S_, .i32⟩ : BufTy).Contents (Elt F) → (⟨S16, .i32⟩ : BufTy).Contents (Elt F)),
    StableHlo.binary main_call1_v8 main_call1_v9 main_call1_v10 ((cmpi .ne) : (⟨S16, .i32⟩ : BufTy).Contents (Elt F) → (⟨S16, .i32⟩ : BufTy).Contents (Elt F) → (⟨S16, .i1⟩ : BufTy).Contents (Elt F)),
    StableHlo.binary main_call1_v6 main_call1_v10 main_call1_v11 (andi : (⟨S16, .i1⟩ : BufTy).Contents (Elt F) → (⟨S16, .i1⟩ : BufTy).Contents (Elt F) → (⟨S16, .i1⟩ : BufTy).Contents (Elt F)),
    StableHlo.nullary main_call1_c_0 ((constantI S_ 32 1#32) : (⟨S_, .i32⟩ : BufTy).Contents (Elt F)),
    StableHlo.unary main_call1_c_0 main_call1_v12 ((broadcastInDim S16 ![] bcast_S_S16) : (⟨S_, .i32⟩ : BufTy).Contents (Elt F) → (⟨S16, .i32⟩ : BufTy).Contents (Elt F)),
    StableHlo.binary main_call1_v2 main_call1_v12 main_call1_v13 (subi : (⟨S16, .i32⟩ : BufTy).Contents (Elt F) → (⟨S16, .i32⟩ : BufTy).Contents (Elt F) → (⟨S16, .i32⟩ : BufTy).Contents (Elt F)),
    StableHlo.ternary main_call1_v11 main_call1_v13 main_call1_v2 main_v2 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ] := rfl

theorem hostOps0_4_plain : (hostOps0_4 : List (HloOp τ sig (Elt F))) =
  [ StableHlo.unary main_c_2 main_call2_v0 (id : (⟨S_, .i32⟩ : BufTy).Contents (Elt F) → (⟨S_, .i32⟩ : BufTy).Contents (Elt F)),
    StableHlo.unary main_call2_v0 main_call2_v1 ((broadcastInDim S16 ![] bcast_S_S16) : (⟨S_, .i32⟩ : BufTy).Contents (Elt F) → (⟨S16, .i32⟩ : BufTy).Contents (Elt F)),
    StableHlo.binary main_v6 main_call2_v1 main_call2_v2 (Host.divsi : (⟨S16, .i32⟩ : BufTy).Contents (Elt F) → (⟨S16, .i32⟩ : BufTy).Contents (Elt F) → (⟨S16, .i32⟩ : BufTy).Contents (Elt F)),
    StableHlo.unary main_v6 main_call2_v3 (signi : (⟨S16, .i32⟩ : BufTy).Contents (Elt F) → (⟨S16, .i32⟩ : BufTy).Contents (Elt F)),
    StableHlo.unary main_call2_v0 main_call2_v4 (signi : (⟨S_, .i32⟩ : BufTy).Contents (Elt F) → (⟨S_, .i32⟩ : BufTy).Contents (Elt F)),
    StableHlo.unary main_call2_v4 main_call2_v5 ((broadcastInDim S16 ![] bcast_S_S16) : (⟨S_, .i32⟩ : BufTy).Contents (Elt F) → (⟨S16, .i32⟩ : BufTy).Contents (Elt F)),
    StableHlo.binary main_call2_v3 main_call2_v5 main_call2_v6 ((cmpi .ne) : (⟨S16, .i32⟩ : BufTy).Contents (Elt F) → (⟨S16, .i32⟩ : BufTy).Contents (Elt F) → (⟨S16, .i1⟩ : BufTy).Contents (Elt F)),
    StableHlo.unary main_call2_v0 main_call2_v7 ((broadcastInDim S16 ![] bcast_S_S16) : (⟨S_, .i32⟩ : BufTy).Contents (Elt F) → (⟨S16, .i32⟩ : BufTy).Contents (Elt F)),
    StableHlo.binary main_v6 main_call2_v7 main_call2_v8 (Host.remsi : (⟨S16, .i32⟩ : BufTy).Contents (Elt F) → (⟨S16, .i32⟩ : BufTy).Contents (Elt F) → (⟨S16, .i32⟩ : BufTy).Contents (Elt F)),
    StableHlo.nullary main_call2_c ((constantI S_ 32 0#32) : (⟨S_, .i32⟩ : BufTy).Contents (Elt F)),
    StableHlo.unary main_call2_c main_call2_v9 ((broadcastInDim S16 ![] bcast_S_S16) : (⟨S_, .i32⟩ : BufTy).Contents (Elt F) → (⟨S16, .i32⟩ : BufTy).Contents (Elt F)),
    StableHlo.binary main_call2_v8 main_call2_v9 main_call2_v10 ((cmpi .ne) : (⟨S16, .i32⟩ : BufTy).Contents (Elt F) → (⟨S16, .i32⟩ : BufTy).Contents (Elt F) → (⟨S16, .i1⟩ : BufTy).Contents (Elt F)),
    StableHlo.binary main_call2_v6 main_call2_v10 main_call2_v11 (andi : (⟨S16, .i1⟩ : BufTy).Contents (Elt F) → (⟨S16, .i1⟩ : BufTy).Contents (Elt F) → (⟨S16, .i1⟩ : BufTy).Contents (Elt F)),
    StableHlo.nullary main_call2_c_0 ((constantI S_ 32 1#32) : (⟨S_, .i32⟩ : BufTy).Contents (Elt F)),
    StableHlo.unary main_call2_c_0 main_call2_v12 ((broadcastInDim S16 ![] bcast_S_S16) : (⟨S_, .i32⟩ : BufTy).Contents (Elt F) → (⟨S16, .i32⟩ : BufTy).Contents (Elt F)),
    StableHlo.binary main_call2_v2 main_call2_v12 main_call2_v13 (subi : (⟨S16, .i32⟩ : BufTy).Contents (Elt F) → (⟨S16, .i32⟩ : BufTy).Contents (Elt F) → (⟨S16, .i32⟩ : BufTy).Contents (Elt F)),
    StableHlo.ternary main_call2_v11 main_call2_v13 main_call2_v2 main_v7 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ] := rfl

theorem hostOps0_6_plain : (hostOps0_6 : List (HloOp τ sig (Elt F))) =
  [ StableHlo.unary main_c_4 main_call3_v0 (id : (⟨S_, .i32⟩ : BufTy).Contents (Elt F) → (⟨S_, .i32⟩ : BufTy).Contents (Elt F)),
    StableHlo.unary main_call3_v0 main_call3_v1 ((broadcastInDim S16 ![] bcast_S_S16) : (⟨S_, .i32⟩ : BufTy).Contents (Elt F) → (⟨S16, .i32⟩ : BufTy).Contents (Elt F)),
    StableHlo.ternary main_v4 main_v10 main_call3_v1 main_v11 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ] := rfl

theorem hostOps0_8_plain : (hostOps0_8 : List (HloOp τ sig (Elt F))) =
  [ StableHlo.nullary main_call4_call0_c ((constantI S_ 32 0#32) : (⟨S_, .i32⟩ : BufTy).Contents (Elt F)),
    StableHlo.unary main_call4_call0_c main_call4_call0_v0 ((broadcastInDim S_ ![] bcast_S_S_) : (⟨S_, .i32⟩ : BufTy).Contents (Elt F) → (⟨S_, .i32⟩ : BufTy).Contents (Elt F)),
    StableHlo.binary main_v11 main_call4_call0_v0 main_v13 ((fun x v => Host.reduceWindow IntOp.addi ![16] ![1] ![15] ![0] x v reduceWindows_S16_S16_w16s1p15_0 h_S_) : (⟨S16, .i32⟩ : BufTy).Contents (Elt F) → (⟨S_, .i32⟩ : BufTy).Contents (Elt F) → (⟨S16, .i32⟩ : BufTy).Contents (Elt F)) ] := by
  have h : ∀ f : (⟨S16, .i32⟩ : BufTy).Contents (Elt F) → (⟨S_, .i32⟩ : BufTy).Contents (Elt F) → (⟨S16, .i32⟩ : BufTy).Contents (Elt F),
(  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v11 : StableHlo.TRef sig ⟨S16, .i32⟩) (.of main_call4_call0_v0 : StableHlo.TRef sig ⟨S_, .i32⟩) (.of main_v13 : StableHlo.TRef sig ⟨S16, .i32⟩) f ] : List (HloOp τ sig (Elt F))) =
  [ StableHlo.nullary main_call4_call0_c ((constantI S_ 32 0#32) : (⟨S_, .i32⟩ : BufTy).Contents (Elt F)),
    StableHlo.unary main_call4_call0_c main_call4_call0_v0 ((broadcastInDim S_ ![] bcast_S_S_) : (⟨S_, .i32⟩ : BufTy).Contents (Elt F) → (⟨S_, .i32⟩ : BufTy).Contents (Elt F)),
    StableHlo.binary main_v11 main_call4_call0_v0 main_v13 f ] := fun _ => rfl
  exact h _

set_option maxHeartbeats 1600000 in
theorem V₁_main_v0 (c : Dev nD) : V₁ m c (Proc.devRef .tc main_v0) = Words.cum (m (c, Proc.devRef .tc main_arg1) : IVec (shape1 16) 32) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v1 (c : Dev nD) : V₁ m c (Proc.devRef .tc main_v1) = subi (Words.cum (m (c, Proc.devRef .tc main_arg1) : IVec (shape1 16) 32)) (m (c, Proc.devRef .tc main_arg1) : IVec (shape1 16) 32) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v2 (c : Dev nD) : V₁ m c (Proc.devRef .tc main_v2) = Words.fdiv (subi (Words.cum (m (c, Proc.devRef .tc main_arg1) : IVec (shape1 16) 32)) (m (c, Proc.devRef .tc main_arg1) : IVec (shape1 16) 32)) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v11 (c : Dev nD) : V₁ m c (Proc.devRef .tc main_v11) = Words.cnt (m (c, Proc.devRef .tc main_arg1) : IVec (shape1 16) 32) (Words.cum (m (c, Proc.devRef .tc main_arg1) : IVec (shape1 16) 32)) (Words.fdiv (subi (Words.cum (m (c, Proc.devRef .tc main_arg1) : IVec (shape1 16) 32)) (m (c, Proc.devRef .tc main_arg1) : IVec (shape1 16) 32))) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v12 (c : Dev nD) : V₁ m c (Proc.devRef .tc main_v12) = Words.total (Words.cnt (m (c, Proc.devRef .tc main_arg1) : IVec (shape1 16) 32) (Words.cum (m (c, Proc.devRef .tc main_arg1) : IVec (shape1 16) 32)) (Words.fdiv (subi (Words.cum (m (c, Proc.devRef .tc main_arg1) : IVec (shape1 16) 32)) (m (c, Proc.devRef .tc main_arg1) : IVec (shape1 16) 32)))) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem V₁_main_v13 (c : Dev nD) : V₁ m c (Proc.devRef .tc main_v13) = Words.cum (Words.cnt (m (c, Proc.devRef .tc main_arg1) : IVec (shape1 16) 32) (Words.cum (m (c, Proc.devRef .tc main_arg1) : IVec (shape1 16) 32)) (Words.fdiv (subi (Words.cum (m (c, Proc.devRef .tc main_arg1) : IVec (shape1 16) 32)) (m (c, Proc.devRef .tc main_arg1) : IVec (shape1 16) 32)))) := by
  unfold V₁
  simp only [hostOps0_plain, hostOps0_1, hostOps0_2_plain, hostOps0_3, hostOps0_4_plain, hostOps0_5, hostOps0_6_plain, hostOps0_7, hostOps0_8_plain, List.flatten_cons, List.flatten_nil, List.append_nil, List.cons_append, List.nil_append]
  after_results_simp
  all_goals (try simp only [id_eq])
  all_goals (try with_reducible rfl)

set_option maxHeartbeats 1600000 in
theorem after_main_v26 (X : Valuation τ sig (Elt F)) : StableHlo.after hostOps0_9 X (Proc.devRef .tc main_v26) = (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32)) := by
  simp only [hostOps0_9]
  after_results_simp

set_option maxHeartbeats 1600000 in
theorem after_main_v42 (X : Valuation τ sig (Elt F)) : StableHlo.after hostOps0_9 X (Proc.devRef .tc main_v42) = (Words.tile gather_S16_S111x1_S111_n_0_n_n_0_1_1 (X (Proc.devRef .tc main_v2) : IVec (shape1 16) 32) (subi (X (Proc.devRef .tc main_v13) : IVec (shape1 16) 32) (X (Proc.devRef .tc main_v11) : IVec (shape1 16) 32)) (Words.visit (X (Proc.devRef .tc main_v12) : IVec (shape0) 32)) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32))) := by
  simp only [hostOps0_9]
  after_results_simp

set_option maxHeartbeats 1600000 in
theorem after_main_v54 (X : Valuation τ sig (Elt F)) : StableHlo.after hostOps0_9 X (Proc.devRef .tc main_v54) = Words.first gather_S16_S111x1_S111_n_0_n_n_0_1_1 (X (Proc.devRef .tc main_v1) : IVec (shape1 16) 32) (Words.tile gather_S16_S111x1_S111_n_0_n_n_0_1_1 (X (Proc.devRef .tc main_v2) : IVec (shape1 16) 32) (subi (X (Proc.devRef .tc main_v13) : IVec (shape1 16) 32) (X (Proc.devRef .tc main_v11) : IVec (shape1 16) 32)) (Words.visit (X (Proc.devRef .tc main_v12) : IVec (shape0) 32)) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32))) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32)) := by
  simp only [hostOps0_9]
  after_results_simp

set_option maxHeartbeats 1600000 in
theorem after_main_v66 (X : Valuation τ sig (Elt F)) : StableHlo.after hostOps0_9 X (Proc.devRef .tc main_v66) = Words.last gather_S16_S111x1_S111_n_0_n_n_0_1_1 (X (Proc.devRef .tc main_v0) : IVec (shape1 16) 32) (Words.tile gather_S16_S111x1_S111_n_0_n_n_0_1_1 (X (Proc.devRef .tc main_v2) : IVec (shape1 16) 32) (subi (X (Proc.devRef .tc main_v13) : IVec (shape1 16) 32) (X (Proc.devRef .tc main_v11) : IVec (shape1 16) 32)) (Words.visit (X (Proc.devRef .tc main_v12) : IVec (shape0) 32)) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32))) (Words.expert (X (Proc.devRef .tc main_v12) : IVec (shape0) 32) (subi (X (Proc.devRef .tc main_v13) : IVec (shape1 16) 32) (X (Proc.devRef .tc main_v11) : IVec (shape1 16) 32)) (X (Proc.devRef .tc main_v11) : IVec (shape1 16) 32)) := by
  simp only [hostOps0_9]
  after_results_simp

set_option maxHeartbeats 1600000 in
theorem after_main_v67 (X : Valuation τ sig (Elt F)) : StableHlo.after hostOps0_9 X (Proc.devRef .tc main_v67) = broadcastInDim (shape1 1) ![] Words.hb1 (X (Proc.devRef .tc main_v12) : IVec (shape0) 32) := by
  simp only [hostOps0_9]
  after_results_simp

section Values
variable (c : Dev nD) {f : ℕ → ℕ} (hf : Sched.P f 16 = 49152)
  (hg : ∀ i : Fin 16, (m (c, Proc.devRef .tc main_arg1) : IVec (shape1 16) 32) (ix1 i) = BitVec.ofNat 32 (f i.val))
include hf hg

/-- The table of experts. -/
theorem V_expert (p : Fin 111) : (V m c main_v26 : IVec (shape1 111) 32) (ix1 p) = BitVec.ofNat 32 (Sched.ex f p.val) := by
  rw [V_eq, after_main_v26, V₁_main_v12, V₁_main_v13, V₁_main_v11]
  exact Words.expert_ap hf _ hg _ (Words.cnt_ap hf _ hg) p

/-- The table of tiles. -/
theorem V_tile (p : Fin 111) : (V m c main_v42 : IVec (shape1 111) 32) (ix1 p) = BitVec.ofNat 32 (Sched.tl f p.val) := by
  rw [V_eq, after_main_v42, V₁_main_v12, V₁_main_v13, V₁_main_v11, V₁_main_v2]
  exact Words.tile_ap hf _ hg _ (Words.cnt_ap hf _ hg) gather_S16_S111x1_S111_n_0_n_n_0_1_1 rfl rfl rfl rfl p

/-- The table of first rows. -/
theorem V_first (p : Fin 111) : (V m c main_v54 : IVec (shape1 111) 32) (ix1 p) = BitVec.ofNat 32 (Sched.lo f p.val) := by
  rw [V_eq, after_main_v54, V₁_main_v12, V₁_main_v13, V₁_main_v11, V₁_main_v2, V₁_main_v1]
  exact Words.first_ap hf _ hg _ (Words.cnt_ap hf _ hg) gather_S16_S111x1_S111_n_0_n_n_0_1_1 rfl rfl rfl rfl _ p
    (Words.tile_ap hf _ hg _ (Words.cnt_ap hf _ hg) gather_S16_S111x1_S111_n_0_n_n_0_1_1 rfl rfl rfl rfl p)

/-- The table of last rows. -/
theorem V_last (p : Fin 111) : (V m c main_v66 : IVec (shape1 111) 32) (ix1 p) = BitVec.ofNat 32 (Sched.hi f p.val) := by
  rw [V_eq, after_main_v66, V₁_main_v12, V₁_main_v13, V₁_main_v11, V₁_main_v2, V₁_main_v0]
  exact Words.last_ap hf _ hg _ (Words.cnt_ap hf _ hg) gather_S16_S111x1_S111_n_0_n_n_0_1_1 rfl rfl rfl rfl _ p
    (Words.tile_ap hf _ hg _ (Words.cnt_ap hf _ hg) gather_S16_S111x1_S111_n_0_n_n_0_1_1 rfl rfl rfl rfl p)

/-- The number of visits. -/
theorem V_total (p : Fin 1) : (V m c main_v67 : IVec (shape1 1) 32) (ix1 p) = BitVec.ofNat 32 (Sched.tot f) := by
  rw [V_eq, after_main_v67, V₁_main_v12, bc0]
  exact Words.total_ap hf _ hg _ (Words.cnt_ap hf _ hg) _

end Values

end Cert.KernelIdeal
-- ==== Proof.KernelIdealRun.lean ====
/-
  THE WHOLE RUN. What is said of the buffers between the visits is a parameter: a statement `I t` about the two scratch buffers before visit
  `t`, and statements `Q3 t`, `Q4 t` about the blocks of the two results that visit `t` leaves. Given that one visit carries them on
  (`Holds`), the program terminates, leaves its arguments as they were, and every block it wrote back satisfied them.
-/
module

public import proofs.«01_k».proof.Proof.KernelIdealBody
public import proofs.«01_k».proof.Proof.KernelIdealRegion
public import proofs.«01_k».proof.Proof.Grouped
public import proofs.«01_k».proof.Proof.Gen.KernelIdeal.Loops
public import proofs.«01_k».proof.Proof.Gen.KernelIdeal.Launch
public import Idealize.ShloMosaic.Lib.Exec
public import Idealize.ShloMosaic.Lib.Tactic
public import Idealize.ShloMosaic.Lib.Pipeline.Kit

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

open Idealize.ShloMosaic.ValueIdx Idealize.ShloMosaic.Routing Idealize.ShloMosaic.Pipeline

/-! ## One visit, its three cases together -/

set_option maxHeartbeats 1000000 in
theorem body_all (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)
   (R : BufTy.Contents (Elt F) arg9.view.ty → BufTy.Contents (Elt F) arg10.view.ty → BufTy.Contents (Elt F) arg11.view.ty → BufTy.Contents (Elt F) arg12.view.ty → Prop)
   (hK : ∀ (h1 : k0_cond1 i (arg5.view.readAt (Elt F) (Rect.unit (s := S1) ![0] S1.size inb_S1_S1_0).toLoadRect f5 (Shape.Idx.first (numel1_S1.symm ▸ Nat.one_pos))) = 1#1) (h2 : ¬ Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1),
     R (arg9.view.writes (Elt F) f9 (body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.1) (arg10.view.writes (Elt F) f10 (body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.1) f11 (arg12.view.writes (Elt F) f12 (body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2))
   (hF : ∀ (h1 : k0_cond1 i (arg5.view.readAt (Elt F) (Rect.unit (s := S1) ![0] S1.size inb_S1_S1_0).toLoadRect f5 (Shape.Idx.first (numel1_S1.symm ▸ Nat.one_pos))) = 1#1) (h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1),
     R (arg9.view.writes (Elt F) f9 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.1) (arg10.view.writes (Elt F) f10 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.1) (arg11.view.writes (Elt F) f11 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.1) (arg12.view.writes (Elt F) f12 (body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.2))
   (hI : ∀ (h1 : ¬ k0_cond1 i (arg5.view.readAt (Elt F) (Rect.unit (s := S1) ![0] S1.size inb_S1_S1_0).toLoadRect f5 (Shape.Idx.first (numel1_S1.symm ▸ Nat.one_pos))) = 1#1), R f9 f10 f11 f12) (E : Set ℕ) :
   (iprop((arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄) ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12) (fun _ => iprop(∃ g9 g10 g11 g12, ⌜R g9 g10 g11 g12⌝ ∗ (arg1.view.loc (c : Thread nD τ) ↦[arg1.view.set]{fullShare.right} f1) ∗ (arg2.view.loc (c : Thread nD τ) ↦[arg2.view.set]{fullShare.right} f2) ∗ (arg3.view.loc (c : Thread nD τ) ↦[arg3.view.set]{fullShare.right} f3) ∗ (arg4.view.loc (c : Thread nD τ) ↦[arg4.view.set]{fullShare.right} f4) ∗ (arg5.view.loc (c : Thread nD τ) ↦[arg5.view.set]{fullShare.right} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12))) := by
  by_cases h1 : k0_cond1 i (arg5.view.readAt (Elt F) (Rect.unit (s := S1) ![0] S1.size inb_S1_S1_0).toLoadRect f5 (Shape.Idx.first (numel1_S1.symm ▸ Nat.one_pos))) = 1#1
  · by_cases h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1
    · refine triple_restated ((body_fresh c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).2 E f9 f10) rfl .rfl fun _ => ?_
      iintro ⟨H1, H2, H3, H4, H5, H6, H7, H8, H9, H10, H11, H12⟩
      iexists _, _, _, _
      isplitr
      · ipureintro; exact hF h1 h2
      · sl_close
    · refine triple_restated ((body_kept c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).2 E f9 f10) rfl .rfl fun _ => ?_
      iintro ⟨H1, H2, H3, H4, H5, H6, H7, H8, H9, H10, H11, H12⟩
      iexists _, _, _, _
      isplitr
      · ipureintro; exact hK h1 h2
      · sl_close
  · refine triple_restated (body_idle c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 E f9 f10) rfl .rfl fun _ => ?_
    iintro ⟨H1, H2, H3, H4, H5, H6, H7, H8, H9, H10, H11, H12⟩
    iexists _, _, _, _
    isplitr
    · ipureintro; exact hI h1
    · sl_close

/-! ## The tables the kernel runs at -/

variable (m : (ℓ : Loc nD τ sig) → Buf (Elt F) ℓ) (ρ : Dev nD → PrngReg)

/-- The five tables' contents. -/
def tabs : pre0.Contents (Elt F) := fun k => V m 0 (pre0.ref k)

theorem tabs_eq (c : Dev nD) (k : Fin pre0.K) : V m c (pre0.ref k) = tabs m k := by
  rw [Subsingleton.elim c 0]; rfl

variable {f : ℕ → ℕ} (hf : Sched.P f 16 = 49152)
  (hg : ∀ c (i : Fin 16), (m (c, Proc.devRef (τ := τ) .tc main_arg1) : IVec (shape1 16) 32) (ix1 i) = BitVec.ofNat 32 (f i.val))
include hf hg

omit hf hg in
theorem emb_word (k n : ℕ) (hk : k = n) (hn : n < 111) (inb : ∀ a, (![k] : Fin 1 → ℕ) a + S1.size a ≤ S111.size a) (x : S1.Idx) :
    ((Rect.unit (s := S111) ![k] S1.size inb).emb x : S111.Idx) = ix1 ⟨n, hn⟩ := by
  subst hk
  rw [eq_ix1 ((Rect.unit (s := S111) ![k] S1.size inb).emb x)]
  refine congrArg ix1 (Fin.ext ?_)
  have : (x 0).val = 0 := by have h := (x 0).isLt; change _ < 1 at h; omega
  show k + 1 * (x 0).val = k
  omega

omit hf hg in
theorem coord (t : grid0.Coords) : (Scalar.indexCast (BitVec.ofNat 32 (t 0).val)).toNat = (t 0).val := by
  have h : (t 0).val < 111 := (t 0).isLt
  show (BitVec.ofNat 32 (t 0).val).toNat = _
  rw [BitVec.toNat_ofNat]; omega

theorem tile_word (t : grid0.Coords) : (tabs m).at 1 (Rect.unit (s := S111) ![(Scalar.indexCast (BitVec.ofNat 32 (t 0).val)).toNat] S1.size (k0_off1_inb t)) numel1_S1
    = BitVec.ofNat 32 (Sched.tl f (t 0).val) := by
  refine Eq.trans ?_ (V_tile m 0 hf (hg 0) ⟨(t 0).val, (t 0).isLt⟩)
  exact congrArg (V m 0 main_v42 : IVec (shape1 111) 32) (emb_word _ _ (coord t) (t 0).isLt _ _)

theorem expert_word (t : grid0.Coords) : (tabs m).at 0 (Rect.unit (s := S111) ![(Scalar.indexCast (BitVec.ofNat 32 (t 0).val)).toNat] S1.size (k0_off1_inb t)) numel1_S1
    = BitVec.ofNat 32 (Sched.ex f (t 0).val) := by
  refine Eq.trans ?_ (V_expert m 0 hf (hg 0) ⟨(t 0).val, (t 0).isLt⟩)
  exact congrArg (V m 0 main_v26 : IVec (shape1 111) 32) (emb_word _ _ (coord t) (t 0).isLt _ _)

/-- The windows of `x`, `y` and `s` stand at the tile, those of the weights and the scales at the expert. -/
theorem ix_tile (t : grid0.Coords) : cc0_transform_0 k0_off1_inb numel1_S1 (tabs m) t = ![Sched.tl f (t 0).val, 0] := by
  have h := Sched.tl_lt f hf (t 0).val
  unfold cc0_transform_0
  dsimp only
  rw [tile_word m hf hg t, BitVec.toNat_ofNat, Nat.mod_eq_of_lt (by omega)]
  rfl

theorem ix_expert (t : grid0.Coords) : cc0_transform_1 k0_off1_inb numel1_S1 (tabs m) t = ![Sched.ex f (t 0).val, 0, 0] := by
  have h := Sched.ex_lt f hf (t 0).val
  unfold cc0_transform_1
  dsimp only
  rw [expert_word m hf hg t, BitVec.toNat_ofNat, Nat.mod_eq_of_lt (by omega)]
  rfl

theorem ok : ok0 (tabs m) := by
  have a0 := ix_tile m hf hg
  have a1 := ix_expert m hf hg
  have a2 : ∀ t, cc0_transform_2 k0_off1_inb numel1_S1 (tabs m) t = ![Sched.ex f (t 0).val, 0, 0] := a1
  have a3 : ∀ t, cc0_transform_3 k0_off1_inb numel1_S1 (tabs m) t = ![Sched.tl f (t 0).val, 0] := a0
  have a4 : ∀ t, cc0_transform_4 k0_off1_inb numel1_S1 (tabs m) t = ![Sched.tl f (t 0).val, 0] := a0
  refine ⟨fun i => ⟨?_, .inr (Affine.block_words_dvd (by decide) (by decide))⟩, fun i => ⟨?_, .inr (Affine.block_words_dvd (by decide) (by decide))⟩, fun i => ⟨?_, .inr (Affine.block_words_dvd (by decide) (by decide))⟩, fun i => ⟨?_, .inr (Affine.block_words_dvd (by decide) (by decide))⟩, fun i => ⟨?_, .inl rfl⟩⟩
  all_goals
    have h1 := Sched.tl_lt f hf (i 0).val
    have h2 := Sched.ex_lt f hf (i 0).val
    simp only [a0, a1, a2, a3, a4]
  · intro a; match a with
    | ⟨0, _⟩ => show (Sched.tl f (i 0).val + 1) * 512 ≤ 49152; omega
    | ⟨1, _⟩ => show (0 + 1) * 2048 ≤ 2048; omega
  · intro a; match a with
    | ⟨0, _⟩ => show (Sched.ex f (i 0).val + 1) * 1 ≤ 16; omega
    | ⟨1, _⟩ => show (0 + 1) * 1024 ≤ 1024; omega
    | ⟨2, _⟩ => show (0 + 1) * 6144 ≤ 6144; omega
  · intro a; match a with
    | ⟨0, _⟩ => show (Sched.ex f (i 0).val + 1) * 1 ≤ 16; omega
    | ⟨1, _⟩ => show (0 + 1) * 16 ≤ 16; omega
    | ⟨2, _⟩ => show (0 + 1) * 6144 ≤ 6144; omega
  · intro a; match a with
    | ⟨0, _⟩ => show (Sched.tl f (i 0).val + 1) * 512 ≤ 49152; omega
    | ⟨1, _⟩ => show (0 + 1) * 3072 ≤ 3072; omega
  · intro a; match a with
    | ⟨0, _⟩ => show (Sched.tl f (i 0).val + 1) * 512 ≤ 49152; omega
    | ⟨1, _⟩ => show (0 + 1) * 1 ≤ 1; omega

omit hf hg

/-- The tables, as contents the pipeline admits. -/
def adm (hok : ok0 (tabs m)) : (pcfg0 (F := F)).Adm := ⟨tabs m, hok⟩

/-! ## The proof data -/

section Run

variable (hok : ok0 (tabs m))
  (I : ℕ → (S2048x6144.Idx → Elt F .bf16) → (S512x3072.Idx → Elt F .f32) → Prop)
  (Q3 : ℕ → (S512x3072.Idx → Elt F .fp8e4m3) → Prop) (Q4 : ℕ → (S512x1.Idx → Elt F .f32) → Prop)

/-- Between the visits: the scratch buffers as `I` says, the tables and the generator register. -/
def Inv (c : Dev nD) (t : ℕ) : sProp 𝕄 :=
  iprop((∃ W H, ⌜I t W H⌝ ∗ ((c : Thread nD τ).loc cc0_scratch0 ↦{fullShare} W) ∗ ((c : Thread nD τ).loc cc0_scratch1 ↦{fullShare} H))
    ∗ Pipeline.ΦT (U := UR sig nD τ) pre0 (tabs m) c ∗ ∃ r, prngReg c r)

/-- The proof data of the pipeline. -/
def rdat (c : Dev nD) : RDat τ (Elt F) Unit ℕ (UR sig nD τ) ℕ (cfg0 (adm m hok)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => Q3 t.val X
    | ⟨4, _⟩ => fun _ X => Q4 t.val X
  Φ t := Inv m I c t.val
  q _ := fullShare
  owed _ := 0

/-- What one visit has to carry on, in its three cases. -/
structure Holds : Prop where
  kept : ∀ (c : Dev nD) (t : Fin (cfg0 (adm m hok)).N) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) f6 f7 f8 f9 f10 f11 f12 (Y : (w : Fin 5) → (win0 (adm m hok) w).block.Idx → Elt F (win0 (adm m hok) w).elt),
    (∀ w, (rdat m hok I Q3 Q4 c).Finds w t (Y w)) → arg6.view.read (Elt F) f6 = Y 0 → arg7.view.read (Elt F) f7 = Y 1 → arg8.view.read (Elt F) f8 = Y 2 → I t.val f11 f12 →
    ∀ (h1 : k0_cond1 (grid0.coords t) ((Memref.whole main_v67).view.readAt (Elt F) (Rect.unit (s := S1) ![0] S1.size inb_S1_S1_0).toLoadRect (V m c main_v67) (Shape.Idx.first (numel1_S1.symm ▸ Nat.one_pos))) = 1#1) (h2 : ¬ Scalar.cmpi .ne (Scalar.extui (Scalar.ori (Scalar.cmpi .eq (BitVec.ofNat 32 (grid0.coords t 0).val) 0#32) (Scalar.cmpi .ne ((Memref.whole main_v26).view.readAt (Elt F) (Rect.unit (s := S111) (k0_off2 (grid0.coords t)) S1.size (k0_off2_inb (grid0.coords t))).toLoadRect (V m c main_v26) (Shape.Idx.first (numel1_S1.symm ▸ Nat.one_pos))) ((Memref.whole main_v26).view.readAt (Elt F) (Rect.unit (s := S111) (k0_off3 (grid0.coords t)) S1.size (k0_off3_inb (grid0.coords t))).toLoadRect (V m c main_v26) (Shape.Idx.first (numel1_S1.symm ▸ Nat.one_pos)))) : BitVec 1) : BitVec 32) 0#32 = 1#1),
      Q3 t.val (arg9.view.read (Elt F) (arg9.view.writes (Elt F) f9 (body_kept c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.1))
      ∧ Q4 t.val (arg10.view.read (Elt F) (arg10.view.writes (Elt F) f10 (body_kept c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.1))
      ∧ I (t.val + 1) f11 ((Memref.whole cc0_scratch1).view.writes (Elt F) f12 (body_kept c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.2)
  fresh : ∀ (c : Dev nD) (t : Fin (cfg0 (adm m hok)).N) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) f6 f7 f8 f9 f10 f11 f12 (Y : (w : Fin 5) → (win0 (adm m hok) w).block.Idx → Elt F (win0 (adm m hok) w).elt),
    (∀ w, (rdat m hok I Q3 Q4 c).Finds w t (Y w)) → arg6.view.read (Elt F) f6 = Y 0 → arg7.view.read (Elt F) f7 = Y 1 → arg8.view.read (Elt F) f8 = Y 2 → I t.val f11 f12 →
    ∀ (h1 : k0_cond1 (grid0.coords t) ((Memref.whole main_v67).view.readAt (Elt F) (Rect.unit (s := S1) ![0] S1.size inb_S1_S1_0).toLoadRect (V m c main_v67) (Shape.Idx.first (numel1_S1.symm ▸ Nat.one_pos))) = 1#1) (h2 : Scalar.cmpi .ne (Scalar.extui (Scalar.ori (Scalar.cmpi .eq (BitVec.ofNat 32 (grid0.coords t 0).val) 0#32) (Scalar.cmpi .ne ((Memref.whole main_v26).view.readAt (Elt F) (Rect.unit (s := S111) (k0_off2 (grid0.coords t)) S1.size (k0_off2_inb (grid0.coords t))).toLoadRect (V m c main_v26) (Shape.Idx.first (numel1_S1.symm ▸ Nat.one_pos))) ((Memref.whole main_v26).view.readAt (Elt F) (Rect.unit (s := S111) (k0_off3 (grid0.coords t)) S1.size (k0_off3_inb (grid0.coords t))).toLoadRect (V m c main_v26) (Shape.Idx.first (numel1_S1.symm ▸ Nat.one_pos)))) : BitVec 1) : BitVec 32) 0#32 = 1#1),
      Q3 t.val (arg9.view.read (Elt F) (arg9.view.writes (Elt F) f9 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.1))
      ∧ Q4 t.val (arg10.view.read (Elt F) (arg10.view.writes (Elt F) f10 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.1))
      ∧ I (t.val + 1) ((Memref.whole cc0_scratch0).view.writes (Elt F) f11 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.2.1)
          ((Memref.whole cc0_scratch1).view.writes (Elt F) f12 (body_fresh c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m c main_v26) (V m c main_v42) (V m c main_v54) (V m c main_v66) (V m c main_v67) f6 f7 f8 f11 f12 h1 h2).1.2.2.2)
  idle : ∀ (c : Dev nD) (t : Fin (cfg0 (adm m hok)).N) f11 f12 (Y : (w : Fin 5) → (win0 (adm m hok) w).block.Idx → Elt F (win0 (adm m hok) w).elt),
    (∀ w, (rdat m hok I Q3 Q4 c).Finds w t (Y w)) → I t.val f11 f12 →
    ∀ (h1 : ¬ k0_cond1 (grid0.coords t) ((Memref.whole main_v67).view.readAt (Elt F) (Rect.unit (s := S1) ![0] S1.size inb_S1_S1_0).toLoadRect (V m c main_v67) (Shape.Idx.first (numel1_S1.symm ▸ Nat.one_pos))) = 1#1), Q3 t.val (Y 3) ∧ Q4 t.val (Y 4) ∧ I (t.val + 1) f11 f12

theorem tables_five (c : Dev nD) :
    (Pipeline.ΦT (U := UR sig nD τ) pre0 (tabs m) c : sProp 𝕄)
      = iprop(((c : Thread nD τ).loc main_v26 ↦{fullShare.right} V m c main_v26) ∗ ((c : Thread nD τ).loc main_v42 ↦{fullShare.right} V m c main_v42)
          ∗ ((c : Thread nD τ).loc main_v54 ↦{fullShare.right} V m c main_v54) ∗ ((c : Thread nD τ).loc main_v66 ↦{fullShare.right} V m c main_v66)
          ∗ ((c : Thread nD τ).loc main_v67 ↦{fullShare.right} V m c main_v67)) := by
  unfold Pipeline.ΦT Pipeline.prefHeld
  obtain rfl := Subsingleton.elim c 0
  exact bigSep_W0 _

set_option maxHeartbeats 2000000 in
set_option backward.isDefEq.respectTransparency.types false in
theorem obligation (hH : Holds m hok I Q3 Q4) (c : Dev nD) : (rdat m hok I Q3 Q4 c).BodyObligation (defs₀ (F := F)) Variants.none () Set.univ := by
  intro t Y hY
  rw [bigSep_W0, bigSep_W0]
  unfold defs₀; rw [Defs.onTc_tc]
  show iprop(Inv m I c t.val ∗ _ ∗ _) ⊢ wp _ _ _ _ (fun _ => iprop(Inv m I c (t.val + 1) ∗ _ ∗ _))
  unfold Inv owns
  rw [tables_five]
  iintro ⟨⟨⟨%W, %H, %hI, HW, HH⟩, ⟨T1, T2, T3, T4, T5⟩, HR⟩, Ho, ⟨%g6, %e6, S6⟩, ⟨%g7, %e7, S7⟩, ⟨%g8, %e8, S8⟩, ⟨%g9, %e9, S9⟩, ⟨%g10, %e10, S10⟩⟩
  have key := body_all c (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) (spec0_0.stage ((cfg0 (adm m hok)).slots t 0)) (hstage0_0 (((cfg0 (adm m hok)).slots t 0).cast nbuf0_0)) (spec0_1.stage ((cfg0 (adm m hok)).slots t 1)) (hstage0_1 (((cfg0 (adm m hok)).slots t 1).cast nbuf0_1)) (spec0_2.stage ((cfg0 (adm m hok)).slots t 2)) (hstage0_2 (((cfg0 (adm m hok)).slots t 2).cast nbuf0_2)) (spec0_3.stage ((cfg0 (adm m hok)).slots t 3)) (hstage0_3 (((cfg0 (adm m hok)).slots t 3).cast nbuf0_3)) (spec0_4.stage ((cfg0 (adm m hok)).slots t 4)) (hstage0_4 (((cfg0 (adm m hok)).slots t 4).cast nbuf0_4)) (Memref.whole cc0_scratch0) (Memref.isWhole_whole _) (Memref.whole cc0_scratch1) (Memref.isWhole_whole _) (V m c main_v26) (V m c main_v42) (V m c main_v54) (V m c main_v66) (V m c main_v67) g6 g7 g8 g9 g10 W H
    (fun g9 g10 W H => Q3 t.val ((spec0_3.stage ((cfg0 (adm m hok)).slots t 3)).view.read (Elt F) g9) ∧ Q4 t.val ((spec0_4.stage ((cfg0 (adm m hok)).slots t 4)).view.read (Elt F) g10) ∧ I (t.val + 1) W H)
    (hH.kept c t (spec0_0.stage ((cfg0 (adm m hok)).slots t 0)) (hstage0_0 (((cfg0 (adm m hok)).slots t 0).cast nbuf0_0)) (spec0_1.stage ((cfg0 (adm m hok)).slots t 1)) (hstage0_1 (((cfg0 (adm m hok)).slots t 1).cast nbuf0_1)) (spec0_2.stage ((cfg0 (adm m hok)).slots t 2)) (hstage0_2 (((cfg0 (adm m hok)).slots t 2).cast nbuf0_2)) (spec0_3.stage ((cfg0 (adm m hok)).slots t 3)) (hstage0_3 (((cfg0 (adm m hok)).slots t 3).cast nbuf0_3)) (spec0_4.stage ((cfg0 (adm m hok)).slots t 4)) (hstage0_4 (((cfg0 (adm m hok)).slots t 4).cast nbuf0_4)) g6 g7 g8 g9 g10 W H Y hY e6 e7 e8 hI)
    (hH.fresh c t (spec0_0.stage ((cfg0 (adm m hok)).slots t 0)) (hstage0_0 (((cfg0 (adm m hok)).slots t 0).cast nbuf0_0)) (spec0_1.stage ((cfg0 (adm m hok)).slots t 1)) (hstage0_1 (((cfg0 (adm m hok)).slots t 1).cast nbuf0_1)) (spec0_2.stage ((cfg0 (adm m hok)).slots t 2)) (hstage0_2 (((cfg0 (adm m hok)).slots t 2).cast nbuf0_2)) (spec0_3.stage ((cfg0 (adm m hok)).slots t 3)) (hstage0_3 (((cfg0 (adm m hok)).slots t 3).cast nbuf0_3)) (spec0_4.stage ((cfg0 (adm m hok)).slots t 4)) (hstage0_4 (((cfg0 (adm m hok)).slots t 4).cast nbuf0_4)) g6 g7 g8 g9 g10 W H Y hY e6 e7 e8 hI)
    (fun h1 => by have := hH.idle c t W H Y hY hI h1; rw [← e9, ← e10] at this; exact this) Set.univ
  rw [show (Memref.whole main_v26).view.set = Finset.univ from View.set_whole _, show (Memref.whole main_v42).view.set = Finset.univ from View.set_whole _,
    show (Memref.whole main_v54).view.set = Finset.univ from View.set_whole _, show (Memref.whole main_v66).view.set = Finset.univ from View.set_whole _,
    show (Memref.whole main_v67).view.set = Finset.univ from View.set_whole _, show (Memref.whole cc0_scratch0).view.set = Finset.univ from View.set_whole _,
    show (Memref.whole cc0_scratch1).view.set = Finset.univ from View.set_whole _] at key
  iapply (wp_wand_r Idealize.ShloMosaic.frame (wpE (defs₀ (F := F)) Variants.none (c : Thread nD τ) none) Set.univ)
  isplitl [T1 T2 T3 T4 T5 S6 S7 S8 S9 S10 HW HH]
  · iapply key
    isplitl [T1]; · iexact T1
    isplitl [T2]; · iexact T2
    isplitl [T3]; · iexact T3
    isplitl [T4]; · iexact T4
    isplitl [T5]; · iexact T5
    isplitl [S6]; · iexact S6
    isplitl [S7]; · iexact S7
    isplitl [S8]; · iexact S8
    isplitl [S9]; · iexact S9
    isplitl [S10]; · iexact S10
    isplitl [HW]; · iexact HW
    iexact HH
  iintro %_ ⟨%k9, %k10, %W', %H', %hR, T1, T2, T3, T4, T5, S6, S7, S8, S9, S10, HW, HH⟩
  isplitl [T1 T2 T3 T4 T5 HW HH HR]
  · isplitl [HW HH]
    · iexists W', H'
      isplitr
      · ipureintro; exact hR.2.2
      isplitl [HW]; · iexact HW
      iexact HH
    isplitr [HR]
    · isplitl [T1]; · iexact T1
      isplitl [T2]; · iexact T2
      isplitl [T3]; · iexact T3
      isplitl [T4]; · iexact T4
      iexact T5
    · iexact HR
  isplitl [Ho]; · iexact Ho
  isplitl [S6]
  · iexists Y 0; isplitr
    · ipureintro; exact rfl
    iexists g6; isplitr
    · ipureintro; exact e6
    iexact S6
  isplitl [S7]
  · iexists Y 1; isplitr
    · ipureintro; exact rfl
    iexists g7; isplitr
    · ipureintro; exact e7
    iexact S7
  isplitl [S8]
  · iexists Y 2; isplitr
    · ipureintro; exact rfl
    iexists g8; isplitr
    · ipureintro; exact e8
    iexact S8
  isplitl [S9]
  · iexists _; isplitr
    · ipureintro; exact hR.1
    iexists k9; isplitr
    · ipureintro; exact rfl
    iexact S9
  · iexists _; isplitr
    · ipureintro; exact hR.2.1
    iexists k10; isplitr
    · ipureintro; exact rfl
    iexact S10

set_option backward.isDefEq.respectTransparency.types false in
set_option maxHeartbeats 1600000 in
/-- The launch. -/
theorem run_main (hH : Holds m hok I Q3 Q4) (h0 : ∀ W H, I 0 W H) :
    θ_run defs (onTc (τ := τ) (main (F := F))) (s₀ m ρ)
      (fun r => RDat.FramePost (cfg0 (adm m hok)) (rdat m hok I Q3 Q4) (V m) r ∧ r.2.sem = fun _ => 0) :=
  RDat.θ_run_frameP_track (Q' := _) pcfgs (fun _ => adm m hok) (0 : Fin 1) launch0 defs₀ Variants.none (rdat m hok I Q3 Q4) m ρ main
    (hbody := obligation m hok I Q3 Q4 hH) (hshare := fun c w => by unfold RDat.share; split <;> rfl)
    (howed := fun _ _ => rfl) (V := V m) (hmain := hmain m Variants.none) (hA := fun _ _ => rfl) (hpf := tabs_eq m)
    (hin := fun c => by
      show _ ⊢ Inv m I c 0
      unfold Pipeline.ΦA Inv
      rw [scopedRest0_eq]
      iintro ⟨⟨⟨⟨%W, HW⟩, ⟨%H, HH⟩⟩, HR⟩, HT⟩
      isplitl [HW HH]
      · iexists W, H
        isplitr
        · ipureintro; exact h0 W H
        isplitl [HW]; · iexact HW
        iexact HH
      isplitl [HT]; · iexact HT
      iexact HR)
    (hout := fun c => by
      show Inv m I c _ ⊢ _
      unfold Pipeline.ΦA Inv
      rw [scopedRest0_eq]
      iintro ⟨⟨%W, %H, -, HW, HH⟩, -, HR⟩
      isplitl [HW HH]
      · isplitl [HW]
        · iexists W; iexact HW
        · iexists H; iexact HH
      iexact HR)

omit hok in
theorem rest_arg1 : main_arg1 ∈ Pipeline.restRefs sig spec0 := Pipeline.mem_restRefs_of main_arg1 (by decide) (by decide)

set_option maxHeartbeats 800000 in
/-- The run: the arguments end as they were, the two results hold what the write-backs of the visits can make of them. -/
theorem run (hH : Holds m hok I Q3 Q4) (h0 : ∀ W H, I 0 W H) :
    θ_run defs (onTc (τ := τ) (main (F := F))) ⟨m, fun _ => 0, ρ⟩ (fun r =>
      (∀ c : Dev nD, (rdat m hok I Q3 Q4 c).ArrAt 3 grid0.N (r.2.mem ((c.tc : Thread nD τ).loc main_v68_0))
        ∧ (rdat m hok I Q3 Q4 c).ArrAt 4 grid0.N (r.2.mem ((c.tc : Thread nD τ).loc main_v68_1)))
      ∧ (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run defs _ _).mono (fun r h => ⟨fun c => ⟨(h.1 c).1 3, (h.1 c).1 4⟩, fun c => ⟨?_, ?_, ?_, ?_⟩, h.2⟩) (run_main m ρ hok I Q3 Q4 hH h0)
  · exact (Eq.mp (congrFun (RDat.ArrAt_in (rdat m hok I Q3 Q4 c) 0 rfl _) _) ((h.1 c).1 0)).trans (V_main_arg0 m c)
  · exact ((h.1 c).2 main_arg1 rest_arg1).trans (V_main_arg1 m c)
  · exact (Eq.mp (congrFun (RDat.ArrAt_in (rdat m hok I Q3 Q4 c) 1 rfl _) _) ((h.1 c).1 1)).trans (V_main_arg2 m c)
  · exact (Eq.mp (congrFun (RDat.ArrAt_in (rdat m hok I Q3 Q4 c) 2 rfl _) _) ((h.1 c).1 2)).trans (V_main_arg3 m c)

end Run

/-- The program terminates with its arguments as they were, whatever the values. -/
theorem unharmed [Pre_rows_grouped.Facts]
    (hp : ∀ c : Dev nD, Pre_rows_grouped.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => h.2)
    (run m ρ (ok m (grouped _ (m ((0 : Dev nD), Proc.devRef (τ := τ) .tc main_arg1)) _ _ (hp 0)) fun c => by
        rw [Subsingleton.elim c 0]; exact sizes_ap _)
      (fun _ _ _ => True) (fun _ _ => True) (fun _ _ => True)
      ⟨by intros; trivial, by intros; trivial, by intros; trivial⟩ fun _ _ => trivial)

end Cert.KernelIdeal

end
-- ==== Proof.KernelIdealLists.lean ====
module

public import proofs.«01_k».proof.Proof.KernelIdealBody

/-!
The lists of stores a visit leaves, in one form for both kinds of visit.

A visit that unpacks the weights and one that keeps them write the same three lists of pieces — the
twelve column tiles of the activations, the scale of the rows, the twelve column tiles of the result —
from the rows of `x`, twenty four column tiles of the unpacked weights and the activations held before.
-/

@[expose] public section

set_option maxHeartbeats 1600000

namespace Cert.KernelIdeal

open Idealize.ShloMosaic Gen

variable {F : FTy → Type} [FloatOps F]

/-- One column tile of the activations. -/
noncomputable abbrev tile (lo hi : Elt F .i32) (X : Vec F S512x2048 .bf16) (Wg Wu : Vec F S2048x256 .bf16)
    (h : Vec F S512x256 .f32) : FVec F S512x256 .f32 := k0_pay32 lo hi X Wg X Wu h

/-- The largest magnitude per lane over the twelve column tiles. -/
noncomputable def laneMax (T : Fin 12 → FVec F S512x256 .f32) : FVec F S512x256 .f32 :=
  maximumf (maximumf (maximumf (maximumf (maximumf (maximumf (maximumf (maximumf (maximumf (maximumf (maximumf
    (maximumf (broadcast S512x256 (Scalar.ofBits .f32 0x00000000#32)) (absf (T 0))) (absf (T 1))) (absf (T 2)))
    (absf (T 3))) (absf (T 4))) (absf (T 5))) (absf (T 6))) (absf (T 7))) (absf (T 8))) (absf (T 9)))
    (absf (T 10))) (absf (T 11))

/-- The largest magnitude of each row, scaled. -/
noncomputable def rowScaled (T : Fin 12 → FVec F S512x256 .f32) : FVec F S512x1 .f32 :=
  mulf (shapeCast S512x1 (multiReduction .maximumf [1] S512 (laneMax T) 0xFF800000#32 reduces_S512x256_S512
    (.inl rfl) rfl) shapeCasts_S512_S512x1) (broadcast S512x1 (Scalar.ofBits .f32 0x3B124925#32))

/-- The first step of the exponent search. -/
noncomputable def expo1 (a : FVec F S512x1 .f32) : IVec S512x1 32 :=
  select (cmpf .oge a (bitcastToFloat .f32 (shli (addi (broadcast S512x1 0#32) (broadcast S512x1 128#32))
    (broadcast S512x1 23#32)))) (addi (broadcast S512x1 0#32) (broadcast S512x1 128#32)) (broadcast S512x1 0#32)

/-- The exponent the search finds for each row. -/
noncomputable def expo (a : FVec F S512x1 .f32) : IVec S512x1 32 :=
  k0_pay67 a (expo1 a) (addi (expo1 a) (broadcast S512x1 64#32))

/-- The stores of the activations. -/
noncomputable def hList (T : Fin 12 → FVec F S512x256 .f32) :
    List (View.Piece (Elt F) S512x3072 .f32) :=
  [⟨Rect.unit ![0, 2816] S512x256.size inb_S512x3072_S512x256_0_2816, shapeCast S512x256 (T 11) shapeCasts_S512x256_S512x256⟩,
   ⟨Rect.unit ![0, 2560] S512x256.size inb_S512x3072_S512x256_0_2560, shapeCast S512x256 (T 10) shapeCasts_S512x256_S512x256⟩,
   ⟨Rect.unit ![0, 2304] S512x256.size inb_S512x3072_S512x256_0_2304, shapeCast S512x256 (T 9) shapeCasts_S512x256_S512x256⟩,
   ⟨Rect.unit ![0, 2048] S512x256.size inb_S512x3072_S512x256_0_2048, shapeCast S512x256 (T 8) shapeCasts_S512x256_S512x256⟩,
   ⟨Rect.unit ![0, 1792] S512x256.size inb_S512x3072_S512x256_0_1792, shapeCast S512x256 (T 7) shapeCasts_S512x256_S512x256⟩,
   ⟨Rect.unit ![0, 1536] S512x256.size inb_S512x3072_S512x256_0_1536, shapeCast S512x256 (T 6) shapeCasts_S512x256_S512x256⟩,
   ⟨Rect.unit ![0, 1280] S512x256.size inb_S512x3072_S512x256_0_1280, shapeCast S512x256 (T 5) shapeCasts_S512x256_S512x256⟩,
   ⟨Rect.unit ![0, 1024] S512x256.size inb_S512x3072_S512x256_0_1024, shapeCast S512x256 (T 4) shapeCasts_S512x256_S512x256⟩,
   ⟨Rect.unit ![0, 768] S512x256.size inb_S512x3072_S512x256_0_768, shapeCast S512x256 (T 3) shapeCasts_S512x256_S512x256⟩,
   ⟨Rect.unit ![0, 512] S512x256.size inb_S512x3072_S512x256_0_512, shapeCast S512x256 (T 2) shapeCasts_S512x256_S512x256⟩,
   ⟨Rect.unit ![0, 256] S512x256.size inb_S512x3072_S512x256_0_256, shapeCast S512x256 (T 1) shapeCasts_S512x256_S512x256⟩,
   ⟨Rect.unit ![0, 0] S512x256.size inb_S512x3072_S512x256_0_0, shapeCast S512x256 (T 0) shapeCasts_S512x256_S512x256⟩]

/-- The stores of the result. -/
noncomputable def yList (k : IVec S512x1 32) (Y : Fin 12 → Vec F S512x256 .f32) :
    List (View.Piece (Elt F) S512x3072 .fp8e4m3) :=
  [⟨Rect.unit ![0, 2816] S512x256.size inb_S512x3072_S512x256_0_2816, k0_pay1 (k0_pay70 (F := F) k) (Y 11)⟩,
   ⟨Rect.unit ![0, 2560] S512x256.size inb_S512x3072_S512x256_0_2560, k0_pay1 (k0_pay70 (F := F) k) (Y 10)⟩,
   ⟨Rect.unit ![0, 2304] S512x256.size inb_S512x3072_S512x256_0_2304, k0_pay1 (k0_pay70 (F := F) k) (Y 9)⟩,
   ⟨Rect.unit ![0, 2048] S512x256.size inb_S512x3072_S512x256_0_2048, k0_pay1 (k0_pay70 (F := F) k) (Y 8)⟩,
   ⟨Rect.unit ![0, 1792] S512x256.size inb_S512x3072_S512x256_0_1792, k0_pay1 (k0_pay70 (F := F) k) (Y 7)⟩,
   ⟨Rect.unit ![0, 1536] S512x256.size inb_S512x3072_S512x256_0_1536, k0_pay1 (k0_pay70 (F := F) k) (Y 6)⟩,
   ⟨Rect.unit ![0, 1280] S512x256.size inb_S512x3072_S512x256_0_1280, k0_pay1 (k0_pay70 (F := F) k) (Y 5)⟩,
   ⟨Rect.unit ![0, 1024] S512x256.size inb_S512x3072_S512x256_0_1024, k0_pay1 (k0_pay70 (F := F) k) (Y 4)⟩,
   ⟨Rect.unit ![0, 768] S512x256.size inb_S512x3072_S512x256_0_768, k0_pay1 (k0_pay70 (F := F) k) (Y 3)⟩,
   ⟨Rect.unit ![0, 512] S512x256.size inb_S512x3072_S512x256_0_512, k0_pay1 (k0_pay70 (F := F) k) (Y 2)⟩,
   ⟨Rect.unit ![0, 256] S512x256.size inb_S512x3072_S512x256_0_256, k0_pay1 (k0_pay70 (F := F) k) (Y 1)⟩,
   ⟨Rect.unit ![0, 0] S512x256.size inb_S512x3072_S512x256_0_0, k0_pay1 (k0_pay70 (F := F) k) (Y 0)⟩]

/-- The store of the scale. -/
noncomputable def sList (k : IVec S512x1 32) : List (View.Piece (Elt F) S512x1 .f32) :=
  [⟨Rect.unit ![0, 0] S512x1.size inb_S512x1_S512x1_0_0, k0_pay69 k⟩]

/-- A column tile of the array of the activations. -/
theorem inbH (j : Fin 12) : ∀ a, (![0, 256 * j.val] : Fin 2 → ℕ) a + S512x256.size a ≤ S512x3072.size a := by
  revert j; decide +kernel

/-- A column tile of the array of the weights. -/
theorem inbW (j : Fin 24) : ∀ a, (![0, 256 * j.val] : Fin 2 → ℕ) a + S2048x256.size a ≤ S2048x6144.size a := by
  revert j; decide +kernel

/-- The twelve tiles of the activations after a visit. -/
noncomputable def tiles (lo hi : Elt F .i32) (X : Vec F S512x2048 .bf16) (W : Fin 24 → Vec F S2048x256 .bf16)
    (H : Fin 12 → Vec F S512x256 .f32) (j : Fin 12) : FVec F S512x256 .f32 :=
  tile lo hi X (W ⟨j.val, by omega⟩) (W ⟨j.val + 12, by omega⟩) (H j)

/-- The twelve tiles after a visit, read off the buffers it runs over. -/
noncomputable def newTiles (i : grid0.Coords) (arg3 : Memref sig .tc .smem S111 .i32) (arg4 : Memref sig .tc .smem S111 .i32) (arg6 : Memref sig .tc .vmem S512x2048 .bf16) (arg11 : Memref sig .tc .vmem S2048x6144 .bf16) (arg12 : Memref sig .tc .vmem S512x3072 .f32)
    (f3 : BufTy.Contents (Elt F) arg3.view.ty) (f4 : BufTy.Contents (Elt F) arg4.view.ty) (f6 : BufTy.Contents (Elt F) arg6.view.ty) (f11 : BufTy.Contents (Elt F) arg11.view.ty) (f12 : BufTy.Contents (Elt F) arg12.view.ty) : Fin 12 → FVec F S512x256 .f32 :=
  tiles (F := F) (arg3.view.readAt (Elt F) (Rect.unit (s := S111) (k0_off52 i) S1.size (k0_off52_inb i)).toLoadRect f3 (Shape.Idx.first (numel1_S1.symm ▸ Nat.one_pos)))
    (arg4.view.readAt (Elt F) (Rect.unit (s := S111) (k0_off52 i) S1.size (k0_off52_inb i)).toLoadRect f4 (Shape.Idx.first (numel1_S1.symm ▸ Nat.one_pos)))
    (arg6.view.readAt (Elt F) (Rect.unit (s := S512x2048) ![0, 0] S512x2048.size inb_S512x2048_S512x2048_0_0).toLoadRect f6)
    (fun j => arg11.view.readAt (Elt F) (Rect.unit (s := S2048x6144) ![0, 256 * j.val] S2048x256.size (inbW j)).toLoadRect f11)
    (fun j => arg12.view.readAt (Elt F) (Rect.unit (s := S512x3072) ![0, 256 * j.val] S512x256.size (inbH j)).toLoadRect f12)

/-- The three lists a visit leaves, given its tiles. -/
noncomputable def lists (arg12 : Memref sig .tc .vmem S512x3072 .f32) (T : Fin 12 → FVec F S512x256 .f32) :
    List (View.Piece (Elt F) S512x3072 .fp8e4m3) × List (View.Piece (Elt F) S512x1 .f32) × List (View.Piece (Elt F) S512x3072 .f32) :=
  (yList (expo (rowScaled T)) (fun j => arg12.view.readCov (hList T) (Rect.unit (s := S512x3072) ![0, 256 * j.val] S512x256.size (inbH j)).toLoadRect), sList (expo (rowScaled T)), hList T)

/-- The lists of a visit that keeps the weights. -/
theorem kept_lists  (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : ¬ Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
    (body_kept (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1 = lists arg12 (newTiles i arg3 arg4 arg6 arg11 arg12 f3 f4 f6 f11 f12) := by
  rfl

/-- The stores of the unpacked weights. -/
theorem fresh_pb  (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
    (body_fresh (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.1 = pb_k0_t1 Variants.none c none i arg1 harg1 arg2 harg2 arg3 harg3 arg4 harg4 arg5 harg5 arg6 harg6 arg7 harg7 arg8 harg8 arg9 harg9 arg10 harg10 arg11 harg11 arg12 harg12 (BitVec.ofNat 32 (i 0).val) f7 f8 k0_t1_loop.trips := by
  rfl

/-- The lists of a visit that unpacks the weights. -/
theorem fresh_lists  (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty)
   (h1 : k0_cond1 i (arg5.view.readAt (Elt F) (Rect.unit (s := S1) ![0] S1.size inb_S1_S1_0).toLoadRect f5 (Shape.Idx.first (numel1_S1.symm ▸ Nat.one_pos))) = 1#1)
   (h2 : Scalar.cmpi .ne (Scalar.extui (Scalar.ori (Scalar.cmpi .eq (BitVec.ofNat 32 (i 0).val) 0#32) (Scalar.cmpi .ne (arg1.view.readAt (Elt F) (Rect.unit (s := S111) (k0_off2 i) S1.size (k0_off2_inb i)).toLoadRect f1 (Shape.Idx.first (numel1_S1.symm ▸ Nat.one_pos))) (arg1.view.readAt (Elt F) (Rect.unit (s := S111) (k0_off3 i) S1.size (k0_off3_inb i)).toLoadRect f1 (Shape.Idx.first (numel1_S1.symm ▸ Nat.one_pos)))) : BitVec 1) : BitVec 32) 0#32 = 1#1) :
    ((body_fresh (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.1, (body_fresh (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.1, (body_fresh (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.2) = lists arg12 (newTiles i arg3 arg4 arg6 arg11 arg12 f3 f4 f6 (arg11.view.writes (Elt F) f11 (body_fresh (F := F) c i arg1 harg1 arg2 harg2 arg3 harg3 arg4 harg4 arg5 harg5 arg6 harg6 arg7 harg7 arg8 harg8 arg9 harg9 arg10 harg10 arg11 harg11 arg12 harg12 f1 f2 f3 f4 f5 f6 f7 f8 f11 f12 h1 h2).1.2.2.1) f12) := by
  rfl

end Cert.KernelIdeal
-- ==== Proof.Quant.lean ====
module

public import Idealize.ShloMosaic.PureOps.Ideal
public import Idealize.ShloMosaic.PureOps.Ideal.Laws
public import Idealize.ShloMosaic.Lib.ValueIdx

/-!
The quantiser of one row, as functions of one number.

The kernel finds the biased exponent of the largest magnitude by an eight step search over the powers
of two whose bit patterns are `k * 2 ^ 23`; it then writes the scale and its inverse as bit patterns.
The reference counts the powers of two below the number and raises two to the exponent. Over the
extended reals the two give the same scale and the same inverse (`quant_eq`).
-/

@[expose] public section

set_option maxHeartbeats 1000000

namespace Cert.Quant

open Idealize.ShloMosaic

/-- The number a 32-bit pattern denotes. -/
noncomputable def fb (b : BitVec 32) : EReal := Ideal.ofBits .f32 b

/-- One step of the search: take the bit `b` if the power of two it leads to is at most `a`. -/
noncomputable def stepK (a : EReal) (b e : BitVec 32) : BitVec 32 :=
  Scalar.select (Ideal.cmp .oge a (fb (IntOp.shli .vector (e + b) 23#32))) (e + b) e

/-- The biased exponent the kernel finds. -/
noncomputable def kE (a : EReal) : BitVec 32 :=
  stepK a 1#32 (stepK a 2#32 (stepK a 4#32 (stepK a 8#32 (stepK a 16#32 (stepK a 32#32
    (stepK a 64#32 (stepK a 128#32 0#32)))))))

/-- Whether the exponent is one of the two special ones. -/
def kSp (k : BitVec 32) : BitVec 1 := IntOp.cmpi .eq k 0#32 ||| IntOp.cmpi .eq k 255#32

/-- The kernel's scale. -/
noncomputable def kS (k : BitVec 32) : EReal :=
  fb (IntOp.shli .vector (Scalar.select (kSp k) 127#32 (k + 1#32)) 23#32)

/-- The kernel's inverse scale. -/
noncomputable def kI (k : BitVec 32) : EReal :=
  fb (IntOp.shli .vector (Scalar.select (kSp k) 127#32 (IntOp.maxsi (253#32 - k) 0#32)) 23#32)

/-- The reference's exponent: `n` the count of powers of two, `a` the largest magnitude, `t` the
    largest magnitude scaled. -/
noncomputable def rE (n : BitVec 32) (a t : EReal) : BitVec 32 :=
  Scalar.select (Ideal.cmp .oeq a (fb 0#32)) 0#32
    (Scalar.select (IntOp.cmpi .eq n 0#32 ||| Ideal.cmp .oeq t (fb 0x7F800000#32)) 0#32 (n - 126#32))

/-- Two to the power `e` in the range of the format. -/
noncomputable def rS (e : BitVec 32) : EReal :=
  Scalar.select (IntOp.cmpi .sgt e 127#32) (fb 0x7F800000#32)
    (Scalar.select (IntOp.cmpi .slt e 4294967170#32) (fb 0#32) (Ideal.exp2 (((e.toInt : ℝ)) : EReal)))

/-- The number the pattern `k * 2 ^ 23` denotes. -/
noncomputable def pw (n : ℕ) : EReal :=
  if n = 255 then ⊤ else if n = 0 then 0 else (((2 : ℝ) ^ ((n : ℤ) - 127) : ℝ) : EReal)

theorem shl_bits : ∀ n : Fin 256,
    (IntOp.shli .vector (BitVec.ofNat 32 n.val) 23#32).extractLsb' 31 1 = 0#1 ∧
    ((IntOp.shli .vector (BitVec.ofNat 32 n.val) 23#32).extractLsb' 23 8).toNat = n.val ∧
    ((IntOp.shli .vector (BitVec.ofNat 32 n.val) 23#32).extractLsb' 0 23).toNat = 0 := by
  decide +kernel

/-- A pattern with no sign and no trailing bits denotes a power of two, zero or infinity. -/
theorem ieee_pw (w : BitVec 32) (n : ℕ) (hn : n ≤ 255) (h1 : w.extractLsb' 31 1 = 0#1)
    (h2 : (w.extractLsb' 23 8).toNat = n) (h3 : (w.extractLsb' 0 23).toNat = 0) :
    Ideal.ieee 8 23 w = pw n := by
  unfold Ideal.ieee pw
  have h1' : (w.extractLsb' (8 + 23) 1 == 1#1) = false := by rw [h1]; decide
  simp only [h1', h2, h3]
  by_cases c1 : n = 255
  · rw [if_pos (by omega), if_pos trivial, if_pos c1]; rfl
  · rw [if_neg (by omega), if_neg c1]
    by_cases c0 : n = 0
    · rw [if_pos c0, if_pos c0]; simp
    · rw [if_neg c0, if_neg c0]
      congr 1
      have h2 : ((2 ^ 23 + 0 : ℕ) : ℝ) = (2:ℝ) ^ (23:ℤ) := by norm_num
      rw [h2, if_neg (by simp), one_mul, ← zpow_add₀ (by norm_num)]
      congr 1
      have : (2:ℤ) ^ (8 - 1) - 1 = 127 := by norm_num
      push_cast
      omega

theorem fb_shl (n : ℕ) (hn : n ≤ 255) : fb (IntOp.shli .vector (BitVec.ofNat 32 n) 23#32) = pw n := by
  obtain ⟨h1, h2, h3⟩ := shl_bits ⟨n, by omega⟩
  exact ieee_pw _ n hn h1 h2 h3

theorem pw_mono {i j : ℕ} (h : i ≤ j) (hj : j ≤ 255) : pw i ≤ pw j := by
  unfold pw
  by_cases h255 : j = 255
  · simp [h255]
  · have hi : i ≠ 255 := by omega
    simp only [h255, hi, if_false]
    by_cases hi0 : i = 0
    · simp only [hi0, if_true]
      split
      · exact le_rfl
      · exact_mod_cast (by positivity : (0:ℝ) ≤ (2:ℝ) ^ ((j : ℤ) - 127))
    · have hj0 : j ≠ 0 := by omega
      simp only [hi0, hj0, if_false]
      have : (2:ℝ) ^ ((i : ℤ) - 127) ≤ (2:ℝ) ^ ((j : ℤ) - 127) :=
        zpow_le_zpow_right₀ (by norm_num) (by omega)
      exact_mod_cast this

theorem select_cmp {α : Type} (a b : EReal) (x y : α) :
    Scalar.select (Ideal.cmp .oge a b) x y = if b ≤ a then x else y := by
  unfold Scalar.select Ideal.cmp
  by_cases h : b ≤ a <;> simp [h]

/-- What the search keeps true: the exponent so far is reached, and adding the next bit but one passes
    the number, if there is room for it. -/
def Inv (a : EReal) (b : ℕ) (e : BitVec 32) : Prop :=
  ∃ k : ℕ, e = BitVec.ofNat 32 k ∧ k + b ≤ 256 ∧ (k = 0 ∨ pw k ≤ a) ∧ (k + b ≤ 255 → ¬ pw (k + b) ≤ a)

theorem step_inv (a : EReal) (b : ℕ) (hb : 0 < b) (e : BitVec 32) (h : Inv a (b + b) e) :
    Inv a b (stepK a (BitVec.ofNat 32 b) e) := by
  obtain ⟨k, rfl, hk, hlo, hhi⟩ := h
  have hadd : BitVec.ofNat 32 k + BitVec.ofNat 32 b = BitVec.ofNat 32 (k + b) := by
    rw [BitVec.ofNat_add]
  unfold stepK
  rw [hadd, fb_shl _ (by omega), select_cmp]
  by_cases hc : pw (k + b) ≤ a
  · rw [if_pos hc]
    exact ⟨k + b, rfl, by omega, .inr hc, fun h => by
      have : k + b + b = k + (b + b) := by omega
      rw [this]; exact hhi (by omega)⟩
  · rw [if_neg hc]
    exact ⟨k, rfl, by omega, hlo, fun _ => hc⟩

/-- The search finds the last power of two that is at most the number. -/
theorem kE_spec (a : EReal) : ∃ K : ℕ, K ≤ 255 ∧ kE a = BitVec.ofNat 32 K ∧
    ∀ k, 1 ≤ k → k ≤ 255 → (pw k ≤ a ↔ k ≤ K) := by
  have h0 : Inv a 256 0#32 := ⟨0, rfl, by omega, .inl rfl, fun h => absurd h (by omega)⟩
  have h1 := step_inv a 128 (by omega) _ h0
  have h2 := step_inv a 64 (by omega) _ h1
  have h3 := step_inv a 32 (by omega) _ h2
  have h4 := step_inv a 16 (by omega) _ h3
  have h5 := step_inv a 8 (by omega) _ h4
  have h6 := step_inv a 4 (by omega) _ h5
  have h7 := step_inv a 2 (by omega) _ h6
  have h8 := step_inv a 1 (by omega) _ h7
  obtain ⟨K, hK, hle, hlo, hhi⟩ := h8
  refine ⟨K, by omega, hK, fun k h1 h255 => ⟨fun h => ?_, fun h => ?_⟩⟩
  · by_contra hlt
    exact hhi (by omega) ((pw_mono (by omega) h255).trans h)
  · rcases hlo with h0 | hlo
    · omega
    · exact (pw_mono h (by omega)).trans hlo

theorem fb_zero : fb 0#32 = 0 := by
  have := fb_shl 0 (by omega)
  rw [show IntOp.shli .vector (BitVec.ofNat 32 0) 23#32 = 0#32 by decide] at this
  rw [this]; simp [pw]

theorem fb_top : fb 0x7F800000#32 = ⊤ := by
  have := fb_shl 255 (by omega)
  rw [show IntOp.shli .vector (BitVec.ofNat 32 255) 23#32 = 0x7F800000#32 by decide] at this
  rw [this]; simp [pw]

theorem exp2_int (z : ℤ) : Ideal.exp2 ((z : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

theorem exp2_pw (k : ℕ) (h1 : 1 ≤ k) (h2 : k ≤ 254) (z : ℤ) (hz : z = (k : ℤ) - 127) :
    Ideal.exp2 ((z : ℝ) : EReal) = pw k := by
  rw [exp2_int, hz]
  unfold pw
  rw [if_neg (by omega), if_neg (by omega)]

theorem sub_toInt : ∀ K : Fin 255, (BitVec.ofNat 32 K.val - 126#32).toInt = (K.val : ℤ) - 126 ∧
    (0#32 - (BitVec.ofNat 32 K.val - 126#32)).toInt = 126 - (K.val : ℤ) := by
  decide +kernel

theorem kSp_val : ∀ K : Fin 256, kSp (BitVec.ofNat 32 K.val) =
    if K.val = 0 ∨ K.val = 255 then 1#1 else 0#1 := by
  decide +kernel

theorem inv_word : ∀ K : Fin 256, IntOp.maxsi (253#32 - BitVec.ofNat 32 K.val) 0#32 =
    BitVec.ofNat 32 (253 - K.val) := by
  decide +kernel

theorem kS_val (K : ℕ) (hK : K ≤ 255) : kS (BitVec.ofNat 32 K) =
    if K = 0 ∨ K = 255 then 1 else pw (K + 1) := by
  have h := kSp_val ⟨K, by omega⟩
  simp only at h
  unfold kS
  rw [h]
  by_cases hs : K = 0 ∨ K = 255
  · rw [if_pos hs, if_pos hs]
    show fb (IntOp.shli .vector (BitVec.ofNat 32 127) 23#32) = _
    rw [fb_shl _ (by omega)]
    simp [pw]
  · rw [if_neg hs, if_neg hs]
    show fb (IntOp.shli .vector (BitVec.ofNat 32 K + BitVec.ofNat 32 1) 23#32) = _
    rw [← BitVec.ofNat_add, fb_shl _ (by omega)]

theorem kI_val (K : ℕ) (hK : K ≤ 255) : kI (BitVec.ofNat 32 K) =
    if K = 0 ∨ K = 255 then 1 else pw (253 - K) := by
  have h := kSp_val ⟨K, by omega⟩
  have h' := inv_word ⟨K, by omega⟩
  simp only at h h'
  unfold kI
  rw [h, h']
  by_cases hs : K = 0 ∨ K = 255
  · rw [if_pos hs, if_pos hs]
    show fb (IntOp.shli .vector (BitVec.ofNat 32 127) 23#32) = _
    rw [fb_shl _ (by omega)]
    simp [pw]
  · rw [if_neg hs, if_neg hs]
    show fb (IntOp.shli .vector (BitVec.ofNat 32 (253 - K)) 23#32) = _
    rw [fb_shl _ (by omega)]

/-- `rS` on a word that reads as `z`. -/
theorem rS_val (e : BitVec 32) (z : ℤ) (h : e.toInt = z) :
    rS e = if 127 < z then ⊤ else if z < -126 then 0 else (((2 : ℝ) ^ z : ℝ) : EReal) := by
  unfold rS
  rw [fb_top, fb_zero, h, exp2_int]
  have a1 : IntOp.cmpi .sgt e 127#32 = BitVec.ofBool (decide (127 < z)) := by
    show BitVec.ofBool ((127#32).slt e) = _
    rw [BitVec.slt_eq_decide, h]; rfl
  have a2 : IntOp.cmpi .slt e 4294967170#32 = BitVec.ofBool (decide (z < -126)) := by
    show BitVec.ofBool (e.slt 4294967170#32) = _
    rw [BitVec.slt_eq_decide, h]; rfl
  rw [a1, a2]
  unfold Scalar.select
  by_cases c1 : 127 < z <;> by_cases c2 : z < -126 <;> simp [c1, c2]

/-- The two quantisers give one scale and one inverse scale. -/
theorem quant_eq (a : EReal) (n : BitVec 32)
    (hn : n.toNat = ∑ j : Fin 254, if Ideal.exp2 ((((j.val : ℤ) - 126 : ℤ) : ℝ) : EReal) ≤ a * fb 0x3B124925#32 then 1 else 0) :
    kS (kE (a * fb 0x3B124925#32)) = rS (rE n a (a * fb 0x3B124925#32)) ∧
    kI (kE (a * fb 0x3B124925#32)) = rS (0#32 - rE n a (a * fb 0x3B124925#32)) := by
  set t := a * fb 0x3B124925#32 with ht
  obtain ⟨K, hK, hkE, hspec⟩ := kE_spec t
  have hcount : n.toNat = min K 254 := by
    rw [hn]
    have : ∀ j : Fin 254, (if Ideal.exp2 ((((j.val : ℤ) - 126 : ℤ) : ℝ) : EReal) ≤ t then 1 else 0 : ℕ)
        = if j.val < K then 1 else 0 := by
      intro j
      rw [exp2_pw (j.val + 1) (by omega) (by omega) _ (by push_cast; ring)]
      have := hspec (j.val + 1) (by omega) (by omega)
      by_cases h : j.val < K
      · rw [if_pos h, if_pos (this.2 (by omega))]
      · rw [if_neg h, if_neg (fun h' => h (by have := this.1 h'; omega))]
    rw [Finset.sum_congr rfl (fun j _ => this j), Fin.sum_univ_eq_sum_range (fun j => if j < K then 1 else 0) 254,
      Finset.sum_ite, Finset.sum_const_zero, add_zero, Finset.sum_const, smul_eq_mul, mul_one]
    have : (Finset.range 254).filter (fun j => j < K) = Finset.range (min K 254) := by
      ext j; simp only [Finset.mem_filter, Finset.mem_range]; omega
    rw [this, Finset.card_range]
  have hnw : n = BitVec.ofNat 32 (min K 254) := by
    apply BitVec.eq_of_toNat_eq
    rw [hcount, BitVec.toNat_ofNat, Nat.mod_eq_of_lt (by omega)]
  have htop : t = ⊤ ↔ K = 255 := by
    have := hspec 255 (by omega) (by omega)
    rw [show pw 255 = ⊤ by simp [pw], top_le_iff] at this
    rw [this]; omega
  have hzero : a = 0 → K = 0 := by
    intro h0
    by_contra hne
    have h1 := (hspec 1 (by omega) (by omega)).2 (by omega)
    rw [ht, h0, zero_mul] at h1
    have : pw 1 = (((2 : ℝ) ^ (((1:ℕ) : ℤ) - 127) : ℝ) : EReal) := by simp [pw]
    rw [this] at h1
    have h2 : (2 : ℝ) ^ (((1:ℕ) : ℤ) - 127) ≤ 0 := by exact_mod_cast h1
    exact absurd h2 (not_le.2 (by positivity))
  -- the reference's exponent
  have hrE : rE n a t = if K = 0 ∨ K = 255 then 0#32 else BitVec.ofNat 32 K - 126#32 := by
    unfold rE
    rw [fb_zero, fb_top, hnw]
    have a1 : Ideal.cmp .oeq a 0 = BitVec.ofBool (decide (a = 0)) := rfl
    have a2 : Ideal.cmp .oeq t ⊤ = BitVec.ofBool (decide (t = ⊤)) := rfl
    have a3 : IntOp.cmpi .eq (BitVec.ofNat 32 (min K 254)) 0#32 = BitVec.ofBool (decide (K = 0)) := by
      show BitVec.ofBool (BitVec.ofNat 32 (min K 254) == 0#32) = _
      congr 1
      rw [beq_eq_decide]
      apply decide_eq_decide.2
      constructor
      · intro h
        have := congrArg BitVec.toNat h
        rw [BitVec.toNat_ofNat, Nat.mod_eq_of_lt (by omega)] at this
        simp at this; omega
      · rintro rfl; rfl
    rw [a1, a2, a3]
    by_cases hK0 : K = 0
    · simp only [hK0, true_or, if_true]
      unfold Scalar.select
      by_cases h : a = 0
      · simp [h]
      · by_cases h' : t = ⊤ <;> simp [h, h']
    · have hane : a ≠ 0 := fun h => hK0 (hzero h)
      by_cases h255 : K = 255
      · have htt := htop.2 h255
        simp only [hane, htt, h255]
        rfl
      · have htt : ¬ t = ⊤ := fun h => h255 (htop.1 h)
        simp only [hane, htt, hK0, h255, or_self, if_false]
        rw [show min K 254 = K by omega]
        rfl
  rw [hkE, kS_val K hK, kI_val K hK, hrE]
  by_cases hs : K = 0 ∨ K = 255
  · simp only [if_pos hs]
    rw [rS_val 0#32 0 (by decide), rS_val (0#32 - 0#32) 0 (by decide)]
    norm_num
  · simp only [if_neg hs]
    obtain ⟨s1, s2⟩ := sub_toInt ⟨K, by omega⟩
    simp only at s1 s2
    rw [rS_val _ _ s1, rS_val _ _ s2]
    constructor
    · unfold pw
      by_cases h : K = 254
      · subst h; norm_num
      · rw [if_neg (by omega), if_neg (by omega), if_neg (by omega), if_neg (by omega)]
        congr 2; push_cast; ring
    · unfold pw
      by_cases h : 253 ≤ K
      · rw [if_neg (by omega), if_pos (by omega), if_neg (by omega), if_pos (by omega)]
      · rw [if_neg (by omega), if_neg (by omega), if_neg (by omega), if_neg (by omega)]
        congr 2; omega

end Cert.Quant
-- ==== Proof.Spec.lean ====
module

public import proofs.«01_k».proof.Proof.Quant
public import Idealize.ShloMosaic.Lib.Pointwise

/-!
What the program computes, as plain functions of numbers: the activation of a gate and an up value, the
largest magnitude of a row, and the scale and the quantised values of a row.
-/

@[expose] public section

namespace Cert.Spec

open Idealize.ShloMosaic Cert.Quant

/-- The signed four-bit code in half `q` of a byte: the code stored is the value plus eight. -/
def code (b : BitVec 8) (q : ℕ) : ℤ := ((b.toNat / 2 ^ (4 * q) % 16 : ℕ) : ℤ) - 8

/-- The gated activation. -/
noncomputable def act (g u : EReal) : EReal := g * Ideal.logistic g * u

/-- A row of activations of an expert's weights. -/
noncomputable def actRow (X : Fin 2048 → EReal) (W : Fin 2048 → Fin 6144 → EReal) (c : Fin 3072) : EReal :=
  act (∑ k, X k * W k ⟨c.val, by omega⟩) (∑ k, X k * W k ⟨3072 + c.val, by omega⟩)

/-- The largest magnitude of a row. -/
noncomputable def rowMax {n : ℕ} (h : Fin n → EReal) : EReal :=
  (Finset.univ : Finset (Fin n)).fold max ⊥ (fun c => max (h c) (-(h c)))

/-- The largest magnitude of a row over 448. -/
noncomputable def scaled {n : ℕ} (h : Fin n → EReal) : EReal := rowMax h * fb 0x3B124925#32

/-- The scale of a row. -/
noncomputable def scale {n : ℕ} (h : Fin n → EReal) : EReal := kS (kE (scaled h))

/-- A quantised value of a row. -/
noncomputable def value {n : ℕ} (h : Fin n → EReal) (c : Fin n) : EReal :=
  min (fb 0x43E00000#32) (max (fb 0xC3E00000#32) (h c * kI (kE (scaled h))))

theorem abs_nonneg (x : EReal) : 0 ≤ max x (-x) := by
  rcases le_total 0 x with h | h
  · exact h.trans (le_max_left _ _)
  · exact (EReal.neg_nonneg.2 h).trans (le_max_right _ _)

theorem fb_bot : fb 0xFF800000#32 = ⊥ := by
  simp [fb, Ideal.ofBits, Ideal.ieee]

/-- The largest magnitude of a row cut in twelve tiles of 256 columns, taken lane by lane first. -/
theorem fold_tiles (h : Fin 3072 → EReal) (M : Fin 256 → EReal)
    (hM : ∀ (l : Fin 256) (b : EReal), M l ≤ b ↔ 0 ≤ b ∧ ∀ j : Fin 12,
      max (h ⟨256 * j.val + l.val, by omega⟩) (-(h ⟨256 * j.val + l.val, by omega⟩)) ≤ b) :
    (Finset.univ : Finset (Fin 256)).fold max ⊥ M = rowMax h := by
  apply eq_of_forall_ge_iff
  intro b
  unfold rowMax
  rw [Finset.fold_max_le, Finset.fold_max_le]
  constructor
  · rintro ⟨-, hb⟩
    refine ⟨bot_le, fun c _ => ?_⟩
    have := ((hM ⟨c.val % 256, by omega⟩ b).1 (hb _ (Finset.mem_univ _))).2 ⟨c.val / 256, by omega⟩
    have hc : (⟨256 * (c.val / 256) + c.val % 256, by omega⟩ : Fin 3072) = c := by
      ext; simp only; omega
    simp only [hc] at this
    exact this
  · rintro ⟨-, hb⟩
    refine ⟨bot_le, fun l _ => (hM l b).2 ⟨?_, fun j => hb _ (Finset.mem_univ _)⟩⟩
    exact (abs_nonneg _).trans (hb ⟨0, by omega⟩ (Finset.mem_univ _))

/-- The unpacked weights of expert `e`. -/
noncomputable def weights (w : IVec ⟨3, ![16, 1024, 6144]⟩ 8) (s : FVec Ideal ⟨3, ![16, 16, 6144]⟩ .bf16) (e : ℕ) (k : Fin 2048) (n : Fin 6144) : EReal :=
  ((code (w (ix3 ⟨e % 16, Nat.mod_lt _ (by norm_num)⟩ ⟨k.val / 2, by omega⟩ n)) (k.val % 2) : ℝ) : EReal)
    * s (ix3 ⟨e % 16, Nat.mod_lt _ (by norm_num)⟩ ⟨k.val / 128, by omega⟩ n)

end Cert.Spec
-- ==== Proof.KernelIdealTile.lean ====
module

public import proofs.«01_k».proof.Proof.KernelIdealLists
public import proofs.«01_k».proof.Proof.Spec
public import Idealize.ShloMosaic.Lib.Pointwise
public import Idealize.ShloMosaic.Lib.Writes
public import Idealize.ShloMosaic.Lib.Pipeline.ValueKit

/-!
What the three lists of stores of a visit put in the buffers, over the extended reals.

If the twelve tiles hold the rows `h`, the activations buffer reads `h`, the scale buffer the scale of
each row and the result buffer the quantised rows.
-/

@[expose] public section

set_option maxHeartbeats 1600000
set_option maxRecDepth 16384

namespace Cert.KernelIdeal

open Idealize.ShloMosaic Gen

/-- The tiles hold the rows `h`. -/
def TilesAre (T : Fin 12 → FVec Ideal S512x256 .f32) (h : Fin 512 → Fin 3072 → EReal) : Prop :=
  ∀ (j : Fin 12) (r : Fin 512) (l : Fin 256), T j (ix2 r l) = h r ⟨256 * j.val + l.val, by omega⟩

/-- One step of the exponent search, on all rows. -/
noncomputable def stepV (a : FVec Ideal S512x1 .f32) (b : BitVec 32) (e : IVec S512x1 32) : IVec S512x1 32 :=
  select (cmpf .oge a (bitcastToFloat (F := Ideal) .f32 (shli (addi e (broadcast S512x1 b)) (broadcast S512x1 23#32))))
    (addi e (broadcast S512x1 b)) e

theorem stepV_at (a : FVec Ideal S512x1 .f32) (b : BitVec 32) (e : IVec S512x1 32) (i : S512x1.Idx) :
    stepV a b e i = Quant.stepK (a i) b (e i) := rfl

theorem expo_steps (a : FVec Ideal S512x1 .f32) : expo (F := Ideal) a =
    stepV a 1#32 (stepV a 2#32 (stepV a 4#32 (stepV a 8#32 (stepV a 16#32 (stepV a 32#32
      (stepV a 64#32 (stepV a 128#32 (broadcast S512x1 0#32)))))))) := rfl

theorem expo_at (a : FVec Ideal S512x1 .f32) (i : S512x1.Idx) : expo (F := Ideal) a i = Quant.kE (a i) := by
  rw [expo_steps]
  simp only [stepV_at]
  rfl

theorem pay69_at (k : IVec S512x1 32) (i : S512x1.Idx) : k0_pay69 (F := Ideal) k i = Quant.kS (k i) := rfl

theorem pay70_at (k : IVec S512x1 32) (i : S512x1.Idx) : k0_pay70 (F := Ideal) k i = Quant.kI (k i) := rfl

/-- The largest magnitude of each row. -/
theorem rowScaled_at (T : Fin 12 → FVec Ideal S512x256 .f32) (h : Fin 512 → Fin 3072 → EReal) (hT : TilesAre T h)
    (r : Fin 512) (l : Fin 1) : rowScaled T (ix2 r l) = Spec.scaled (h r) := by
  pointwise [rowScaled, laneMax]
  unfold Spec.scaled
  refine congrArg₂ (· * ·) ?_ rfl
  rw [show Ideal.ofBits .f32 4286578688#32 = ⊥ from Spec.fb_bot]
  apply Spec.fold_tiles
  intro l b
  have ha : ∀ x : EReal, (FloatOps.absf (F := Ideal) (φ := .f32) x) = max x (-x) := fun _ => rfl
  simp only [max_le_iff, ha, hT _ _ _]
  constructor
  · rintro ⟨⟨⟨⟨⟨⟨⟨⟨⟨⟨⟨⟨h0, h1⟩, h2⟩, h3⟩, h4⟩, h5⟩, h6⟩, h7⟩, h8⟩, h9⟩, h10⟩, h11⟩, h12⟩
    refine ⟨h0, fun j => ?_⟩
    fin_cases j
    exacts [h1, h2, h3, h4, h5, h6, h7, h8, h9, h10, h11, h12]
  · rintro ⟨h0, hj⟩
    exact ⟨⟨⟨⟨⟨⟨⟨⟨⟨⟨⟨⟨h0, hj 0⟩, hj 1⟩, hj 2⟩, hj 3⟩, hj 4⟩, hj 5⟩, hj 6⟩, hj 7⟩, hj 8⟩, hj 9⟩, hj 10⟩, hj 11⟩

/-- One tile of the result. -/
theorem pay1_at (k : IVec S512x1 32) (Y : Vec Ideal S512x256 .f32) (r : Fin 512) (l : Fin 256) :
    k0_pay1 (F := Ideal) (k0_pay70 (F := Ideal) k) Y (ix2 r l) =
      min (Quant.fb 0x43E00000#32) (max (Quant.fb 0xC3E00000#32) (Y (ix2 r l) * Quant.kI (k (ix2 r 0)))) := by
  pointwise [k0_pay1, pay70_at]
  rfl

/-- Where a place of a column tile lies. -/
theorem emb_tile (j : Fin 12) (inb) (r : Fin 512) (l : Fin 256) :
    (Rect.unit (s := S512x3072) ![0, 256 * j.val] S512x256.size inb).emb (ix2 r l)
      = (ix2 r (⟨256 * j.val + l.val, by omega⟩ : Fin 3072) : S512x3072.Idx) := by
  funext a
  apply Fin.ext
  rw [ValueKit.rect_emb_unit_val]
  match a with
  | ⟨0, _⟩ => show 0 + r.val = r.val; omega
  | ⟨1, _⟩ => rfl

theorem piece_h (T : Fin 12 → FVec Ideal S512x256 .f32) (h : Fin 512 → Fin 3072 → EReal) (hT : TilesAre T h)
    (j : Fin 12) (inb) (x : S512x256.Idx) :
    shapeCast S512x256 (T j) shapeCasts_S512x256_S512x256 x =
      (fun y : S512x3072.Idx => h (y 0) (y 1)) ((Rect.unit (s := S512x3072) ![0, 256 * j.val] S512x256.size inb).emb x) := by
  obtain ⟨r, l, rfl⟩ : ∃ (r : Fin 512) (l : Fin 256), x = ix2 r l := ⟨x 0, x 1, eq_ix2 x⟩
  show _ = (fun y : S512x3072.Idx => h (y 0) (y 1)) ((Rect.unit (s := S512x3072) ![0, 256 * j.val] S512x256.size inb).emb (ix2 r l))
  rw [emb_tile j inb r l, shapeCast_self]
  exact hT j r l

/-- What the activations buffer reads afterwards. -/
theorem read_h (v : View sig .tc .vmem S512x3072 .f32) (f : v.ty.Contents (Elt Ideal))
    (T : Fin 12 → FVec Ideal S512x256 .f32) (h : Fin 512 → Fin 3072 → EReal) (hT : TilesAre T h)
    (r : Fin 512) (c : Fin 3072) : v.read (Elt Ideal) (v.writes (Elt Ideal) f (hList T)) (ix2 r c) = h r c := by
  refine View.read_writes_apply_of_pieces v f (fun y : S512x3072.Idx => h (y 0) (y 1)) (hList T) ?_ (ix2 r c)
    (View.cover_of_tiled (hList T) S512x256.size (by rfl) _)
  unfold hList
  simp only [List.forall_mem_cons]
  exact ⟨piece_h T h hT 11 _, piece_h T h hT 10 _, piece_h T h hT 9 _, piece_h T h hT 8 _, piece_h T h hT 7 _,
    piece_h T h hT 6 _, piece_h T h hT 5 _, piece_h T h hT 4 _, piece_h T h hT 3 _, piece_h T h hT 2 _,
    piece_h T h hT 1 _, piece_h T h hT 0 _, fun _ h => absurd h List.not_mem_nil⟩

/-- A column tile of the activations read back. -/
theorem readCov_h (v : View sig .tc .vmem S512x3072 .f32)
    (T : Fin 12 → FVec Ideal S512x256 .f32) (h : Fin 512 → Fin 3072 → EReal) (hT : TilesAre T h)
    (j : Fin 12) (r : Fin 512) (l : Fin 256) :
    v.readCov (hList T) (Rect.unit (s := S512x3072) ![0, 256 * j.val] S512x256.size (inbH j)).toLoadRect (ix2 r l)
      = h r ⟨256 * j.val + l.val, by omega⟩ := by
  unfold View.readCov
  rw [View.readAt_apply]
  show v.read (Elt Ideal) _ ((Rect.unit (s := S512x3072) ![0, 256 * j.val] S512x256.size (inbH j)).emb (ix2 r l)) = _
  rw [emb_tile j (inbH j) r l]
  exact read_h v _ T h hT r _

theorem piece_y (v : View sig .tc .vmem S512x3072 .f32)
    (T : Fin 12 → FVec Ideal S512x256 .f32) (h : Fin 512 → Fin 3072 → EReal) (hT : TilesAre T h)
    (j : Fin 12) (inb) (x : S512x256.Idx) :
    k0_pay1 (F := Ideal) (k0_pay70 (F := Ideal) (expo (rowScaled T)))
      (v.readCov (hList T) (Rect.unit (s := S512x3072) ![0, 256 * j.val] S512x256.size (inbH j)).toLoadRect) x =
      (fun y : S512x3072.Idx => Spec.value (h (y 0)) (y 1)) ((Rect.unit (s := S512x3072) ![0, 256 * j.val] S512x256.size inb).emb x) := by
  rw [eq_ix2 x]
  show _ = (fun y : S512x3072.Idx => Spec.value (h (y 0)) (y 1)) ((Rect.unit (s := S512x3072) ![0, 256 * j.val] S512x256.size inb).emb (ix2 (x 0) (x 1)))
  rw [emb_tile j inb (x 0) (x 1)]
  refine (pay1_at _ _ (x 0) (x 1)).trans ?_
  rw [expo_at, rowScaled_at T h hT (x 0) 0, readCov_h v T h hT j (x 0) (x 1)]
  rfl

/-- What the result buffer reads afterwards. -/
theorem read_y (v : View sig .tc .vmem S512x3072 .fp8e4m3) (f : v.ty.Contents (Elt Ideal)) (arg12 : Memref sig .tc .vmem S512x3072 .f32)
    (T : Fin 12 → FVec Ideal S512x256 .f32) (h : Fin 512 → Fin 3072 → EReal) (hT : TilesAre T h)
    (r : Fin 512) (c : Fin 3072) :
    v.read (Elt Ideal) (v.writes (Elt Ideal) f (lists arg12 T).1) (ix2 r c) = Spec.value (h r) c := by
  refine View.read_writes_apply_of_pieces v f (fun y : S512x3072.Idx => Spec.value (h (y 0)) (y 1)) (lists arg12 T).1 ?_ (ix2 r c)
    (View.cover_of_tiled (lists arg12 T).1 S512x256.size (by rfl) _)
  unfold lists yList
  simp only [List.forall_mem_cons]
  exact ⟨piece_y arg12.view T h hT 11 _, piece_y arg12.view T h hT 10 _, piece_y arg12.view T h hT 9 _, piece_y arg12.view T h hT 8 _,
    piece_y arg12.view T h hT 7 _, piece_y arg12.view T h hT 6 _, piece_y arg12.view T h hT 5 _, piece_y arg12.view T h hT 4 _,
    piece_y arg12.view T h hT 3 _, piece_y arg12.view T h hT 2 _, piece_y arg12.view T h hT 1 _, piece_y arg12.view T h hT 0 _,
    fun _ h => absurd h List.not_mem_nil⟩

/-- What the scale buffer reads afterwards. -/
theorem read_s (v : View sig .tc .vmem S512x1 .f32) (f : v.ty.Contents (Elt Ideal)) (arg12 : Memref sig .tc .vmem S512x3072 .f32)
    (T : Fin 12 → FVec Ideal S512x256 .f32) (h : Fin 512 → Fin 3072 → EReal) (hT : TilesAre T h)
    (r : Fin 512) (l : Fin 1) :
    v.read (Elt Ideal) (v.writes (Elt Ideal) f (lists arg12 T).2.1) (ix2 r l) = Spec.scale (h r) := by
  refine View.read_writes_apply_of_pieces v f (fun y : S512x1.Idx => Spec.scale (h (y 0))) (lists arg12 T).2.1 ?_ (ix2 r l)
    (View.cover_of_tiled (lists arg12 T).2.1 S512x1.size (by rfl) _)
  unfold lists sList
  simp only [List.forall_mem_cons]
  refine ⟨fun x => ?_, fun _ h => absurd h List.not_mem_nil⟩
  rw [eq_ix2 x]
  refine (pay69_at _ _).trans ?_
  rw [expo_at]
  refine (congrArg (fun z => Quant.kS (Quant.kE z)) (rowScaled_at T h hT (x 0) (x 1))).trans ?_
  have : (Rect.unit (s := S512x1) ![0, 0] S512x1.size inb_S512x1_S512x1_0_0).emb (ix2 (x 0) (x 1)) 0 = (x 0 : Fin 512) := by
    apply Fin.ext
    rw [ValueKit.rect_emb_unit_val]
    show 0 + (x 0).val = _; omega
  show Spec.scale (h (x 0)) = Spec.scale (h ((Rect.unit (s := S512x1) ![0, 0] S512x1.size inb_S512x1_S512x1_0_0).emb (ix2 (x 0) (x 1)) 0))
  rw [this]

end Cert.KernelIdeal
-- ==== Proof.KernelIdealVisit.lean ====
module

public import proofs.«01_k».proof.Proof.KernelIdealTile
public import proofs.«01_k».proof.Proof.Words

/-!
The twelve tiles of a visit, over the extended reals: rows inside the visit's range get the gated
activation of the two products, the others keep what the activations buffer held.
-/

@[expose] public section

set_option maxHeartbeats 1600000
set_option maxRecDepth 16384

namespace Cert.KernelIdeal

open Idealize.ShloMosaic Gen

theorem select_rows {α : Type} (r lo hi : ℕ) (hr : r < 512) (hlo : lo ≤ 512) (hhi : hi ≤ 512) (a b : α) :
    Scalar.select (IntOp.andi (IntOp.cmpi .sge (BitVec.ofNat 32 r) (BitVec.ofNat 32 lo))
      (IntOp.cmpi .slt (BitVec.ofNat 32 r) (BitVec.ofNat 32 hi))) a b = if lo ≤ r ∧ r < hi then a else b := by
  have h1 := Words.bit_of_iff (Words.sge_word (a := r) (b := lo) (by omega) (by omega))
  have h2 := Words.bit_of_iff (Words.slt_word (a := r) (b := hi) (by omega) (by omega))
  rw [h1, h2]
  by_cases c1 : lo ≤ r <;> by_cases c2 : r < hi <;> simp [c1, c2, Scalar.select, IntOp.andi]

theorem tile_at (lo hi : ℕ) (hlo : lo ≤ 512) (hhi : hi ≤ 512) (X : Vec Ideal S512x2048 .bf16) (Wg Wu : Vec Ideal S2048x256 .bf16)
    (h : Vec Ideal S512x256 .f32) (r : Fin 512) (l : Fin 256) :
    tile (F := Ideal) (BitVec.ofNat 32 lo) (BitVec.ofNat 32 hi) X Wg Wu h (ix2 r l) =
      if lo ≤ r.val ∧ r.val < hi then
        Spec.act (∑ k, X (ix2 r k) * Wg (ix2 k l)) (∑ k, X (ix2 r k) * Wu (ix2 k l)) else h (ix2 r l) := by
  rw [← select_rows r.val lo hi r.isLt hlo hhi]
  pointwise [tile, k0_pay32, k0_pay31]
  rfl

/-- Where a place of a column tile of the weights lies. -/
theorem emb_tileW (j : Fin 24) (inb) (r : Fin 2048) (l : Fin 256) :
    (Rect.unit (s := S2048x6144) ![0, 256 * j.val] S2048x256.size inb).emb (ix2 r l)
      = (ix2 r (⟨256 * j.val + l.val, by omega⟩ : Fin 6144) : S2048x6144.Idx) := by
  funext a
  apply Fin.ext
  rw [ValueKit.rect_emb_unit_val]
  match a with
  | ⟨0, _⟩ => show 0 + r.val = r.val; omega
  | ⟨1, _⟩ => rfl

theorem emb_X (inb) (r : Fin 512) (k : Fin 2048) :
    (Rect.unit (s := S512x2048) ![0, 0] S512x2048.size inb).emb (ix2 r k) = (ix2 r k : S512x2048.Idx) := by
  funext a
  apply Fin.ext
  rw [ValueKit.rect_emb_unit_val]
  match a with
  | ⟨0, _⟩ => show 0 + r.val = r.val; omega
  | ⟨1, _⟩ => show 0 + k.val = k.val; omega

theorem newTiles_are (i : grid0.Coords) (arg3 : Memref sig .tc .smem S111 .i32) (arg4 : Memref sig .tc .smem S111 .i32) (arg6 : Memref sig .tc .vmem S512x2048 .bf16) (arg11 : Memref sig .tc .vmem S2048x6144 .bf16) (arg12 : Memref sig .tc .vmem S512x3072 .f32)
    (f3 : BufTy.Contents (Elt Ideal) arg3.view.ty) (f4 : BufTy.Contents (Elt Ideal) arg4.view.ty) (f6 : BufTy.Contents (Elt Ideal) arg6.view.ty) (f11 : BufTy.Contents (Elt Ideal) arg11.view.ty) (f12 : BufTy.Contents (Elt Ideal) arg12.view.ty)
    (lo hi : ℕ) (hlo : lo ≤ 512) (hhi : hi ≤ 512)
    (h3 : (arg3.view.readAt (Elt Ideal) (Rect.unit (s := S111) (k0_off52 i) S1.size (k0_off52_inb i)).toLoadRect f3 (Shape.Idx.first (numel1_S1.symm ▸ Nat.one_pos)) : BitVec 32) = BitVec.ofNat 32 lo)
    (h4 : (arg4.view.readAt (Elt Ideal) (Rect.unit (s := S111) (k0_off52 i) S1.size (k0_off52_inb i)).toLoadRect f4 (Shape.Idx.first (numel1_S1.symm ▸ Nat.one_pos)) : BitVec 32) = BitVec.ofNat 32 hi) :
    TilesAre (newTiles (F := Ideal) i arg3 arg4 arg6 arg11 arg12 f3 f4 f6 f11 f12) (fun r c =>
      if lo ≤ r.val ∧ r.val < hi then
        Spec.actRow (fun k => arg6.view.read (Elt Ideal) f6 (ix2 r k)) (fun k n => arg11.view.read (Elt Ideal) f11 (ix2 k n)) c
      else arg12.view.read (Elt Ideal) f12 (ix2 r c)) := by
  intro j r l
  unfold newTiles tiles
  rw [h3, h4]
  refine (tile_at lo hi hlo hhi _ _ _ _ r l).trans ?_
  have e6 : ∀ k : Fin 2048, arg6.view.readAt (Elt Ideal) (Rect.unit (s := S512x2048) ![0, 0] S512x2048.size inb_S512x2048_S512x2048_0_0).toLoadRect f6 (ix2 r k) = arg6.view.read (Elt Ideal) f6 (ix2 r k) :=
    fun k => (View.readAt_apply ..).trans (congrArg _ (emb_X _ r k))
  have e11 : ∀ (j : Fin 24) (k : Fin 2048), arg11.view.readAt (Elt Ideal) (Rect.unit (s := S2048x6144) ![0, 256 * j.val] S2048x256.size (inbW j)).toLoadRect f11 (ix2 k l) = arg11.view.read (Elt Ideal) f11 (ix2 k (⟨256 * j.val + l.val, by omega⟩ : Fin 6144)) :=
    fun j k => (View.readAt_apply ..).trans (congrArg _ (emb_tileW j _ k l))
  have e12 : arg12.view.readAt (Elt Ideal) (Rect.unit (s := S512x3072) ![0, 256 * j.val] S512x256.size (inbH j)).toLoadRect f12 (ix2 r l) = arg12.view.read (Elt Ideal) f12 (ix2 r (⟨256 * j.val + l.val, by omega⟩ : Fin 3072)) :=
    (View.readAt_apply ..).trans (congrArg _ (emb_tile j _ r l))
  have : ∀ k : Fin 2048, (ix2 k (⟨256 * (j.val + 12) + l.val, by omega⟩ : Fin 6144) : S2048x6144.Idx) = ix2 k ⟨3072 + (256 * j.val + l.val), by omega⟩ := by
    intro k
    congr 1
    apply Fin.ext
    show 256 * (j.val + 12) + l.val = 3072 + (256 * j.val + l.val)
    omega
  exact if_congr Iff.rfl (congrArg₂ Spec.act (Finset.sum_congr rfl fun k _ => congrArg₂ (· * ·) (e6 k) (e11 ⟨j.val, by omega⟩ k))
    (Finset.sum_congr rfl fun k _ => congrArg₂ (· * ·) (e6 k) ((e11 ⟨j.val + 12, by omega⟩ k).trans (congrArg (arg11.view.read (Elt Ideal) f11) (this k))))) e12

end Cert.KernelIdeal
-- ==== Proof.KernelIdealTrip.lean ====
module

public import proofs.«01_k».proof.Proof.KernelIdealLists

/-!
The stores of one trip of the loop that unpacks the weights: sixteen groups of 128 rows, each from 64
rows of packed codes and one row of scales.
-/

@[expose] public section

set_option maxHeartbeats 1600000
set_option maxRecDepth 16384

namespace Cert.KernelIdeal

open Idealize.ShloMosaic Gen

variable {F : FTy → Type} [FloatOps F]

/-- The stores of one trip. -/
theorem trip_list (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (arg0 : BitVec 32) (X_arg7 : BufTy.Contents (Elt F) arg7.view.ty) (X_arg8 : BufTy.Contents (Elt F) arg8.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg0 X_arg7 X_arg8 k =
     [⟨Rect.unit (s := S2048x6144) (k0_off51 k) S128x256.size (k0_off51_inb k),
        k0_pay4 (F := F) (arg7.view.readAt (Elt F) (Rect.unit (s := S1x1024x6144) (k0_off49 k) S1x64x256.size (k0_off49_inb k)).toLoadRect X_arg7)
          (arg8.view.readAt (Elt F) (Rect.unit (s := S1x16x6144) (k0_off50 k) S1x1x256.size (k0_off50_inb k)).toLoadRect X_arg8)⟩,
      ⟨Rect.unit (s := S2048x6144) (k0_off48 k) S128x256.size (k0_off48_inb k),
        k0_pay4 (F := F) (arg7.view.readAt (Elt F) (Rect.unit (s := S1x1024x6144) (k0_off46 k) S1x64x256.size (k0_off46_inb k)).toLoadRect X_arg7)
          (arg8.view.readAt (Elt F) (Rect.unit (s := S1x16x6144) (k0_off47 k) S1x1x256.size (k0_off47_inb k)).toLoadRect X_arg8)⟩,
      ⟨Rect.unit (s := S2048x6144) (k0_off45 k) S128x256.size (k0_off45_inb k),
        k0_pay4 (F := F) (arg7.view.readAt (Elt F) (Rect.unit (s := S1x1024x6144) (k0_off43 k) S1x64x256.size (k0_off43_inb k)).toLoadRect X_arg7)
          (arg8.view.readAt (Elt F) (Rect.unit (s := S1x16x6144) (k0_off44 k) S1x1x256.size (k0_off44_inb k)).toLoadRect X_arg8)⟩,
      ⟨Rect.unit (s := S2048x6144) (k0_off42 k) S128x256.size (k0_off42_inb k),
        k0_pay4 (F := F) (arg7.view.readAt (Elt F) (Rect.unit (s := S1x1024x6144) (k0_off40 k) S1x64x256.size (k0_off40_inb k)).toLoadRect X_arg7)
          (arg8.view.readAt (Elt F) (Rect.unit (s := S1x16x6144) (k0_off41 k) S1x1x256.size (k0_off41_inb k)).toLoadRect X_arg8)⟩,
      ⟨Rect.unit (s := S2048x6144) (k0_off39 k) S128x256.size (k0_off39_inb k),
        k0_pay4 (F := F) (arg7.view.readAt (Elt F) (Rect.unit (s := S1x1024x6144) (k0_off37 k) S1x64x256.size (k0_off37_inb k)).toLoadRect X_arg7)
          (arg8.view.readAt (Elt F) (Rect.unit (s := S1x16x6144) (k0_off38 k) S1x1x256.size (k0_off38_inb k)).toLoadRect X_arg8)⟩,
      ⟨Rect.unit (s := S2048x6144) (k0_off36 k) S128x256.size (k0_off36_inb k),
        k0_pay4 (F := F) (arg7.view.readAt (Elt F) (Rect.unit (s := S1x1024x6144) (k0_off34 k) S1x64x256.size (k0_off34_inb k)).toLoadRect X_arg7)
          (arg8.view.readAt (Elt F) (Rect.unit (s := S1x16x6144) (k0_off35 k) S1x1x256.size (k0_off35_inb k)).toLoadRect X_arg8)⟩,
      ⟨Rect.unit (s := S2048x6144) (k0_off33 k) S128x256.size (k0_off33_inb k),
        k0_pay4 (F := F) (arg7.view.readAt (Elt F) (Rect.unit (s := S1x1024x6144) (k0_off31 k) S1x64x256.size (k0_off31_inb k)).toLoadRect X_arg7)
          (arg8.view.readAt (Elt F) (Rect.unit (s := S1x16x6144) (k0_off32 k) S1x1x256.size (k0_off32_inb k)).toLoadRect X_arg8)⟩,
      ⟨Rect.unit (s := S2048x6144) (k0_off30 k) S128x256.size (k0_off30_inb k),
        k0_pay4 (F := F) (arg7.view.readAt (Elt F) (Rect.unit (s := S1x1024x6144) (k0_off28 k) S1x64x256.size (k0_off28_inb k)).toLoadRect X_arg7)
          (arg8.view.readAt (Elt F) (Rect.unit (s := S1x16x6144) (k0_off29 k) S1x1x256.size (k0_off29_inb k)).toLoadRect X_arg8)⟩,
      ⟨Rect.unit (s := S2048x6144) (k0_off27 k) S128x256.size (k0_off27_inb k),
        k0_pay4 (F := F) (arg7.view.readAt (Elt F) (Rect.unit (s := S1x1024x6144) (k0_off25 k) S1x64x256.size (k0_off25_inb k)).toLoadRect X_arg7)
          (arg8.view.readAt (Elt F) (Rect.unit (s := S1x16x6144) (k0_off26 k) S1x1x256.size (k0_off26_inb k)).toLoadRect X_arg8)⟩,
      ⟨Rect.unit (s := S2048x6144) (k0_off24 k) S128x256.size (k0_off24_inb k),
        k0_pay4 (F := F) (arg7.view.readAt (Elt F) (Rect.unit (s := S1x1024x6144) (k0_off22 k) S1x64x256.size (k0_off22_inb k)).toLoadRect X_arg7)
          (arg8.view.readAt (Elt F) (Rect.unit (s := S1x16x6144) (k0_off23 k) S1x1x256.size (k0_off23_inb k)).toLoadRect X_arg8)⟩,
      ⟨Rect.unit (s := S2048x6144) (k0_off21 k) S128x256.size (k0_off21_inb k),
        k0_pay4 (F := F) (arg7.view.readAt (Elt F) (Rect.unit (s := S1x1024x6144) (k0_off19 k) S1x64x256.size (k0_off19_inb k)).toLoadRect X_arg7)
          (arg8.view.readAt (Elt F) (Rect.unit (s := S1x16x6144) (k0_off20 k) S1x1x256.size (k0_off20_inb k)).toLoadRect X_arg8)⟩,
      ⟨Rect.unit (s := S2048x6144) (k0_off18 k) S128x256.size (k0_off18_inb k),
        k0_pay4 (F := F) (arg7.view.readAt (Elt F) (Rect.unit (s := S1x1024x6144) (k0_off16 k) S1x64x256.size (k0_off16_inb k)).toLoadRect X_arg7)
          (arg8.view.readAt (Elt F) (Rect.unit (s := S1x16x6144) (k0_off17 k) S1x1x256.size (k0_off17_inb k)).toLoadRect X_arg8)⟩,
      ⟨Rect.unit (s := S2048x6144) (k0_off15 k) S128x256.size (k0_off15_inb k),
        k0_pay4 (F := F) (arg7.view.readAt (Elt F) (Rect.unit (s := S1x1024x6144) (k0_off13 k) S1x64x256.size (k0_off13_inb k)).toLoadRect X_arg7)
          (arg8.view.readAt (Elt F) (Rect.unit (s := S1x16x6144) (k0_off14 k) S1x1x256.size (k0_off14_inb k)).toLoadRect X_arg8)⟩,
      ⟨Rect.unit (s := S2048x6144) (k0_off12 k) S128x256.size (k0_off12_inb k),
        k0_pay4 (F := F) (arg7.view.readAt (Elt F) (Rect.unit (s := S1x1024x6144) (k0_off10 k) S1x64x256.size (k0_off10_inb k)).toLoadRect X_arg7)
          (arg8.view.readAt (Elt F) (Rect.unit (s := S1x16x6144) (k0_off11 k) S1x1x256.size (k0_off11_inb k)).toLoadRect X_arg8)⟩,
      ⟨Rect.unit (s := S2048x6144) (k0_off9 k) S128x256.size (k0_off9_inb k),
        k0_pay4 (F := F) (arg7.view.readAt (Elt F) (Rect.unit (s := S1x1024x6144) (k0_off7 k) S1x64x256.size (k0_off7_inb k)).toLoadRect X_arg7)
          (arg8.view.readAt (Elt F) (Rect.unit (s := S1x16x6144) (k0_off8 k) S1x1x256.size (k0_off8_inb k)).toLoadRect X_arg8)⟩,
      ⟨Rect.unit (s := S2048x6144) (k0_off6 k) S128x256.size (k0_off6_inb k),
        k0_pay4 (F := F) (arg7.view.readAt (Elt F) (Rect.unit (s := S1x1024x6144) (k0_off4 k) S1x64x256.size (k0_off4_inb k)).toLoadRect X_arg7)
          (arg8.view.readAt (Elt F) (Rect.unit (s := S1x16x6144) (k0_off5 k) S1x1x256.size (k0_off5_inb k)).toLoadRect X_arg8)⟩] := by
  delta tripL_k0_t1 trip_k0_t1
  rfl

theorem off4_eq : ∀ k : Fin k0_t1_loop.trips, k0_off4 k = ![0, 0, 256 * k.val] := by decide +kernel
theorem off5_eq : ∀ k : Fin k0_t1_loop.trips, k0_off5 k = ![0, 0, 256 * k.val] := by decide +kernel
theorem off6_eq : ∀ k : Fin k0_t1_loop.trips, k0_off6 k = ![0, 256 * k.val] := by decide +kernel

theorem off7_eq : ∀ k : Fin k0_t1_loop.trips, k0_off7 k = ![0, 64, 256 * k.val] := by decide +kernel
theorem off8_eq : ∀ k : Fin k0_t1_loop.trips, k0_off8 k = ![0, 1, 256 * k.val] := by decide +kernel
theorem off9_eq : ∀ k : Fin k0_t1_loop.trips, k0_off9 k = ![128, 256 * k.val] := by decide +kernel

theorem off10_eq : ∀ k : Fin k0_t1_loop.trips, k0_off10 k = ![0, 128, 256 * k.val] := by decide +kernel
theorem off11_eq : ∀ k : Fin k0_t1_loop.trips, k0_off11 k = ![0, 2, 256 * k.val] := by decide +kernel
theorem off12_eq : ∀ k : Fin k0_t1_loop.trips, k0_off12 k = ![256, 256 * k.val] := by decide +kernel

theorem off13_eq : ∀ k : Fin k0_t1_loop.trips, k0_off13 k = ![0, 192, 256 * k.val] := by decide +kernel
theorem off14_eq : ∀ k : Fin k0_t1_loop.trips, k0_off14 k = ![0, 3, 256 * k.val] := by decide +kernel
theorem off15_eq : ∀ k : Fin k0_t1_loop.trips, k0_off15 k = ![384, 256 * k.val] := by decide +kernel

theorem off16_eq : ∀ k : Fin k0_t1_loop.trips, k0_off16 k = ![0, 256, 256 * k.val] := by decide +kernel
theorem off17_eq : ∀ k : Fin k0_t1_loop.trips, k0_off17 k = ![0, 4, 256 * k.val] := by decide +kernel
theorem off18_eq : ∀ k : Fin k0_t1_loop.trips, k0_off18 k = ![512, 256 * k.val] := by decide +kernel

theorem off19_eq : ∀ k : Fin k0_t1_loop.trips, k0_off19 k = ![0, 320, 256 * k.val] := by decide +kernel
theorem off20_eq : ∀ k : Fin k0_t1_loop.trips, k0_off20 k = ![0, 5, 256 * k.val] := by decide +kernel
theorem off21_eq : ∀ k : Fin k0_t1_loop.trips, k0_off21 k = ![640, 256 * k.val] := by decide +kernel

theorem off22_eq : ∀ k : Fin k0_t1_loop.trips, k0_off22 k = ![0, 384, 256 * k.val] := by decide +kernel
theorem off23_eq : ∀ k : Fin k0_t1_loop.trips, k0_off23 k = ![0, 6, 256 * k.val] := by decide +kernel
theorem off24_eq : ∀ k : Fin k0_t1_loop.trips, k0_off24 k = ![768, 256 * k.val] := by decide +kernel

theorem off25_eq : ∀ k : Fin k0_t1_loop.trips, k0_off25 k = ![0, 448, 256 * k.val] := by decide +kernel
theorem off26_eq : ∀ k : Fin k0_t1_loop.trips, k0_off26 k = ![0, 7, 256 * k.val] := by decide +kernel
theorem off27_eq : ∀ k : Fin k0_t1_loop.trips, k0_off27 k = ![896, 256 * k.val] := by decide +kernel

theorem off28_eq : ∀ k : Fin k0_t1_loop.trips, k0_off28 k = ![0, 512, 256 * k.val] := by decide +kernel
theorem off29_eq : ∀ k : Fin k0_t1_loop.trips, k0_off29 k = ![0, 8, 256 * k.val] := by decide +kernel
theorem off30_eq : ∀ k : Fin k0_t1_loop.trips, k0_off30 k = ![1024, 256 * k.val] := by decide +kernel

theorem off31_eq : ∀ k : Fin k0_t1_loop.trips, k0_off31 k = ![0, 576, 256 * k.val] := by decide +kernel
theorem off32_eq : ∀ k : Fin k0_t1_loop.trips, k0_off32 k = ![0, 9, 256 * k.val] := by decide +kernel
theorem off33_eq : ∀ k : Fin k0_t1_loop.trips, k0_off33 k = ![1152, 256 * k.val] := by decide +kernel

theorem off34_eq : ∀ k : Fin k0_t1_loop.trips, k0_off34 k = ![0, 640, 256 * k.val] := by decide +kernel
theorem off35_eq : ∀ k : Fin k0_t1_loop.trips, k0_off35 k = ![0, 10, 256 * k.val] := by decide +kernel
theorem off36_eq : ∀ k : Fin k0_t1_loop.trips, k0_off36 k = ![1280, 256 * k.val] := by decide +kernel

theorem off37_eq : ∀ k : Fin k0_t1_loop.trips, k0_off37 k = ![0, 704, 256 * k.val] := by decide +kernel
theorem off38_eq : ∀ k : Fin k0_t1_loop.trips, k0_off38 k = ![0, 11, 256 * k.val] := by decide +kernel
theorem off39_eq : ∀ k : Fin k0_t1_loop.trips, k0_off39 k = ![1408, 256 * k.val] := by decide +kernel

theorem off40_eq : ∀ k : Fin k0_t1_loop.trips, k0_off40 k = ![0, 768, 256 * k.val] := by decide +kernel
theorem off41_eq : ∀ k : Fin k0_t1_loop.trips, k0_off41 k = ![0, 12, 256 * k.val] := by decide +kernel
theorem off42_eq : ∀ k : Fin k0_t1_loop.trips, k0_off42 k = ![1536, 256 * k.val] := by decide +kernel

theorem off43_eq : ∀ k : Fin k0_t1_loop.trips, k0_off43 k = ![0, 832, 256 * k.val] := by decide +kernel
theorem off44_eq : ∀ k : Fin k0_t1_loop.trips, k0_off44 k = ![0, 13, 256 * k.val] := by decide +kernel
theorem off45_eq : ∀ k : Fin k0_t1_loop.trips, k0_off45 k = ![1664, 256 * k.val] := by decide +kernel

theorem off46_eq : ∀ k : Fin k0_t1_loop.trips, k0_off46 k = ![0, 896, 256 * k.val] := by decide +kernel
theorem off47_eq : ∀ k : Fin k0_t1_loop.trips, k0_off47 k = ![0, 14, 256 * k.val] := by decide +kernel
theorem off48_eq : ∀ k : Fin k0_t1_loop.trips, k0_off48 k = ![1792, 256 * k.val] := by decide +kernel

theorem off49_eq : ∀ k : Fin k0_t1_loop.trips, k0_off49 k = ![0, 960, 256 * k.val] := by decide +kernel
theorem off50_eq : ∀ k : Fin k0_t1_loop.trips, k0_off50 k = ![0, 15, 256 * k.val] := by decide +kernel
theorem off51_eq : ∀ k : Fin k0_t1_loop.trips, k0_off51 k = ![1920, 256 * k.val] := by decide +kernel

end Cert.KernelIdeal
-- ==== Proof.KernelIdealDequant.lean ====
module

public import proofs.«01_k».proof.Proof.KernelIdealTrip
public import proofs.«01_k».proof.Proof.Spec
public import Idealize.ShloMosaic.Lib.Pointwise
public import Idealize.ShloMosaic.Lib.Writes
public import Idealize.ShloMosaic.Lib.Pipeline.ValueKit

/-!
What the buffer of the unpacked weights holds after the loop, over the extended reals: at row `k` and
column `n` the signed code in byte `k / 2` times the scale of the group of row `k`.
-/

@[expose] public section

set_option maxHeartbeats 1600000
set_option maxRecDepth 16384

namespace Cert.KernelIdeal

open Idealize.ShloMosaic Gen

/-- The signed code as the kernel takes it out of a byte. -/
theorem code_word : ∀ (b : BitVec 8) (q : Fin 2),
    (IntOp.shrsi ArithUnit.vector (IntOp.shli ArithUnit.vector (BitVec.setWidth 32 (IntOp.xori b 136#8))
      (IntOp.subi 28#32 (IntOp.muli 4#32 (BitVec.ofNat 32 q.val)))) 28#32).toInt = Spec.code b q.val := by
  decide +kernel

theorem pay4_at (c : Vec Ideal S1x64x256 .i8) (s : Vec Ideal S1x1x256 .bf16) (p : Fin 128) (l : Fin 256) :
    k0_pay4 (F := Ideal) c s (ix2 p l) =
      ((Spec.code (c (ix3 0 ⟨p.val / 2, by omega⟩ l)) (p.val % 2) : ℝ) : EReal) * s (ix3 0 0 l) := by
  pointwise [k0_pay4]
  have := code_word (c (ix3 0 ⟨p.val / 2, by omega⟩ l)) ⟨p.val % 2, by omega⟩
  refine congrArg (· * s (ix3 0 0 l)) ?_
  exact congrArg (fun z : ℤ => ((z : ℝ) : EReal)) this

theorem trips_eq : k0_t1_loop.trips = 24 := by decide +kernel

/-- The unpacked weights from the two windows. -/
noncomputable def wts (v7 : View sig .tc .vmem S1x1024x6144 .i8) (v8 : View sig .tc .vmem S1x16x6144 .bf16)
    (X7 : BufTy.Contents (Elt Ideal) v7.ty) (X8 : BufTy.Contents (Elt Ideal) v8.ty) (k : Fin 2048) (n : Fin 6144) : EReal :=
  ((Spec.code (v7.read (Elt Ideal) X7 (ix3 0 ⟨k.val / 2, by omega⟩ n)) (k.val % 2) : ℝ) : EReal)
    * v8.read (Elt Ideal) X8 (ix3 0 ⟨k.val / 128, by omega⟩ n)

/-- Where a place of a rectangle of the unpacked weights lies. -/
theorem emb_w (o : Fin 2 → ℕ) (g t : ℕ) (hg : g < 16) (ht : t < 24) (ho : o = ![128 * g, 256 * t]) (inb) (p : Fin 128) (l : Fin 256) :
    (Rect.unit (s := S2048x6144) o S128x256.size inb).emb (ix2 p l)
      = (ix2 (⟨128 * g + p.val, by omega⟩ : Fin 2048) (⟨256 * t + l.val, by omega⟩ : Fin 6144) : S2048x6144.Idx) := by
  subst ho
  funext a
  apply Fin.ext
  rw [ValueKit.rect_emb_unit_val]
  match a with
  | ⟨0, _⟩ => rfl
  | ⟨1, _⟩ => rfl

theorem emb_c (o : Fin 3 → ℕ) (g t : ℕ) (hg : g < 16) (ht : t < 24) (ho : o = ![0, 64 * g, 256 * t]) (inb) (p : Fin 64) (l : Fin 256) :
    (Rect.unit (s := S1x1024x6144) o S1x64x256.size inb).emb (ix3 0 p l)
      = (ix3 0 (⟨64 * g + p.val, by omega⟩ : Fin 1024) (⟨256 * t + l.val, by omega⟩ : Fin 6144) : S1x1024x6144.Idx) := by
  subst ho
  funext a
  apply Fin.ext
  rw [ValueKit.rect_emb_unit_val]
  match a with
  | ⟨0, _⟩ => rfl
  | ⟨1, _⟩ => rfl
  | ⟨2, _⟩ => rfl

theorem emb_s (o : Fin 3 → ℕ) (g t : ℕ) (hg : g < 16) (ht : t < 24) (ho : o = ![0, g, 256 * t]) (inb) (l : Fin 256) :
    (Rect.unit (s := S1x16x6144) o S1x1x256.size inb).emb (ix3 0 0 l)
      = (ix3 0 (⟨g, hg⟩ : Fin 16) (⟨256 * t + l.val, by omega⟩ : Fin 6144) : S1x16x6144.Idx) := by
  subst ho
  funext a
  apply Fin.ext
  rw [ValueKit.rect_emb_unit_val]
  match a with
  | ⟨0, _⟩ => rfl
  | ⟨1, _⟩ => rfl
  | ⟨2, _⟩ => rfl

/-- One store of the loop holds the unpacked weights of its group. -/
theorem piece_w (v7 : View sig .tc .vmem S1x1024x6144 .i8) (v8 : View sig .tc .vmem S1x16x6144 .bf16)
    (X7 : BufTy.Contents (Elt Ideal) v7.ty) (X8 : BufTy.Contents (Elt Ideal) v8.ty) (k : Fin k0_t1_loop.trips) (g : ℕ) (hg : g < 16)
    {o6 : Fin 2 → ℕ} {o4 o5 : Fin 3 → ℕ} (h6 : o6 = ![128 * g, 256 * k.val]) (h4 : o4 = ![0, 64 * g, 256 * k.val]) (h5 : o5 = ![0, g, 256 * k.val])
    (i6) (i4) (i5) (x : S128x256.Idx) :
    k0_pay4 (F := Ideal) (v7.readAt (Elt Ideal) (Rect.unit (s := S1x1024x6144) o4 S1x64x256.size i4).toLoadRect X7)
      (v8.readAt (Elt Ideal) (Rect.unit (s := S1x16x6144) o5 S1x1x256.size i5).toLoadRect X8) x =
    (fun y : S2048x6144.Idx => wts v7 v8 X7 X8 (y 0) (y 1)) ((Rect.unit (s := S2048x6144) o6 S128x256.size i6).emb x) := by
  have hk : k.val < 24 := by rw [← trips_eq]; exact k.isLt
  obtain ⟨p, l, rfl⟩ : ∃ (p : Fin 128) (l : Fin 256), x = ix2 p l := ⟨x 0, x 1, eq_ix2 x⟩
  have e6 := emb_w o6 g k.val hg hk h6 i6 p l
  show _ = (fun y : S2048x6144.Idx => wts v7 v8 X7 X8 (y 0) (y 1)) ((Rect.unit (s := S2048x6144) o6 S128x256.size i6).emb (ix2 p l))
  rw [e6]
  refine (pay4_at _ _ p l).trans ?_
  have e4 : v7.readAt (Elt Ideal) (Rect.unit (s := S1x1024x6144) o4 S1x64x256.size i4).toLoadRect X7 (ix3 0 ⟨p.val / 2, by omega⟩ l)
      = v7.read (Elt Ideal) X7 (ix3 0 (⟨64 * g + p.val / 2, by omega⟩ : Fin 1024) (⟨256 * k.val + l.val, by omega⟩ : Fin 6144)) :=
    (View.readAt_apply ..).trans (congrArg _ (emb_c o4 g k.val hg hk h4 i4 ⟨p.val / 2, by omega⟩ l))
  have e5 : v8.readAt (Elt Ideal) (Rect.unit (s := S1x16x6144) o5 S1x1x256.size i5).toLoadRect X8 (ix3 0 0 l)
      = v8.read (Elt Ideal) X8 (ix3 0 (⟨g, hg⟩ : Fin 16) (⟨256 * k.val + l.val, by omega⟩ : Fin 6144)) :=
    (View.readAt_apply ..).trans (congrArg _ (emb_s o5 g k.val hg hk h5 i5 l))
  rw [e4, e5]
  show _ = wts v7 v8 X7 X8 ⟨128 * g + p.val, by omega⟩ ⟨256 * k.val + l.val, by omega⟩
  unfold wts
  have a1 : (⟨64 * g + p.val / 2, by omega⟩ : Fin 1024) = ⟨(128 * g + p.val) / 2, by omega⟩ := Fin.ext (by show 64 * g + p.val / 2 = (128 * g + p.val) / 2; omega)
  have a2 : p.val % 2 = (128 * g + p.val) % 2 := by omega
  have a3 : (⟨g, hg⟩ : Fin 16) = ⟨(128 * g + p.val) / 128, by omega⟩ := Fin.ext (by show g = (128 * g + p.val) / 128; omega)
  rw [a1, a2, a3]

/-- Every store of a trip holds the unpacked weights. -/
theorem trip_w (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (arg0 : BitVec 32) (X_arg7 : BufTy.Contents (Elt Ideal) arg7.view.ty) (X_arg8 : BufTy.Contents (Elt Ideal) arg8.view.ty) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg0 X_arg7 X_arg8 k,
      ∀ x, p.2 x = (fun y : S2048x6144.Idx => wts arg7.view arg8.view X_arg7 X_arg8 (y 0) (y 1)) (p.1.emb x) := by
  rw [trip_list]
  simp only [List.forall_mem_cons]
  exact ⟨piece_w arg7.view arg8.view X_arg7 X_arg8 k 15 (by omega) (off51_eq k) (off49_eq k) (off50_eq k) _ _ _,
    piece_w arg7.view arg8.view X_arg7 X_arg8 k 14 (by omega) (off48_eq k) (off46_eq k) (off47_eq k) _ _ _,
    piece_w arg7.view arg8.view X_arg7 X_arg8 k 13 (by omega) (off45_eq k) (off43_eq k) (off44_eq k) _ _ _,
    piece_w arg7.view arg8.view X_arg7 X_arg8 k 12 (by omega) (off42_eq k) (off40_eq k) (off41_eq k) _ _ _,
    piece_w arg7.view arg8.view X_arg7 X_arg8 k 11 (by omega) (off39_eq k) (off37_eq k) (off38_eq k) _ _ _,
    piece_w arg7.view arg8.view X_arg7 X_arg8 k 10 (by omega) (off36_eq k) (off34_eq k) (off35_eq k) _ _ _,
    piece_w arg7.view arg8.view X_arg7 X_arg8 k 9 (by omega) (off33_eq k) (off31_eq k) (off32_eq k) _ _ _,
    piece_w arg7.view arg8.view X_arg7 X_arg8 k 8 (by omega) (off30_eq k) (off28_eq k) (off29_eq k) _ _ _,
    piece_w arg7.view arg8.view X_arg7 X_arg8 k 7 (by omega) (off27_eq k) (off25_eq k) (off26_eq k) _ _ _,
    piece_w arg7.view arg8.view X_arg7 X_arg8 k 6 (by omega) (off24_eq k) (off22_eq k) (off23_eq k) _ _ _,
    piece_w arg7.view arg8.view X_arg7 X_arg8 k 5 (by omega) (off21_eq k) (off19_eq k) (off20_eq k) _ _ _,
    piece_w arg7.view arg8.view X_arg7 X_arg8 k 4 (by omega) (off18_eq k) (off16_eq k) (off17_eq k) _ _ _,
    piece_w arg7.view arg8.view X_arg7 X_arg8 k 3 (by omega) (off15_eq k) (off13_eq k) (off14_eq k) _ _ _,
    piece_w arg7.view arg8.view X_arg7 X_arg8 k 2 (by omega) (off12_eq k) (off10_eq k) (off11_eq k) _ _ _,
    piece_w arg7.view arg8.view X_arg7 X_arg8 k 1 (by omega) (off9_eq k) (off7_eq k) (off8_eq k) _ _ _,
    piece_w arg7.view arg8.view X_arg7 X_arg8 k 0 (by omega) (off6_eq k) (off4_eq k) (off5_eq k) _ _ _,
    fun _ h => absurd h List.not_mem_nil⟩

/-- The stores of a trip cover its columns. -/
theorem trip_cover (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (arg0 : BitVec 32) (X_arg7 : BufTy.Contents (Elt Ideal) arg7.view.ty) (X_arg8 : BufTy.Contents (Elt Ideal) arg8.view.ty) (k : Fin k0_t1_loop.trips) (y : S2048x6144.Idx) (hy : (y 1).val / 256 = k.val) :
    ∃ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg0 X_arg7 X_arg8 k, ∃ x, p.1.emb x = y := by
  have hk : k.val < 24 := by rw [← trips_eq]; exact k.isLt
  have h0 : (y 0).val < 2048 := (y 0).isLt
  have h1 : (y 1).val < 6144 := (y 1).isLt
  rw [trip_list]
  have key : ∀ (g : ℕ) (hg : g < 16) (o : Fin 2 → ℕ) (ho : o = ![128 * g, 256 * k.val]) (inb), (y 0).val / 128 = g →
      (Rect.unit (s := S2048x6144) o S128x256.size inb).emb (ix2 (⟨(y 0).val % 128, by omega⟩ : Fin 128) (⟨(y 1).val % 256, by omega⟩ : Fin 256)) = y := by
    intro g hg o ho inb e
    rw [emb_w o g k.val hg hk ho inb]
    funext a
    apply Fin.ext
    match a with
    | ⟨0, _⟩ => show 128 * g + (y 0).val % 128 = (y 0).val; omega
    | ⟨1, _⟩ => show 256 * k.val + (y 1).val % 256 = (y 1).val; omega
  have hc : (y 0).val / 128 < 16 := by omega
  obtain ⟨g, hg⟩ : ∃ g, g = (y 0).val / 128 := ⟨_, rfl⟩
  rw [← hg] at hc
  match g, hc with
  | 0, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), _, key 0 (by omega) _ (off6_eq k) (k0_off6_inb k) hg.symm⟩
  | 1, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), _, key 1 (by omega) _ (off9_eq k) (k0_off9_inb k) hg.symm⟩
  | 2, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), _, key 2 (by omega) _ (off12_eq k) (k0_off12_inb k) hg.symm⟩
  | 3, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), _, key 3 (by omega) _ (off15_eq k) (k0_off15_inb k) hg.symm⟩
  | 4, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), _, key 4 (by omega) _ (off18_eq k) (k0_off18_inb k) hg.symm⟩
  | 5, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), _, key 5 (by omega) _ (off21_eq k) (k0_off21_inb k) hg.symm⟩
  | 6, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), _, key 6 (by omega) _ (off24_eq k) (k0_off24_inb k) hg.symm⟩
  | 7, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), _, key 7 (by omega) _ (off27_eq k) (k0_off27_inb k) hg.symm⟩
  | 8, _ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), _, key 8 (by omega) _ (off30_eq k) (k0_off30_inb k) hg.symm⟩
  | 9, _ => exact ⟨_, List.mem_cons_of_mem _ (List.mem_cons_of_mem _ (List.mem_cons_of_mem _ (List.mem_cons_of_mem _ (List.mem_cons_of_mem _ (List.mem_cons_of_mem _ (List.mem_cons_self)))))), _, key 9 (by omega) _ (off33_eq k) (k0_off33_inb k) hg.symm⟩
  | 10, _ => exact ⟨_, List.mem_cons_of_mem _ (List.mem_cons_of_mem _ (List.mem_cons_of_mem _ (List.mem_cons_of_mem _ (List.mem_cons_of_mem _ (List.mem_cons_self))))), _, key 10 (by omega) _ (off36_eq k) (k0_off36_inb k) hg.symm⟩
  | 11, _ => exact ⟨_, List.mem_cons_of_mem _ (List.mem_cons_of_mem _ (List.mem_cons_of_mem _ (List.mem_cons_of_mem _ (List.mem_cons_self)))), _, key 11 (by omega) _ (off39_eq k) (k0_off39_inb k) hg.symm⟩
  | 12, _ => exact ⟨_, List.mem_cons_of_mem _ (List.mem_cons_of_mem _ (List.mem_cons_of_mem _ (List.mem_cons_self))), _, key 12 (by omega) _ (off42_eq k) (k0_off42_inb k) hg.symm⟩
  | 13, _ => exact ⟨_, List.mem_cons_of_mem _ (List.mem_cons_of_mem _ (List.mem_cons_self)), _, key 13 (by omega) _ (off45_eq k) (k0_off45_inb k) hg.symm⟩
  | 14, _ => exact ⟨_, List.mem_cons_of_mem _ (List.mem_cons_self), _, key 14 (by omega) _ (off48_eq k) (k0_off48_inb k) hg.symm⟩
  | 15, _ => exact ⟨_, List.mem_cons_self, _, key 15 (by omega) _ (off51_eq k) (k0_off51_inb k) hg.symm⟩
  | n + 16, h => exact absurd h (by omega)

/-- Every store of the first `n` trips holds the unpacked weights. -/
theorem pb_w (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (arg0 : BitVec 32) (X_arg7 : BufTy.Contents (Elt Ideal) arg7.view.ty) (X_arg8 : BufTy.Contents (Elt Ideal) arg8.view.ty)  (n : ℕ) (hn : n ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X_arg7 X_arg8 n,
      ∀ x, p.2 x = (fun y : S2048x6144.Idx => wts arg7.view arg8.view X_arg7 X_arg8 (y 0) (y 1)) (p.1.emb x) := by
  induction n with
  | zero => intro p hp; exact absurd hp List.not_mem_nil
  | succ n ih =>
    intro p hp
    rw [pb_k0_t1_succ Variants.none c none i arg1 harg1 arg2 harg2 arg3 harg3 arg4 harg4 arg5 harg5 arg6 harg6 arg7 harg7 arg8 harg8 arg9 harg9 arg10 harg10 arg11 harg11 arg12 harg12 arg0 X_arg7 X_arg8 ⟨n, hn⟩] at hp
    rcases List.mem_append.1 hp with h | h
    · exact trip_w c i arg1 harg1 arg2 harg2 arg3 harg3 arg4 harg4 arg5 harg5 arg6 harg6 arg7 harg7 arg8 harg8 arg9 harg9 arg10 harg10 arg11 harg11 arg12 harg12 arg0 X_arg7 X_arg8 ⟨n, hn⟩ p h
    · exact ih (by omega) p h

/-- The stores of the first `n` trips cover their columns. -/
theorem pb_cover (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (arg0 : BitVec 32) (X_arg7 : BufTy.Contents (Elt Ideal) arg7.view.ty) (X_arg8 : BufTy.Contents (Elt Ideal) arg8.view.ty)  (y : S2048x6144.Idx) (n : ℕ) (hn : n ≤ k0_t1_loop.trips) (hy : (y 1).val / 256 < n) :
    ∃ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X_arg7 X_arg8 n, ∃ x, p.1.emb x = y := by
  induction n with
  | zero => omega
  | succ n ih =>
    rw [pb_k0_t1_succ Variants.none c none i arg1 harg1 arg2 harg2 arg3 harg3 arg4 harg4 arg5 harg5 arg6 harg6 arg7 harg7 arg8 harg8 arg9 harg9 arg10 harg10 arg11 harg11 arg12 harg12 arg0 X_arg7 X_arg8 ⟨n, hn⟩]
    by_cases h : (y 1).val / 256 = n
    · obtain ⟨p, hp, x, hx⟩ := trip_cover c i arg1 harg1 arg2 harg2 arg3 harg3 arg4 harg4 arg5 harg5 arg6 harg6 arg7 harg7 arg8 harg8 arg9 harg9 arg10 harg10 arg11 harg11 arg12 harg12 arg0 X_arg7 X_arg8 ⟨n, hn⟩ y h
      exact ⟨p, List.mem_append_left _ hp, x, hx⟩
    · obtain ⟨p, hp, x, hx⟩ := ih (by omega) (by omega)
      exact ⟨p, List.mem_append_right _ hp, x, hx⟩

/-- What the buffer of the unpacked weights reads after the loop. -/
theorem read_w (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S1 .i32) (harg5 : arg5.IsWhole) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (arg11 : Memref sig .tc .vmem S2048x6144 .bf16) (harg11 : arg11.IsWhole) (arg12 : Memref sig .tc .vmem S512x3072 .f32) (harg12 : arg12.IsWhole) (arg0 : BitVec 32) (X_arg7 : BufTy.Contents (Elt Ideal) arg7.view.ty) (X_arg8 : BufTy.Contents (Elt Ideal) arg8.view.ty)  (f : BufTy.Contents (Elt Ideal) arg11.view.ty) (k : Fin 2048) (n : Fin 6144) :
    arg11.view.read (Elt Ideal) (arg11.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg0 X_arg7 X_arg8 k0_t1_loop.trips)) (ix2 k n)
      = wts arg7.view arg8.view X_arg7 X_arg8 k n := by
  refine View.read_writes_apply_of_pieces arg11.view f (fun y : S2048x6144.Idx => wts arg7.view arg8.view X_arg7 X_arg8 (y 0) (y 1)) _
    (pb_w c i arg1 harg1 arg2 harg2 arg3 harg3 arg4 harg4 arg5 harg5 arg6 harg6 arg7 harg7 arg8 harg8 arg9 harg9 arg10 harg10 arg11 harg11 arg12 harg12 arg0 X_arg7 X_arg8 _ le_rfl) (ix2 k n) ?_
  obtain ⟨p, hp, x, hx⟩ := pb_cover c i arg1 harg1 arg2 harg2 arg3 harg3 arg4 harg4 arg5 harg5 arg6 harg6 arg7 harg7 arg8 harg8 arg9 harg9 arg10 harg10 arg11 harg11 arg12 harg12 arg0 X_arg7 X_arg8 (ix2 k n) k0_t1_loop.trips le_rfl (by
    rw [trips_eq]; show n.val / 256 < 24; omega)
  exact ⟨p, hp, hx ▸ p.1.idx_mem x⟩

end Cert.KernelIdeal
-- ==== Proof.KernelIdealFacts.lean ====
module

public import proofs.«01_k».proof.Proof.KernelIdealRun
public import proofs.«01_k».proof.Proof.KernelIdealVisit
public import proofs.«01_k».proof.Proof.KernelIdealDequant

/-!
What a visit reads: the words of its tables, its two conditions, and the blocks of its windows, over the
extended reals.
-/

@[expose] public section

set_option maxHeartbeats 200000
set_option maxRecDepth 16384

noncomputable section

namespace Cert.KernelIdeal

open Idealize.ShloMosaic Idealize.ShloMosaic.TcCoe Idealize.ShloMosaic.Pipeline Gen
open Idealize.ShloMosaic.Routing (shape1)

variable (m : (ℓ : Loc nD τ sig) → Buf (Elt Ideal) ℓ)
variable {f : ℕ → ℕ} (hf : Sched.P f 16 = 49152)
  (hg : ∀ c (i : Fin 16), (m (c, Proc.devRef (τ := τ) .tc main_arg1) : IVec (shape1 16) 32) (ix1 i) = BitVec.ofNat 32 (f i.val))

theorem coords_val (t : Fin grid0.N) : (grid0.coords t 0).val = t.val := by
  revert t; decide +kernel

theorem at_v26 (k : Fin 1 → ℕ) (n : ℕ) (hn : n < 111) (hk : k = ![n]) (inb) (g : BufTy.Contents (Elt Ideal) (Memref.whole main_v26).view.ty) (x : S1.Idx) :
    (Memref.whole main_v26).view.readAt (Elt Ideal) (Rect.unit (s := S111) k S1.size inb).toLoadRect g x = (g : IVec (shape1 111) 32) (ValueIdx.ix1 ⟨n, hn⟩) := by
  subst hk
  exact congrArg g (emb_word n n rfl hn _ _)

theorem at_v54 (k : Fin 1 → ℕ) (n : ℕ) (hn : n < 111) (hk : k = ![n]) (inb) (g : BufTy.Contents (Elt Ideal) (Memref.whole main_v54).view.ty) (x : S1.Idx) :
    (Memref.whole main_v54).view.readAt (Elt Ideal) (Rect.unit (s := S111) k S1.size inb).toLoadRect g x = (g : IVec (shape1 111) 32) (ValueIdx.ix1 ⟨n, hn⟩) := by
  subst hk
  exact congrArg g (emb_word n n rfl hn _ _)

theorem at_v66 (k : Fin 1 → ℕ) (n : ℕ) (hn : n < 111) (hk : k = ![n]) (inb) (g : BufTy.Contents (Elt Ideal) (Memref.whole main_v66).view.ty) (x : S1.Idx) :
    (Memref.whole main_v66).view.readAt (Elt Ideal) (Rect.unit (s := S111) k S1.size inb).toLoadRect g x = (g : IVec (shape1 111) 32) (ValueIdx.ix1 ⟨n, hn⟩) := by
  subst hk
  exact congrArg g (emb_word n n rfl hn _ _)

theorem off_coord (t : grid0.Coords) : (![(Scalar.indexCast (BitVec.ofNat 32 (t 0).val)).toNat] : Fin 1 → ℕ) = ![(t 0).val] :=
  congrArg (fun n : ℕ => (![n] : Fin 1 → ℕ)) (coord t)

include hf hg

theorem lo_word (c : Dev nD) (t : grid0.Coords) :
    ((Memref.whole main_v54).view.readAt (Elt Ideal) (Rect.unit (s := S111) (k0_off52 t) S1.size (k0_off52_inb t)).toLoadRect (V m c main_v54) (Shape.Idx.first (numel1_S1.symm ▸ Nat.one_pos)) : BitVec 32)
      = BitVec.ofNat 32 (Sched.lo f (t 0).val) := by
  exact (at_v54 _ _ (t 0).isLt (off_coord t) _ (V m c main_v54) _).trans (V_first m c hf (hg c) ⟨(t 0).val, (t 0).isLt⟩)

theorem hi_word (c : Dev nD) (t : grid0.Coords) :
    ((Memref.whole main_v66).view.readAt (Elt Ideal) (Rect.unit (s := S111) (k0_off52 t) S1.size (k0_off52_inb t)).toLoadRect (V m c main_v66) (Shape.Idx.first (numel1_S1.symm ▸ Nat.one_pos)) : BitVec 32)
      = BitVec.ofNat 32 (Sched.hi f (t 0).val) := by
  exact (at_v66 _ _ (t 0).isLt (off_coord t) _ (V m c main_v66) _).trans (V_last m c hf (hg c) ⟨(t 0).val, (t 0).isLt⟩)

theorem ex_word (c : Dev nD) (t : grid0.Coords) :
    ((Memref.whole main_v26).view.readAt (Elt Ideal) (Rect.unit (s := S111) (k0_off2 t) S1.size (k0_off2_inb t)).toLoadRect (V m c main_v26) (Shape.Idx.first (numel1_S1.symm ▸ Nat.one_pos)) : BitVec 32)
      = BitVec.ofNat 32 (Sched.ex f (t 0).val) := by
  exact (at_v26 _ _ (t 0).isLt (off_coord t) _ (V m c main_v26) _).trans (V_expert m c hf (hg c) ⟨(t 0).val, (t 0).isLt⟩)

omit hf hg in
theorem prev_coord (n : ℕ) (h : n < 111) : (Scalar.indexCast (Scalar.maxsi (Scalar.subi (BitVec.ofNat 32 n) 1#32) 0#32)).toNat = n - 1 := by
  have := Words.max_sub_word (a := n) (b := 1) (by omega) (by omega)
  exact (congrArg BitVec.toNat this).trans (Words.toNat_small (by omega))

omit hf hg in
theorem off_prev (t : grid0.Coords) : k0_off3 t = ![(t 0).val - 1] :=
  congrArg (fun n : ℕ => (![n] : Fin 1 → ℕ)) (prev_coord (t 0).val (t 0).isLt)

theorem prev_word (c : Dev nD) (t : grid0.Coords) :
    ((Memref.whole main_v26).view.readAt (Elt Ideal) (Rect.unit (s := S111) (k0_off3 t) S1.size (k0_off3_inb t)).toLoadRect (V m c main_v26) (Shape.Idx.first (numel1_S1.symm ▸ Nat.one_pos)) : BitVec 32)
      = BitVec.ofNat 32 (Sched.ex f ((t 0).val - 1)) := by
  have h : (t 0).val < 111 := (t 0).isLt
  exact (at_v26 _ ((t 0).val - 1) (by omega) (off_prev t) _ (V m c main_v26) _).trans (V_expert m c hf (hg c) ⟨(t 0).val - 1, by omega⟩)

omit hf hg in
theorem at_v67 (inb) (g : BufTy.Contents (Elt Ideal) (Memref.whole main_v67).view.ty) (x : S1.Idx) :
    (Memref.whole main_v67).view.readAt (Elt Ideal) (Rect.unit (s := S1) ![0] S1.size inb).toLoadRect g x = (g : IVec (shape1 1) 32) (ValueIdx.ix1 0) := by
  refine congrArg g ?_
  funext a
  match a with
  | ⟨0, _⟩ => exact Subsingleton.elim (α := Fin 1) _ _

theorem tot_word (c : Dev nD) :
    ((Memref.whole main_v67).view.readAt (Elt Ideal) (Rect.unit (s := S1) ![0] S1.size inb_S1_S1_0).toLoadRect (V m c main_v67) (Shape.Idx.first (numel1_S1.symm ▸ Nat.one_pos)) : BitVec 32)
      = BitVec.ofNat 32 (Sched.tot f) := by
  exact (at_v67 _ (V m c main_v67) _).trans (V_total m c hf (hg c) 0)

omit hf hg in
theorem ne_ext : ∀ b : BitVec 1, (Scalar.cmpi .ne (Scalar.extui b : BitVec 32) 0#32 = 1#1) ↔ b = 1#1 := by decide

/-- A visit runs if it is one of those counted. -/
theorem cond1_iff (c : Dev nD) (t : Fin grid0.N) :
    k0_cond1 (grid0.coords t) ((Memref.whole main_v67).view.readAt (Elt Ideal) (Rect.unit (s := S1) ![0] S1.size inb_S1_S1_0).toLoadRect (V m c main_v67) (Shape.Idx.first (numel1_S1.symm ▸ Nat.one_pos))) = 1#1
      ↔ t.val < Sched.tot f := by
  have h1 : t.val < 111 := t.isLt
  have h2 := Sched.tot_le f hf
  rw [tot_word m hf hg c]
  unfold k0_cond1
  dsimp only
  rw [coords_val, ne_ext]
  exact Words.slt_word (by omega) (by omega)

omit hf hg in
theorem or_one : ∀ a b : BitVec 1, (Scalar.ori a b = 1#1) ↔ (a = 1#1 ∨ b = 1#1) := by decide

omit hf hg in
theorem eq_word {a b : ℕ} (ha : a < 2 ^ 31) (hb : b < 2 ^ 31) : Scalar.cmpi .eq (BitVec.ofNat 32 a) (BitVec.ofNat 32 b) = 1#1 ↔ a = b := by
  show BitVec.ofBool (BitVec.ofNat 32 a == BitVec.ofNat 32 b) = 1#1 ↔ _
  constructor
  · intro h
    by_contra hne
    have : BitVec.ofNat 32 a ≠ BitVec.ofNat 32 b := fun e => hne (by
      have := congrArg BitVec.toNat e
      rwa [Words.toNat_small ha, Words.toNat_small hb] at this)
    rw [beq_eq_false_iff_ne.2 this] at h
    exact absurd h (by decide)
  · rintro rfl; simp

omit hf hg in
theorem ne_word {a b : ℕ} (ha : a < 2 ^ 31) (hb : b < 2 ^ 31) : Scalar.cmpi .ne (BitVec.ofNat 32 a) (BitVec.ofNat 32 b) = 1#1 ↔ a ≠ b := by
  have h := eq_word ha hb
  have e : ∀ x y : BitVec 32, Scalar.cmpi .ne x y = 1#1 ↔ ¬ Scalar.cmpi .eq x y = 1#1 := by
    intro x y
    show BitVec.ofBool (x != y) = 1#1 ↔ ¬ BitVec.ofBool (x == y) = 1#1
    unfold bne
    cases x == y <;> decide
  rw [e, h]

/-- A visit unpacks the weights if it is the first or its expert is not the one before. -/
theorem cond2_iff (c : Dev nD) (t : Fin grid0.N) :
    Scalar.cmpi .ne (Scalar.extui (Scalar.ori (Scalar.cmpi .eq (BitVec.ofNat 32 (grid0.coords t 0).val) 0#32) (Scalar.cmpi .ne ((Memref.whole main_v26).view.readAt (Elt Ideal) (Rect.unit (s := S111) (k0_off2 (grid0.coords t)) S1.size (k0_off2_inb (grid0.coords t))).toLoadRect (V m c main_v26) (Shape.Idx.first (numel1_S1.symm ▸ Nat.one_pos))) ((Memref.whole main_v26).view.readAt (Elt Ideal) (Rect.unit (s := S111) (k0_off3 (grid0.coords t)) S1.size (k0_off3_inb (grid0.coords t))).toLoadRect (V m c main_v26) (Shape.Idx.first (numel1_S1.symm ▸ Nat.one_pos)))) : BitVec 1) : BitVec 32) 0#32 = 1#1
      ↔ t.val = 0 ∨ Sched.ex f t.val ≠ Sched.ex f (t.val - 1) := by
  have h1 : t.val < 111 := t.isLt
  have h2 := Sched.ex_lt f hf t.val
  have h3 := Sched.ex_lt f hf (t.val - 1)
  rw [ex_word m hf hg c, prev_word m hf hg c, coords_val, ne_ext, or_one, ne_word (by omega) (by omega)]
  exact or_congr (eq_word (a := t.val) (b := 0) (by omega) (by omega)) Iff.rfl

end Cert.KernelIdeal
-- ==== Proof.KernelIdealWindows.lean ====
module

public import proofs.«01_k».proof.Proof.KernelIdealFacts

/-!
What the windows hold when a visit runs: the rows of its tile of `x`, and the packed weights and the scales of its
expert.
-/

@[expose] public section

set_option maxHeartbeats 200000
set_option maxRecDepth 16384

noncomputable section

namespace Cert.KernelIdeal

open Idealize.ShloMosaic Idealize.ShloMosaic.TcCoe Idealize.ShloMosaic.Pipeline Gen
open Idealize.ShloMosaic.Routing (shape1)

variable (m : (ℓ : Loc nD τ sig) → Buf (Elt Ideal) ℓ) (hok : ok0 (tabs m))
  (I : ℕ → (S2048x6144.Idx → Elt Ideal .bf16) → (S512x3072.Idx → Elt Ideal .f32) → Prop)
  (Q3 : ℕ → (S512x3072.Idx → Elt Ideal .fp8e4m3) → Prop) (Q4 : ℕ → (S512x1.Idx → Elt Ideal .f32) → Prop)
variable {f : ℕ → ℕ} (hf : Sched.P f 16 = 49152)
  (hg : ∀ c (i : Fin 16), (m (c, Proc.devRef (τ := τ) .tc main_arg1) : IVec (shape1 16) 32) (ValueIdx.ix1 i) = BitVec.ofNat 32 (f i.val))

/-- What an input window holds is the block of its array. -/
theorem found_in (c : Dev nD) (w : Fin 5) (hw : ((cfg0 (adm m hok)).win w).isOut = false)
    (hk : ∀ t Y X, (rdat m hok I Q3 Q4 c).after w t Y X → X = Y)
    (t : Fin (cfg0 (adm m hok)).N) (Y) (hY : (rdat m hok I Q3 Q4 c).Finds w t Y) : ∃ d, Y = (rdat m hok I Q3 Q4 c).fetched w t d :=
  RDat.finds_in_eq_fetched (rdat m hok I Q3 Q4 c) w hw (fun _ _ _ => rfl) hk t Y hY

section Emb

include hf hg

theorem emb_0 (t : Fin (cfg0 (adm m hok)).N) (r : Fin 512) (k : Fin 2048) :
    ((((cfg0 (adm m hok)).win 0).blk t).view.emb (ix2 r k : S512x2048.Idx) : S49152x2048.Idx)
      = ix2 ⟨512 * Sched.tl f t.val + r.val, by have := Sched.tl_lt f hf t.val; omega⟩ k := by
  funext a
  apply Fin.ext
  refine (Window.rect_emb_val ((cfg0 (adm m hok)).win 0) t (ix2 r k : S512x2048.Idx) a rfl).trans ?_
  have h : ((cfg0 (adm m hok)).win 0).index t = ![Sched.tl f (grid0.coords t 0).val, 0] := ix_tile m hf hg (grid0.coords t)
  rw [h, coords_val]
  rcases a with ⟨_ | _ | n, hn⟩
  · exact (congrArg (· + r.val) (Nat.mul_comm (Sched.tl f t.val) 512))
  · exact ((congrArg (· + k.val) (Nat.zero_mul 2048)).trans (Nat.zero_add _))
  · exact absurd (show n + 2 < 2 from hn) (by omega)

theorem emb_1 (t : Fin (cfg0 (adm m hok)).N) (r : Fin 1024) (k : Fin 6144) :
    ((((cfg0 (adm m hok)).win 1).blk t).view.emb (ix3 (0 : Fin 1) r k : S1x1024x6144.Idx) : S16x1024x6144.Idx)
      = ix3 ⟨Sched.ex f t.val, Sched.ex_lt f hf t.val⟩ r k := by
  funext a
  apply Fin.ext
  refine (Window.rect_emb_val ((cfg0 (adm m hok)).win 1) t (ix3 (0 : Fin 1) r k : S1x1024x6144.Idx) a rfl).trans ?_
  have h : ((cfg0 (adm m hok)).win 1).index t = ![Sched.ex f (grid0.coords t 0).val, 0, 0] := ix_expert m hf hg (grid0.coords t)
  rw [h, coords_val]
  rcases a with ⟨_ | _ | _ | n, hn⟩
  · exact ((Nat.add_zero _).trans (Nat.mul_one _))
  · exact ((congrArg (· + r.val) (Nat.zero_mul 1024)).trans (Nat.zero_add _))
  · exact ((congrArg (· + k.val) (Nat.zero_mul 6144)).trans (Nat.zero_add _))
  · exact absurd (show n + 3 < 3 from hn) (by omega)

theorem emb_2 (t : Fin (cfg0 (adm m hok)).N) (r : Fin 16) (k : Fin 6144) :
    ((((cfg0 (adm m hok)).win 2).blk t).view.emb (ix3 (0 : Fin 1) r k : S1x16x6144.Idx) : S16x16x6144.Idx)
      = ix3 ⟨Sched.ex f t.val, Sched.ex_lt f hf t.val⟩ r k := by
  funext a
  apply Fin.ext
  refine (Window.rect_emb_val ((cfg0 (adm m hok)).win 2) t (ix3 (0 : Fin 1) r k : S1x16x6144.Idx) a rfl).trans ?_
  have h : ((cfg0 (adm m hok)).win 2).index t = ![Sched.ex f (grid0.coords t 0).val, 0, 0] := ix_expert m hf hg (grid0.coords t)
  rw [h, coords_val]
  rcases a with ⟨_ | _ | _ | n, hn⟩
  · exact ((Nat.add_zero _).trans (Nat.mul_one _))
  · exact ((congrArg (· + r.val) (Nat.zero_mul 16)).trans (Nat.zero_add _))
  · exact ((congrArg (· + k.val) (Nat.zero_mul 6144)).trans (Nat.zero_add _))
  · exact absurd (show n + 3 < 3 from hn) (by omega)

theorem emb_3 (t : Fin (cfg0 (adm m hok)).N) (r : Fin 512) (k : Fin 3072) :
    ((((cfg0 (adm m hok)).win 3).blk t).view.emb (ix2 r k : S512x3072.Idx) : S49152x3072.Idx)
      = ix2 ⟨512 * Sched.tl f t.val + r.val, by have := Sched.tl_lt f hf t.val; omega⟩ k := by
  funext a
  apply Fin.ext
  refine (Window.rect_emb_val ((cfg0 (adm m hok)).win 3) t (ix2 r k : S512x3072.Idx) a rfl).trans ?_
  have h : ((cfg0 (adm m hok)).win 3).index t = ![Sched.tl f (grid0.coords t 0).val, 0] := ix_tile m hf hg (grid0.coords t)
  rw [h, coords_val]
  rcases a with ⟨_ | _ | n, hn⟩
  · exact (congrArg (· + r.val) (Nat.mul_comm (Sched.tl f t.val) 512))
  · exact ((congrArg (· + k.val) (Nat.zero_mul 3072)).trans (Nat.zero_add _))
  · exact absurd (show n + 2 < 2 from hn) (by omega)

theorem emb_4 (t : Fin (cfg0 (adm m hok)).N) (r : Fin 512) (k : Fin 1) :
    ((((cfg0 (adm m hok)).win 4).blk t).view.emb (ix2 r k : S512x1.Idx) : S49152x1.Idx)
      = ix2 ⟨512 * Sched.tl f t.val + r.val, by have := Sched.tl_lt f hf t.val; omega⟩ k := by
  funext a
  apply Fin.ext
  refine (Window.rect_emb_val ((cfg0 (adm m hok)).win 4) t (ix2 r k : S512x1.Idx) a rfl).trans ?_
  have h : ((cfg0 (adm m hok)).win 4).index t = ![Sched.tl f (grid0.coords t 0).val, 0] := ix_tile m hf hg (grid0.coords t)
  rw [h, coords_val]
  rcases a with ⟨_ | _ | n, hn⟩
  · exact (congrArg (· + r.val) (Nat.mul_comm (Sched.tl f t.val) 512))
  · exact ((congrArg (· + k.val) (Nat.zero_mul 1)).trans (Nat.zero_add _))
  · exact absurd (show n + 2 < 2 from hn) (by omega)

end Emb

theorem fetched_0 (c : Dev nD) (t : Fin (cfg0 (adm m hok)).N) (d) (y : S512x2048.Idx) :
    ((rdat m hok I Q3 Q4 c).fetched 0 t d y : EReal) = ((rdat m hok I Q3 Q4 c).A 0 : FVec Ideal S49152x2048 .bf16) ((((cfg0 (adm m hok)).win 0).blk t).view.emb y) := rfl

theorem array_0 (c : Dev nD) : ((rdat m hok I Q3 Q4 c).A 0 : FVec Ideal S49152x2048 .bf16) = m ((c : Thread nD τ).loc main_arg0) := V_main_arg0 m c

include hf hg in
/-- The rows of `x`. -/
theorem found_x (c : Dev nD) (t : Fin (cfg0 (adm m hok)).N) (Y) (hY : (rdat m hok I Q3 Q4 c).Finds 0 t Y) (r : Fin 512) (k : Fin 2048) :
    (Y (ix2 r k : S512x2048.Idx) : EReal) = (m ((c : Thread nD τ).loc main_arg0) : FVec Ideal S49152x2048 .bf16)
      (ix2 ⟨512 * Sched.tl f t.val + r.val, by have := Sched.tl_lt f hf t.val; omega⟩ k) := by
  obtain ⟨d, rfl⟩ := found_in m hok I Q3 Q4 c 0 rfl (fun _ _ _ h => h) t Y hY
  exact (fetched_0 m hok I Q3 Q4 c t d _).trans ((congrArg _ (emb_0 m hok hf hg t r k)).trans (congrFun (array_0 m hok I Q3 Q4 c) _))

theorem fetched_1 (c : Dev nD) (t : Fin (cfg0 (adm m hok)).N) (d) (y : S1x1024x6144.Idx) :
    ((rdat m hok I Q3 Q4 c).fetched 1 t d y : BitVec 8) = ((rdat m hok I Q3 Q4 c).A 1 : IVec S16x1024x6144 8) ((((cfg0 (adm m hok)).win 1).blk t).view.emb y) := rfl

theorem array_1 (c : Dev nD) : ((rdat m hok I Q3 Q4 c).A 1 : IVec S16x1024x6144 8) = m ((c : Thread nD τ).loc main_arg2) := V_main_arg2 m c

include hf hg in
/-- The packed weights. -/
theorem found_w (c : Dev nD) (t : Fin (cfg0 (adm m hok)).N) (Y) (hY : (rdat m hok I Q3 Q4 c).Finds 1 t Y) (r : Fin 1024) (k : Fin 6144) :
    (Y (ix3 (0 : Fin 1) r k : S1x1024x6144.Idx) : BitVec 8) = (m ((c : Thread nD τ).loc main_arg2) : IVec S16x1024x6144 8)
      (ix3 ⟨Sched.ex f t.val, Sched.ex_lt f hf t.val⟩ r k) := by
  obtain ⟨d, rfl⟩ := found_in m hok I Q3 Q4 c 1 rfl (fun _ _ _ h => h) t Y hY
  exact (fetched_1 m hok I Q3 Q4 c t d _).trans ((congrArg _ (emb_1 m hok hf hg t r k)).trans (congrFun (array_1 m hok I Q3 Q4 c) _))

theorem fetched_2 (c : Dev nD) (t : Fin (cfg0 (adm m hok)).N) (d) (y : S1x16x6144.Idx) :
    ((rdat m hok I Q3 Q4 c).fetched 2 t d y : EReal) = ((rdat m hok I Q3 Q4 c).A 2 : FVec Ideal S16x16x6144 .bf16) ((((cfg0 (adm m hok)).win 2).blk t).view.emb y) := rfl

theorem array_2 (c : Dev nD) : ((rdat m hok I Q3 Q4 c).A 2 : FVec Ideal S16x16x6144 .bf16) = m ((c : Thread nD τ).loc main_arg3) := V_main_arg3 m c

include hf hg in
/-- The scales. -/
theorem found_s (c : Dev nD) (t : Fin (cfg0 (adm m hok)).N) (Y) (hY : (rdat m hok I Q3 Q4 c).Finds 2 t Y) (r : Fin 16) (k : Fin 6144) :
    (Y (ix3 (0 : Fin 1) r k : S1x16x6144.Idx) : EReal) = (m ((c : Thread nD τ).loc main_arg3) : FVec Ideal S16x16x6144 .bf16)
      (ix3 ⟨Sched.ex f t.val, Sched.ex_lt f hf t.val⟩ r k) := by
  obtain ⟨d, rfl⟩ := found_in m hok I Q3 Q4 c 2 rfl (fun _ _ _ h => h) t Y hY
  exact (fetched_2 m hok I Q3 Q4 c t d _).trans ((congrArg _ (emb_2 m hok hf hg t r k)).trans (congrFun (array_2 m hok I Q3 Q4 c) _))

end Cert.KernelIdeal
-- ==== Proof.KernelIdealHolds.lean ====
module

public import proofs.«01_k».proof.Proof.KernelIdealWindows

/-!
What the visits carry on. The buffer of the unpacked weights holds those of the expert last visited. The buffer of the
activations holds, for the rows of the current tile that the visits so far have reached, their activations; the two
result blocks hold the quantised rows and their scales, for the same rows.
-/

@[expose] public section

set_option maxHeartbeats 200000
set_option maxRecDepth 16384

noncomputable section

namespace Cert.KernelIdeal

open Idealize.ShloMosaic Idealize.ShloMosaic.TcCoe Idealize.ShloMosaic.Pipeline Gen
open Idealize.ShloMosaic.Routing (shape1)

section Values

variable (x : FVec Ideal S49152x2048 .bf16) (w : IVec S16x1024x6144 8) (s : FVec Ideal S16x16x6144 .bf16) (f : ℕ → ℕ)

/-- The activations of row `n`. -/
def acts (n : ℕ) : Fin 3072 → EReal :=
  Spec.actRow (fun k => x (ix2 ⟨n % 49152, Nat.mod_lt _ (by norm_num)⟩ k)) (Spec.weights w s (Sched.own f n))

/-- What visit `t` leaves in the block of the quantised rows. -/
def Y3 (t : ℕ) (X : S512x3072.Idx → EReal) : Prop :=
  ∀ r : Fin 512, r.val < Sched.hi f t → ∀ c : Fin 3072, X (ix2 r c) = Spec.value (acts x w s f (512 * Sched.tl f t + r.val)) c

/-- What visit `t` leaves in the block of the scales. -/
def Y4 (t : ℕ) (X : S512x1.Idx → EReal) : Prop :=
  ∀ r : Fin 512, r.val < Sched.hi f t → ∀ l : Fin 1, X (ix2 r l) = Spec.scale (acts x w s f (512 * Sched.tl f t + r.val))

/-- The activations the buffer holds after visit `t`. -/
def HeldH (t : ℕ) (H : S512x3072.Idx → EReal) : Prop :=
  ∀ r : Fin 512, r.val < Sched.hi f t → ∀ c : Fin 3072, H (ix2 r c) = acts x w s f (512 * Sched.tl f t + r.val) c

/-- The weights the buffer holds after visit `t`. -/
def HeldW (t : ℕ) (W : S2048x6144.Idx → EReal) : Prop :=
  ∀ (k : Fin 2048) (n : Fin 6144), W (ix2 k n) = Spec.weights w s (Sched.ex f t) k n

/-- Between the visits. -/
def Held (t : ℕ) (W : S2048x6144.Idx → EReal) (H : S512x3072.Idx → EReal) : Prop :=
  0 < t → HeldW w s f (t - 1) W ∧ HeldH x w s f (t - 1) H

variable (hf : Sched.P f 16 = 49152)

include hf in
/-- The rows a visit has reached: those it computes, and those before, which the buffer held. -/
theorem rows_after (t : ℕ) (ht : t < Sched.tot f) (X : Fin 512 → Fin 2048 → EReal) (W : Fin 2048 → Fin 6144 → EReal)
    (H : S512x3072.Idx → EReal)
    (hX : ∀ r k, X r k = x (ix2 ⟨512 * Sched.tl f t + r.val, by have := Sched.tl_lt f hf t; omega⟩ k))
    (hW : ∀ k n, W k n = Spec.weights w s (Sched.ex f t) k n)
    (hH : 0 < t → HeldH x w s f (t - 1) H) (r : Fin 512) (hr : r.val < Sched.hi f t) :
    (fun c => if Sched.lo f t ≤ r.val ∧ r.val < Sched.hi f t then Spec.actRow (X r) W c else H (ix2 r c))
      = acts x w s f (512 * Sched.tl f t + r.val) := by
  have htl := Sched.tl_lt f hf t
  by_cases hl : Sched.lo f t ≤ r.val
  · funext c
    rw [if_pos ⟨hl, hr⟩]
    unfold acts
    have e1 : X r = fun k => x (ix2 ⟨(512 * Sched.tl f t + r.val) % 49152, Nat.mod_lt _ (by norm_num)⟩ k) := by
      funext k
      rw [hX]
      congr 2
      apply Fin.ext
      exact (Nat.mod_eq_of_lt (by omega)).symm
    have e2 : W = Spec.weights w s (Sched.own f (512 * Sched.tl f t + r.val)) := by
      funext k n
      rw [hW, ← Sched.own_eq f hf t r.val hl hr, Nat.mul_comm]
    rw [e1, e2]
  · funext c
    rw [if_neg (fun h => hl h.1)]
    obtain ⟨n, rfl⟩ : ∃ n, t = n + 1 := by
      rcases t with _ | n
      · have := (Sched.start f hf).2; omega
      · exact ⟨n, rfl⟩
    rcases Sched.step f hf n ht with ⟨h1, h2⟩ | ⟨h1, h2, h3⟩
    · rw [h1]
      exact hH (Nat.succ_pos _) r (by show r.val < Sched.hi f n; omega) c
    · omega

/-- What the three lists of a visit leave. -/
theorem carried (t : ℕ) (arg9 : View sig .tc .vmem S512x3072 .fp8e4m3) (arg10 : View sig .tc .vmem S512x1 .f32) (arg12 : Memref sig .tc .vmem S512x3072 .f32)
    (f9 : arg9.ty.Contents (Elt Ideal)) (f10 : arg10.ty.Contents (Elt Ideal)) (f12 : arg12.view.ty.Contents (Elt Ideal))
    (T : Fin 12 → FVec Ideal S512x256 .f32) (h : Fin 512 → Fin 3072 → EReal) (hT : TilesAre T h)
    (hr : ∀ r : Fin 512, r.val < Sched.hi f t → h r = acts x w s f (512 * Sched.tl f t + r.val)) (l1 l2 l3)
    (hl : (l1, l2, l3) = lists arg12 T) :
    Y3 x w s f t (arg9.read (Elt Ideal) (arg9.writes (Elt Ideal) f9 l1))
      ∧ Y4 x w s f t (arg10.read (Elt Ideal) (arg10.writes (Elt Ideal) f10 l2))
      ∧ HeldH x w s f t (arg12.view.read (Elt Ideal) (arg12.view.writes (Elt Ideal) f12 l3)) := by
  obtain ⟨rfl, h2⟩ := Prod.mk.inj hl
  obtain ⟨rfl, rfl⟩ := Prod.mk.inj h2
  refine ⟨fun r hr' c => ?_, fun r hr' l => ?_, fun r hr' c => ?_⟩
  · rw [← hr r hr']; exact read_y arg9 f9 arg12 T h hT r c
  · rw [← hr r hr']; exact read_s arg10 f10 arg12 T h hT r l
  · rw [← hr r hr']; exact read_h arg12.view f12 T h hT r c

end Values

section Visits

variable (m : (ℓ : Loc nD τ sig) → Buf (Elt Ideal) ℓ) (hok : ok0 (tabs m))
variable {f : ℕ → ℕ} (hf : Sched.P f 16 = 49152)
  (hg : ∀ c (i : Fin 16), (m (c, Proc.devRef (τ := τ) .tc main_arg1) : IVec (shape1 16) 32) (ValueIdx.ix1 i) = BitVec.ofNat 32 (f i.val))

/-- The rows of `x`, the packed weights and the scales the program starts from. -/
def argX : FVec Ideal S49152x2048 .bf16 := m (((0 : Dev nD) : Thread nD τ).loc main_arg0)
def argW : IVec S16x1024x6144 8 := m (((0 : Dev nD) : Thread nD τ).loc main_arg2)
def argS : FVec Ideal S16x16x6144 .bf16 := m (((0 : Dev nD) : Thread nD τ).loc main_arg3)

/-- The statements of the run, at the program's own arguments. -/
def MI (f : ℕ → ℕ) := Held (argX m) (argW m) (argS m) f
def M3 (f : ℕ → ℕ) := Y3 (argX m) (argW m) (argS m) f
def M4 (f : ℕ → ℕ) := Y4 (argX m) (argW m) (argS m) f

theorem read_whole (b : Ref sig .tc) (g : BufTy.Contents (Elt Ideal) (Memref.whole b).view.ty) : (Memref.whole b).view.read (Elt Ideal) g = g := rfl

include hf hg in
theorem visit_tiles (t : Fin grid0.N) (ht : t.val < Sched.tot f) (arg6 : Memref sig .tc .vmem S512x2048 .bf16) (f6 : BufTy.Contents (Elt Ideal) arg6.view.ty)
    (f11 : BufTy.Contents (Elt Ideal) (Memref.whole cc0_scratch0).view.ty) (f12 : BufTy.Contents (Elt Ideal) (Memref.whole cc0_scratch1).view.ty)
    (h6 : ∀ (r : Fin 512) (k : Fin 2048), (arg6.view.read (Elt Ideal) f6 (ix2 r k) : EReal) = argX m (ix2 ⟨512 * Sched.tl f t.val + r.val, by have := Sched.tl_lt f hf t.val; omega⟩ k))
    (h11 : HeldW (argW m) (argS m) f t.val f11) (h12 : 0 < t.val → HeldH (argX m) (argW m) (argS m) f (t.val - 1) f12) :
    ∃ h, TilesAre (newTiles (F := Ideal) (grid0.coords t) (Memref.whole main_v54) (Memref.whole main_v66) arg6 (Memref.whole cc0_scratch0) (Memref.whole cc0_scratch1)
        (V m 0 main_v54) (V m 0 main_v66) f6 f11 f12) h
      ∧ ∀ r : Fin 512, r.val < Sched.hi f t.val → h r = acts (argX m) (argW m) (argS m) f (512 * Sched.tl f t.val + r.val) := by
  have a1 := Sched.lo_lt_hi f hf t.val
  have a2 := Sched.hi_le f t.val
  refine ⟨_, newTiles_are (grid0.coords t) (Memref.whole main_v54) (Memref.whole main_v66) arg6 (Memref.whole cc0_scratch0) (Memref.whole cc0_scratch1)
    (V m 0 main_v54) (V m 0 main_v66) f6 f11 f12 (Sched.lo f t.val) (Sched.hi f t.val) (by omega) a2
    ((lo_word m hf hg 0 (grid0.coords t)).trans (by rw [coords_val])) ((hi_word m hf hg 0 (grid0.coords t)).trans (by rw [coords_val])), ?_⟩
  exact rows_after (argX m) (argW m) (argS m) f hf t.val ht (fun r k => arg6.view.read (Elt Ideal) f6 (ix2 r k)) (fun k n => f11 (ix2 k n)) f12 h6 h11 h12

include hf hg in
/-- The rows of `x` a visit reads. -/
theorem x_read (t : Fin (cfg0 (adm m hok)).N) (arg6 : Memref sig .tc .vmem S512x2048 .bf16) (f6 : BufTy.Contents (Elt Ideal) arg6.view.ty) (Y : S512x2048.Idx → EReal)
    (hY : (rdat m hok (MI m f) (M3 m f) (M4 m f) 0).Finds 0 t Y) (e6 : arg6.view.read (Elt Ideal) f6 = Y) (r : Fin 512) (k : Fin 2048) :
    (arg6.view.read (Elt Ideal) f6 (ix2 r k) : EReal) = argX m (ix2 ⟨512 * Sched.tl f t.val + r.val, by have := Sched.tl_lt f hf t.val; omega⟩ k) := by
  rw [e6]; exact found_x m hok _ _ _ hf hg 0 t Y hY r k

include hf hg in
theorem holds_kept (t : Fin (cfg0 (adm m hok)).N) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (f6 : BufTy.Contents (Elt Ideal) arg6.view.ty) (f7 f8 f9 f10 f11 f12) (Y : S512x2048.Idx → EReal)
    (hY : (rdat m hok (MI m f) (M3 m f) (M4 m f) 0).Finds 0 t Y) (e6 : arg6.view.read (Elt Ideal) f6 = Y) (hI : MI m f t.val f11 f12) (h1) (h2) (ht : t.val < Sched.tot f)
    (hn : t.val ≠ 0) (he : Sched.ex f t.val = Sched.ex f (t.val - 1)) (l)
    (hl : (body_kept (F := Ideal) 0 (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m 0 main_v26) (V m 0 main_v42) (V m 0 main_v54) (V m 0 main_v66) (V m 0 main_v67) f6 f7 f8 f11 f12 h1 h2).1 = l) :
    M3 m f t.val (arg9.view.read (Elt Ideal) (arg9.view.writes (Elt Ideal) f9 l.1))
      ∧ M4 m f t.val (arg10.view.read (Elt Ideal) (arg10.view.writes (Elt Ideal) f10 l.2.1))
      ∧ MI m f (t.val + 1) f11 ((Memref.whole cc0_scratch1).view.writes (Elt Ideal) f12 l.2.2) := by
  have hW : HeldW (argW m) (argS m) f t.val f11 := fun k n => by rw [he]; exact (hI (Nat.pos_of_ne_zero hn)).1 k n
  obtain ⟨h, hT, hr⟩ := visit_tiles m hf hg t ht arg6 f6 f11 f12 (x_read m hok hf hg t arg6 f6 Y hY e6) hW (fun h0 => (hI h0).2)
  have key := carried (argX m) (argW m) (argS m) f t.val arg9.view arg10.view (Memref.whole cc0_scratch1) f9 f10 f12 _ h hT hr l.1 l.2.1 l.2.2
    (hl.symm.trans (kept_lists (F := Ideal) 0 (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m 0 main_v26) (V m 0 main_v42) (V m 0 main_v54) (V m 0 main_v66) (V m 0 main_v67) f6 f7 f8 f11 f12 h1 h2))
  exact ⟨key.1, key.2.1, fun _ => ⟨hW, key.2.2⟩⟩

theorem mul_code {b b' : BitVec 8} {z z' : EReal} (h : b = b') (h' : z = z') (q : ℕ) :
    ((Spec.code b q : ℝ) : EReal) * z = ((Spec.code b' q : ℝ) : EReal) * z' := by rw [h, h']

theorem expert_index {e : ℕ} (he : e < 16) : (⟨e, he⟩ : Fin 16) = ⟨e % 16, Nat.mod_lt _ (by norm_num)⟩ := Fin.ext (Nat.mod_eq_of_lt he).symm

include hf hg in
theorem packed_read (t : Fin (cfg0 (adm m hok)).N) (arg7 : Memref sig .tc .vmem S1x1024x6144 .i8)
    (f7 : BufTy.Contents (Elt Ideal) arg7.view.ty) (Y1 : S1x1024x6144.Idx → BitVec 8)
    (hY1 : (rdat m hok (MI m f) (M3 m f) (M4 m f) 0).Finds 1 t Y1)
    (e7 : arg7.view.read (Elt Ideal) f7 = Y1) (k : Fin 1024) (n : Fin 6144) :
    arg7.view.read (Elt Ideal) f7 (ix3 (0 : Fin 1) k n) = argW m (ix3 ⟨Sched.ex f t.val % 16, Nat.mod_lt _ (by norm_num)⟩ k n) := by
  rw [e7, ← expert_index (Sched.ex_lt f hf t.val)]
  exact found_w m hok _ _ _ hf hg 0 t Y1 hY1 k n

include hf hg in
theorem scale_read (t : Fin (cfg0 (adm m hok)).N) (arg8 : Memref sig .tc .vmem S1x16x6144 .bf16)
    (f8 : BufTy.Contents (Elt Ideal) arg8.view.ty) (Y2 : S1x16x6144.Idx → EReal)
    (hY2 : (rdat m hok (MI m f) (M3 m f) (M4 m f) 0).Finds 2 t Y2)
    (e8 : arg8.view.read (Elt Ideal) f8 = Y2) (k : Fin 16) (n : Fin 6144) :
    arg8.view.read (Elt Ideal) f8 (ix3 (0 : Fin 1) k n) = argS m (ix3 ⟨Sched.ex f t.val % 16, Nat.mod_lt _ (by norm_num)⟩ k n) := by
  rw [e8, ← expert_index (Sched.ex_lt f hf t.val)]
  exact found_s m hok _ _ _ hf hg 0 t Y2 hY2 k n

theorem wts_eq (v7 : View sig .tc .vmem S1x1024x6144 .i8) (v8 : View sig .tc .vmem S1x16x6144 .bf16)
    (f7 : BufTy.Contents (Elt Ideal) v7.ty) (f8 : BufTy.Contents (Elt Ideal) v8.ty) (w : IVec S16x1024x6144 8) (s : FVec Ideal S16x16x6144 .bf16) (e : ℕ)
    (h7 : ∀ (k : Fin 1024) (n : Fin 6144), v7.read (Elt Ideal) f7 (ix3 (0 : Fin 1) k n) = w (ix3 ⟨e % 16, Nat.mod_lt _ (by norm_num)⟩ k n))
    (h8 : ∀ (k : Fin 16) (n : Fin 6144), v8.read (Elt Ideal) f8 (ix3 (0 : Fin 1) k n) = s (ix3 ⟨e % 16, Nat.mod_lt _ (by norm_num)⟩ k n))
    (k : Fin 2048) (n : Fin 6144) : wts v7 v8 f7 f8 k n = Spec.weights w s e k n := by
  have a := h7 ⟨k.val / 2, by omega⟩ n
  have b := h8 ⟨k.val / 128, by omega⟩ n
  unfold wts Spec.weights
  exact mul_code a b (k.val % 2)

set_option maxHeartbeats 1000000 in
include hf hg in
/-- The weights a visit unpacks. -/
theorem w_read (t : Fin (cfg0 (adm m hok)).N) (arg7 : Memref sig .tc .vmem S1x1024x6144 .i8) (arg8 : Memref sig .tc .vmem S1x16x6144 .bf16)
    (f7 : BufTy.Contents (Elt Ideal) arg7.view.ty) (f8 : BufTy.Contents (Elt Ideal) arg8.view.ty) (Y1 : S1x1024x6144.Idx → BitVec 8) (Y2 : S1x16x6144.Idx → EReal)
    (hY1 : (rdat m hok (MI m f) (M3 m f) (M4 m f) 0).Finds 1 t Y1) (hY2 : (rdat m hok (MI m f) (M3 m f) (M4 m f) 0).Finds 2 t Y2)
    (e7 : arg7.view.read (Elt Ideal) f7 = Y1) (e8 : arg8.view.read (Elt Ideal) f8 = Y2) (k : Fin 2048) (n : Fin 6144) :
    wts arg7.view arg8.view f7 f8 k n = Spec.weights (argW m) (argS m) (Sched.ex f t.val) k n :=
  wts_eq arg7.view arg8.view f7 f8 (argW m) (argS m) (Sched.ex f t.val) (packed_read m hok hf hg t arg7 f7 Y1 hY1 e7) (scale_read m hok hf hg t arg8 f8 Y2 hY2 e8) k n

set_option maxHeartbeats 1000000 in
include hf hg in
theorem holds_fresh (t : Fin (cfg0 (adm m hok)).N) (arg6 : Memref sig .tc .vmem S512x2048 .bf16) (harg6 : arg6.IsWhole) (arg7 : Memref sig .tc .vmem S1x1024x6144 .i8) (harg7 : arg7.IsWhole) (arg8 : Memref sig .tc .vmem S1x16x6144 .bf16) (harg8 : arg8.IsWhole) (arg9 : Memref sig .tc .vmem S512x3072 .fp8e4m3) (harg9 : arg9.IsWhole) (arg10 : Memref sig .tc .vmem S512x1 .f32) (harg10 : arg10.IsWhole) (f6 : BufTy.Contents (Elt Ideal) arg6.view.ty) (f7 : BufTy.Contents (Elt Ideal) arg7.view.ty) (f8 : BufTy.Contents (Elt Ideal) arg8.view.ty) (f9 f10 f11 f12) (Y : S512x2048.Idx → EReal) (Y1 : S1x1024x6144.Idx → BitVec 8) (Y2 : S1x16x6144.Idx → EReal)
    (hY : (rdat m hok (MI m f) (M3 m f) (M4 m f) 0).Finds 0 t Y) (hY1 : (rdat m hok (MI m f) (M3 m f) (M4 m f) 0).Finds 1 t Y1) (hY2 : (rdat m hok (MI m f) (M3 m f) (M4 m f) 0).Finds 2 t Y2)
    (e6 : arg6.view.read (Elt Ideal) f6 = Y) (e7 : arg7.view.read (Elt Ideal) f7 = Y1) (e8 : arg8.view.read (Elt Ideal) f8 = Y2)
    (hI : MI m f t.val f11 f12) (h1) (h2) (ht : t.val < Sched.tot f) (l)
    (hl : (body_fresh (F := Ideal) 0 (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m 0 main_v26) (V m 0 main_v42) (V m 0 main_v54) (V m 0 main_v66) (V m 0 main_v67) f6 f7 f8 f11 f12 h1 h2).1 = l) :
    M3 m f t.val (arg9.view.read (Elt Ideal) (arg9.view.writes (Elt Ideal) f9 l.1))
      ∧ M4 m f t.val (arg10.view.read (Elt Ideal) (arg10.view.writes (Elt Ideal) f10 l.2.1))
      ∧ MI m f (t.val + 1) ((Memref.whole cc0_scratch0).view.writes (Elt Ideal) f11 l.2.2.1) ((Memref.whole cc0_scratch1).view.writes (Elt Ideal) f12 l.2.2.2) := by
  have hp : l.2.2.1 = _ := (congrArg (fun q => q.2.2.1) hl.symm).trans (fresh_pb (F := Ideal) 0 (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m 0 main_v26) (V m 0 main_v42) (V m 0 main_v54) (V m 0 main_v66) (V m 0 main_v67) f6 f7 f8 f11 f12 h1 h2)
  have hW : HeldW (argW m) (argS m) f t.val ((Memref.whole cc0_scratch0).view.writes (Elt Ideal) f11 l.2.2.1) := fun k n => by
    rw [hp]
    exact (read_w 0 (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (BitVec.ofNat 32 (grid0.coords t 0).val) f7 f8 f11 k n).trans (w_read m hok hf hg t arg7 arg8 f7 f8 Y1 Y2 hY1 hY2 e7 e8 k n)
  obtain ⟨h, hT, hr⟩ := visit_tiles m hf hg t ht arg6 f6 _ f12 (x_read m hok hf hg t arg6 f6 Y hY e6) hW (fun h0 => (hI h0).2)
  subst hl
  have key := carried (argX m) (argW m) (argS m) f t.val arg9.view arg10.view (Memref.whole cc0_scratch1) f9 f10 f12 _ h hT hr _ _ _
    (fresh_lists (F := Ideal) 0 (grid0.coords t) (Memref.whole main_v26) (Memref.isWhole_whole _) (Memref.whole main_v42) (Memref.isWhole_whole _) (Memref.whole main_v54) (Memref.isWhole_whole _) (Memref.whole main_v66) (Memref.isWhole_whole _) (Memref.whole main_v67) (Memref.isWhole_whole _) arg6 harg6 arg7 harg7 arg8 harg8 arg9 harg9 arg10 harg10 (Memref.whole cc0_scratch0) (Memref.isWhole_whole _) (Memref.whole cc0_scratch1) (Memref.isWhole_whole _) (V m 0 main_v26) (V m 0 main_v42) (V m 0 main_v54) (V m 0 main_v66) (V m 0 main_v67) f6 f7 f8 f11 f12 h1 h2)
  exact ⟨key.1, key.2.1, fun _ => ⟨hW, key.2.2⟩⟩

theorem tile_same (n : ℕ) (hn : Sched.tot f ≤ n + 1) : M3 m f (n + 1) = M3 m f n ∧ M4 m f (n + 1) = M4 m f n := by
  obtain ⟨-, h2, -, h4⟩ := Sched.rest_all f n hn
  unfold M3 M4 Y3 Y4
  rw [h2, h4]
  exact ⟨rfl, rfl⟩

theorem held_same (n : ℕ) (hn : Sched.tot f ≤ n + 1) (W H) (h : MI m f (n + 1) W H) : MI m f (n + 1 + 1) W H := by
  obtain ⟨h1, h2, -, h4⟩ := Sched.rest_all f n hn
  obtain ⟨a, b⟩ := h (Nat.succ_pos _)
  refine fun _ => ⟨?_, ?_⟩
  · show HeldW (argW m) (argS m) f (n + 1) W
    unfold HeldW; rw [h1]; exact a
  · show HeldH (argX m) (argW m) (argS m) f (n + 1) H
    unfold HeldH; rw [h2, h4]; exact b

omit hf in
/-- When an output window writes back. -/
theorem flush_iff {G : Grid} (w : Window sig G) (hw : w.isOut = true) (t : Fin G.N) :
    w.flush t = true ↔ t.val + 1 = G.N ∨ ∃ h : t.val + 1 < G.N, w.index ⟨t.val + 1, h⟩ ≠ w.index t := by
  unfold Window.flush
  rw [hw]
  simp

include hf hg in
theorem index_3 (t : Fin (cfg0 (adm m hok)).N) : ((cfg0 (adm m hok)).win 3).index t = ![Sched.tl f t.val, 0] := by
  have h : ((cfg0 (adm m hok)).win 3).index t = ![Sched.tl f (grid0.coords t 0).val, 0] := ix_tile m hf hg (grid0.coords t)
  rw [h, coords_val]

include hf hg in
theorem index_4 (t : Fin (cfg0 (adm m hok)).N) : ((cfg0 (adm m hok)).win 4).index t = ![Sched.tl f t.val, 0] := by
  have h : ((cfg0 (adm m hok)).win 4).index t = ![Sched.tl f (grid0.coords t 0).val, 0] := ix_tile m hf hg (grid0.coords t)
  rw [h, coords_val]

theorem pair_ne {a b : ℕ} : (![a, 0] : Fin 2 → ℕ) ≠ ![b, 0] ↔ a ≠ b :=
  not_congr ⟨fun h => congrFun h 0, fun h => by rw [h]⟩

include hf hg in
theorem flush_3 (t : Fin (cfg0 (adm m hok)).N) :
    ((cfg0 (adm m hok)).win 3).flush t = true ↔ t.val + 1 = 111 ∨ (t.val + 1 < 111 ∧ Sched.tl f (t.val + 1) ≠ Sched.tl f t.val) := by
  rw [flush_iff _ rfl]
  refine or_congr Iff.rfl ⟨fun ⟨h, e⟩ => ⟨h, ?_⟩, fun ⟨h, e⟩ => ⟨h, ?_⟩⟩
  · rw [index_3 m hok hf hg, index_3 m hok hf hg] at e; exact pair_ne.1 e
  · rw [index_3 m hok hf hg, index_3 m hok hf hg]; exact pair_ne.2 e

include hf hg in
theorem flush_4 (t : Fin (cfg0 (adm m hok)).N) :
    ((cfg0 (adm m hok)).win 4).flush t = true ↔ t.val + 1 = 111 ∨ (t.val + 1 < 111 ∧ Sched.tl f (t.val + 1) ≠ Sched.tl f t.val) := by
  rw [flush_iff _ rfl]
  refine or_congr Iff.rfl ⟨fun ⟨h, e⟩ => ⟨h, ?_⟩, fun ⟨h, e⟩ => ⟨h, ?_⟩⟩
  · rw [index_4 m hok hf hg, index_4 m hok hf hg] at e; exact pair_ne.1 e
  · rw [index_4 m hok hf hg, index_4 m hok hf hg]; exact pair_ne.2 e

include hf hg in
theorem found_3 (n : ℕ) (hn : n + 1 < (cfg0 (adm m hok)).N) (ht : Sched.tot f ≤ n + 1) (Y)
    (hY : (rdat m hok (MI m f) (M3 m f) (M4 m f) 0).Finds 3 ⟨n + 1, hn⟩ Y) : M3 m f (n + 1) Y := by
  rcases (RDat.finds_of_pos (rdat m hok (MI m f) (M3 m f) (M4 m f) 0) (w := 3) (t := ⟨n + 1, hn⟩) rfl (Nat.succ_ne_zero n) Y).1 hY with h | ⟨Y', -, h⟩
  · rcases (flush_3 m hok hf hg _).1 h with h | ⟨h, h'⟩
    · exact absurd hn (by rw [show (cfg0 (adm m hok)).N = n + 1 from h.symm]; exact lt_irrefl _)
    · exact absurd (Sched.rest_all f n ht).2.1 h'
  · rw [(tile_same m n ht).1]; exact h

include hf hg in
theorem found_4 (n : ℕ) (hn : n + 1 < (cfg0 (adm m hok)).N) (ht : Sched.tot f ≤ n + 1) (Y)
    (hY : (rdat m hok (MI m f) (M3 m f) (M4 m f) 0).Finds 4 ⟨n + 1, hn⟩ Y) : M4 m f (n + 1) Y := by
  rcases (RDat.finds_of_pos (rdat m hok (MI m f) (M3 m f) (M4 m f) 0) (w := 4) (t := ⟨n + 1, hn⟩) rfl (Nat.succ_ne_zero n) Y).1 hY with h | ⟨Y', -, h⟩
  · rcases (flush_4 m hok hf hg _).1 h with h | ⟨h, h'⟩
    · exact absurd hn (by rw [show (cfg0 (adm m hok)).N = n + 1 from h.symm]; exact lt_irrefl _)
    · exact absurd (Sched.rest_all f n ht).2.1 h'
  · rw [(tile_same m n ht).2]; exact h

set_option maxHeartbeats 2000000 in
include hf hg in
/-- One visit carries the statements on. -/
theorem holds : Holds m hok (MI m f) (M3 m f) (M4 m f) where
  kept := by
    intro c t arg6 harg6 arg7 harg7 arg8 harg8 arg9 harg9 arg10 harg10 f6 f7 f8 f9 f10 f11 f12 Y hY e6 e7 e8 hI h1 h2
    obtain rfl := Subsingleton.elim c 0
    have h := mt (cond2_iff m hf hg 0 t).2 h2
    rw [not_or, not_not] at h
    exact holds_kept m hok hf hg t arg6 harg6 arg7 harg7 arg8 harg8 arg9 harg9 arg10 harg10 f6 f7 f8 f9 f10 f11 f12 (Y 0) (hY 0) e6 hI h1 h2
      ((cond1_iff m hf hg 0 t).1 h1) h.1 h.2 _ rfl
  fresh := by
    intro c t arg6 harg6 arg7 harg7 arg8 harg8 arg9 harg9 arg10 harg10 f6 f7 f8 f9 f10 f11 f12 Y hY e6 e7 e8 hI h1 h2
    obtain rfl := Subsingleton.elim c 0
    exact holds_fresh m hok hf hg t arg6 harg6 arg7 harg7 arg8 harg8 arg9 harg9 arg10 harg10 f6 f7 f8 f9 f10 f11 f12 (Y 0) (Y 1) (Y 2) (hY 0) (hY 1) (hY 2) e6 e7 e8 hI h1 h2
      ((cond1_iff m hf hg 0 t).1 h1) _ rfl
  idle := by
    intro c t f11 f12 Y hY hI h1
    obtain rfl := Subsingleton.elim c 0
    have ht := mt (cond1_iff m hf hg 0 t).2 h1
    have hp := Sched.tot_pos f hf
    obtain ⟨n, hn⟩ := t
    rcases n with _ | n
    · exact absurd hp ht
    have ht' : Sched.tot f ≤ n + 1 := Nat.not_lt.1 ht
    exact ⟨found_3 m hok hf hg n hn ht' (Y 3) (hY 3), found_4 m hok hf hg n hn ht' (Y 4) (hY 4), held_same m n ht' f11 f12 hI⟩

end Visits

end Cert.KernelIdeal
-- ==== Proof.KernelIdealFinal.lean ====
module

public import proofs.«01_k».proof.Proof.KernelIdealHolds
public import Idealize.ShloMosaic.Lib.Pipeline.ArrRel

/-!
What the two results of the kernel hold after the run: every row quantised, and its scale.
-/

@[expose] public section

set_option maxHeartbeats 1000000
set_option maxRecDepth 16384

noncomputable section

namespace Cert.KernelIdeal

open Idealize.ShloMosaic Idealize.ShloMosaic.TcCoe Idealize.ShloMosaic.Pipeline Gen
open Idealize.ShloMosaic.Routing (shape1)

/-- The quantised rows. -/
def outY (x : FVec Ideal S49152x2048 .bf16) (w : IVec S16x1024x6144 8) (s : FVec Ideal S16x16x6144 .bf16) (f : ℕ → ℕ) : S49152x3072.Idx → EReal :=
  fun i => Spec.value (acts x w s f (i 0).val) (i 1)

/-- Their scales. -/
def outS (x : FVec Ideal S49152x2048 .bf16) (w : IVec S16x1024x6144 8) (s : FVec Ideal S16x16x6144 .bf16) (f : ℕ → ℕ) : S49152x1.Idx → EReal :=
  fun i => Spec.scale (acts x w s f (i 0).val)

variable (m : (ℓ : Loc nD τ sig) → Buf (Elt Ideal) ℓ) (hok : ok0 (tabs m))
variable {f : ℕ → ℕ} (hf : Sched.P f 16 = 49152)
  (hg : ∀ c (i : Fin 16), (m (c, Proc.devRef (τ := τ) .tc main_arg1) : IVec (shape1 16) 32) (ValueIdx.ix1 i) = BitVec.ofNat 32 (f i.val))

include hf

/-- A tile is written back once all its rows are reached. -/
theorem reached (t : ℕ) (ht : t < 111) (h : t + 1 = 111 ∨ (t + 1 < 111 ∧ Sched.tl f (t + 1) ≠ Sched.tl f t)) : Sched.hi f t = 512 := by
  rcases h with h | ⟨h, h'⟩
  · exact (Sched.finish f hf t (by rw [h]; exact Sched.tot_le f hf)).2
  · rcases Sched.tl_succ f hf t with e | e
    · exact absurd e h'
    · exact e.2

include hg

theorem cover_3 (i : S49152x3072.Idx) :
    ∃ t : Fin (cfg0 (adm m hok)).N, ((cfg0 (adm m hok)).win 3).flush t = true ∧ i ∈ (((cfg0 (adm m hok)).win 3).blk t).view.set := by
  have hi : (i 0).val < 49152 := (i 0).isLt
  obtain ⟨u, hu, h1, h2, h3, h4⟩ := Sched.last_of_tile f hf ((i 0).val / 512) (by omega)
  refine ⟨⟨u, hu⟩, (flush_3 m hok hf hg ⟨u, hu⟩).2 ?_, ?_⟩
  · rcases h3 with h3 | h3
    · exact .inl h3
    · by_cases h : u + 1 = 111
      · exact .inl h
      · exact .inr ⟨by show u + 1 < 111; omega, by show Sched.tl f (u + 1) ≠ Sched.tl f u; rw [h1]; exact h3⟩
  · have e : ((((cfg0 (adm m hok)).win 3).blk ⟨u, hu⟩).view.emb (ix2 ⟨(i 0).val % 512, Nat.mod_lt _ (by norm_num)⟩ (i 1) : S512x3072.Idx) : S49152x3072.Idx) = i := by
      refine (emb_3 m hok hf hg ⟨u, hu⟩ ⟨(i 0).val % 512, Nat.mod_lt _ (by norm_num)⟩ (i 1)).trans (Eq.trans ?_ (eq_ix2 i).symm)
      refine congrArg (fun a : Fin 49152 => (ix2 a (i 1) : S49152x3072.Idx)) (Fin.ext ?_)
      show 512 * Sched.tl f u + (i 0).val % 512 = (i 0).val
      rw [h1]; exact Nat.div_add_mod _ _
    exact e ▸ View.emb_mem_set _ _

/-- What the array of result 1 ends holding. -/
theorem final_3 (G) (hG : (rdat m hok (MI m f) (M3 m f) (M4 m f) 0).ArrAt 3 grid0.N G) : G = outY (argX m) (argW m) (argS m) f := by
  obtain ⟨X, hX, hA⟩ := RDat.ArrAt.exists_exact (rd := rdat m hok (MI m f) (M3 m f) (M4 m f) 0) (w := 3) (n := grid0.N) hG
  refine (hA (Function.update (fun _ _ _ => Classical.arbitrary _) 3 X) fun u _ _ => by rw [Function.update_self]).trans ?_
  refine Dat.arrAt_eq_of_emb _ 3 _ (fun t ht y => ?_) (cover_3 m hok hf hg)
  obtain ⟨Y', _, h⟩ := hX t t.isLt ht
  have h' : M3 m f t.val (X t) := h
  have h512 := reached hf t.val t.isLt ((flush_3 m hok hf hg t).1 ht)
  have e : ∀ y : S512x3072.Idx, (X t y : EReal) = outY (argX m) (argW m) (argS m) f ((((cfg0 (adm m hok)).win 3).blk t).view.emb y) := by
    intro y
    obtain ⟨r, k, rfl⟩ : ∃ (r : Fin 512) (k : Fin 3072), y = (ix2 r k : S512x3072.Idx) := ⟨y 0, y 1, eq_ix2 y⟩
    refine (h' r (by rw [h512]; exact r.isLt) k).trans ?_
    exact (congrArg (outY (argX m) (argW m) (argS m) f) (emb_3 m hok hf hg t r k)).symm
  refine Eq.trans ?_ (e y)
  show Function.update (fun _ _ _ => Classical.arbitrary _) 3 X 3 t y = X t y
  rw [Function.update_self]

theorem cover_4 (i : S49152x1.Idx) :
    ∃ t : Fin (cfg0 (adm m hok)).N, ((cfg0 (adm m hok)).win 4).flush t = true ∧ i ∈ (((cfg0 (adm m hok)).win 4).blk t).view.set := by
  have hi : (i 0).val < 49152 := (i 0).isLt
  obtain ⟨u, hu, h1, h2, h3, h4⟩ := Sched.last_of_tile f hf ((i 0).val / 512) (by omega)
  refine ⟨⟨u, hu⟩, (flush_4 m hok hf hg ⟨u, hu⟩).2 ?_, ?_⟩
  · rcases h3 with h3 | h3
    · exact .inl h3
    · by_cases h : u + 1 = 111
      · exact .inl h
      · exact .inr ⟨by show u + 1 < 111; omega, by show Sched.tl f (u + 1) ≠ Sched.tl f u; rw [h1]; exact h3⟩
  · have e : ((((cfg0 (adm m hok)).win 4).blk ⟨u, hu⟩).view.emb (ix2 ⟨(i 0).val % 512, Nat.mod_lt _ (by norm_num)⟩ (i 1) : S512x1.Idx) : S49152x1.Idx) = i := by
      refine (emb_4 m hok hf hg ⟨u, hu⟩ ⟨(i 0).val % 512, Nat.mod_lt _ (by norm_num)⟩ (i 1)).trans (Eq.trans ?_ (eq_ix2 i).symm)
      refine congrArg (fun a : Fin 49152 => (ix2 a (i 1) : S49152x1.Idx)) (Fin.ext ?_)
      show 512 * Sched.tl f u + (i 0).val % 512 = (i 0).val
      rw [h1]; exact Nat.div_add_mod _ _
    exact e ▸ View.emb_mem_set _ _

/-- What the array of result 2 ends holding. -/
theorem final_4 (G) (hG : (rdat m hok (MI m f) (M3 m f) (M4 m f) 0).ArrAt 4 grid0.N G) : G = outS (argX m) (argW m) (argS m) f := by
  obtain ⟨X, hX, hA⟩ := RDat.ArrAt.exists_exact (rd := rdat m hok (MI m f) (M3 m f) (M4 m f) 0) (w := 4) (n := grid0.N) hG
  refine (hA (Function.update (fun _ _ _ => Classical.arbitrary _) 4 X) fun u _ _ => by rw [Function.update_self]).trans ?_
  refine Dat.arrAt_eq_of_emb _ 4 _ (fun t ht y => ?_) (cover_4 m hok hf hg)
  obtain ⟨Y', _, h⟩ := hX t t.isLt ht
  have h' : M4 m f t.val (X t) := h
  have h512 := reached hf t.val t.isLt ((flush_4 m hok hf hg t).1 ht)
  have e : ∀ y : S512x1.Idx, (X t y : EReal) = outS (argX m) (argW m) (argS m) f ((((cfg0 (adm m hok)).win 4).blk t).view.emb y) := by
    intro y
    obtain ⟨r, k, rfl⟩ : ∃ (r : Fin 512) (k : Fin 1), y = (ix2 r k : S512x1.Idx) := ⟨y 0, y 1, eq_ix2 y⟩
    refine (h' r (by rw [h512]; exact r.isLt) k).trans ?_
    exact (congrArg (outS (argX m) (argW m) (argS m) f) (emb_4 m hok hf hg t r k)).symm
  refine Eq.trans ?_ (e y)
  show Function.update (fun _ _ _ => Classical.arbitrary _) 4 X 4 t y = X t y
  rw [Function.update_self]

omit hok hf hg

/-- The whole run: the arguments end as they were, the results hold the quantised rows and their scales. -/
theorem computes (hf : Sched.P f 16 = 49152)
    (hg : ∀ c (i : Fin 16), (m (c, Proc.devRef (τ := τ) .tc main_arg1) : IVec (shape1 16) 32) (ValueIdx.ix1 i) = BitVec.ofNat 32 (f i.val))
    (ρ : Dev nD → PrngReg) :
    θ_run defs (onTc (τ := τ) (main (F := Ideal))) ⟨m, fun _ => 0, ρ⟩ (fun r => ∀ c : Dev nD,
        r.2.mem ((c.tc : Thread nD τ).loc main_v68_0) = outY (argX m) (argW m) (argS m) f
        ∧ r.2.mem ((c.tc : Thread nD τ).loc main_v68_1) = outS (argX m) (argW m) (argS m) f
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  have hok := ok m hf hg
  refine (θ_run defs _ _).mono (fun r h c => ?_) (run m ρ hok (MI m f) (M3 m f) (M4 m f) (holds m hok hf hg) (fun _ _ h => absurd h (lt_irrefl _)))
  have hc := h.1 c
  have ha := h.2.1 c
  obtain rfl := Subsingleton.elim c 0
  exact ⟨final_3 m hok hf hg _ hc.1, final_4 m hok hf hg _ hc.2, ha⟩

end Cert.KernelIdeal
-- ==== Proof.ReferenceIdealOut.lean ====
module

public import proofs.«01_k».proof.Proof.Gen.ReferenceIdeal.Frame
public import proofs.«01_k».proof.Proof.Spec
public import Idealize.ShloMosaic.Lib.WordSum
public import Idealize.ShloMosaic.Lib.Pipeline.ValueKit
public import Idealize.ShloMosaic.Lib.Pointwise

/-!
What the reference's quantiser computes: the scale and the quantised values of each row.
-/

@[expose] public section

set_option maxHeartbeats 200000
set_option maxRecDepth 16384

noncomputable section

namespace Cert.ReferenceIdeal

open Idealize.ShloMosaic Idealize.ShloMosaic.TcCoe Idealize.ShloMosaic.Pipeline Gen

/-- The rows of an array. -/
def rowOf (H : Vec Ideal S49152x3072 .f32) (r : Fin 49152) (c : Fin 3072) : EReal := H (ix2 r c)

/-- The largest magnitude of each row. -/
def mx (H : Vec Ideal S49152x3072 .f32) : FVec Ideal S49152x1 .f32 :=
  shapeCast S49152x1 (multiReduction (F := Ideal) .maximumf [1] S49152 (absf (k0_pay2 H)) 0xFF800000#32 reduces_S49152x3072_S49152 (.inl rfl) rfl) shapeCasts_S49152_S49152x1

/-- How many of the 254 powers of two are at most the number of the row. -/
def cnt (T : FVec Ideal S49152x1 .f32) : IVec S49152x1 32 :=
  shapeCast S49152x1 (multiReductionI .add [1] S49152 (extui 32 (cmpf .oge (broadcastTo S49152x254 T broadcasts_S49152x1_S49152x254)
    (exp2 (sitofp (F := Ideal) .f32 (subi (iota .tc S49152x254 32 [1] iota_S49152x254_d1_w32) (broadcast S49152x254 126#32))))) natLt_1_32) 0#32 reduces_S49152x254_S49152 rfl) shapeCasts_S49152_S49152x1

/-- The exponent, given the count. -/
def expOf (A T : FVec Ideal S49152x1 .f32) (N : IVec S49152x1 32) : IVec S49152x1 32 :=
  select (cmpf .oeq A (broadcast S49152x1 (Scalar.ofBits .f32 0x00000000#32 : Ideal .f32))) (broadcast S49152x1 0#32)
    (select (ori (cmpi .eq N (broadcast S49152x1 0#32)) (cmpf .oeq T (broadcast S49152x1 (Scalar.ofBits .f32 0x7F800000#32 : Ideal .f32)))) (broadcast S49152x1 0#32)
      (subi N (broadcast S49152x1 126#32)))

/-- The largest magnitude over 448. -/
def scl (A : FVec Ideal S49152x1 .f32) : FVec Ideal S49152x1 .f32 := mulf A (broadcast S49152x1 (Scalar.ofBits .f32 0x3B124925#32 : Ideal .f32))

theorem pay3_eq (H : Vec Ideal S49152x3072 .f32) : k0_pay3 (F := Ideal) H = expOf (mx H) (scl (mx H)) (cnt (scl (mx H))) := rfl

theorem mx_at (H : Vec Ideal S49152x3072 .f32) (r : Fin 49152) (l : Fin 1) : mx H (ix2 r l) = Spec.rowMax (rowOf H r) := by
  pointwise [mx, k0_pay2]
  rw [show Ideal.ofBits .f32 4286578688#32 = ⊥ from Spec.fb_bot]
  rfl

theorem expOf_at (A T : FVec Ideal S49152x1 .f32) (N : IVec S49152x1 32) (i : S49152x1.Idx) : expOf A T N i = Quant.rE (N i) (A i) (T i) := rfl

theorem scl_at (A : FVec Ideal S49152x1 .f32) (i : S49152x1.Idx) : scl A i = A i * Quant.fb 0x3B124925#32 := rfl

theorem cnt_fold (T : FVec Ideal S49152x1 .f32) (r : Fin 49152) (l : Fin 1) :
    cnt T (ix2 r l) = Finset.fold IntOp.addi (0#32) (fun j : Fin 254 => BitVec.setWidth 32 (BitVec.ofBool (decide
      (Ideal.exp2 ((((IntOp.subi (BitVec.ofNat 32 j.val) 126#32).toInt : ℤ) : ℝ) : EReal) ≤ T (ix2 r 0))))) Finset.univ := by
  pointwise [cnt]
  rfl

theorem fold_count (p : Fin 254 → Bool) (s : Finset (Fin 254)) :
    (Finset.fold IntOp.addi (0#32) (fun j => BitVec.setWidth 32 (BitVec.ofBool (p j))) s).toNat = ∑ j ∈ s, if p j = true then 1 else 0 := by
  induction s using Finset.induction_on with
  | empty => rfl
  | insert a s ha ih =>
    rw [Finset.fold_insert ha, Finset.sum_insert ha]
    show (BitVec.setWidth 32 (BitVec.ofBool (p a)) + _).toNat = _
    rw [BitVec.toNat_add, ih]
    have hc : (∑ j ∈ s, if p j = true then 1 else 0) ≤ 254 := by
      refine (Finset.sum_le_card_nsmul s _ 1 fun j _ => by split <;> omega).trans ?_
      have := Finset.card_le_univ s
      simpa using this
    generalize (∑ j ∈ s, if p j = true then 1 else 0) = n at hc ⊢
    cases p a <;> simp <;> omega

theorem word_exp : ∀ j : Fin 254, (IntOp.subi (BitVec.ofNat 32 j.val) 126#32).toInt = (j.val : ℤ) - 126 := by decide +kernel

/-- The count, as a number. -/
theorem cnt_toNat (T : FVec Ideal S49152x1 .f32) (r : Fin 49152) (l : Fin 1) :
    (cnt T (ix2 r l)).toNat = ∑ j : Fin 254, if Ideal.exp2 ((((j.val : ℤ) - 126 : ℤ) : ℝ) : EReal) ≤ T (ix2 r l) then 1 else 0 := by
  obtain rfl := Subsingleton.elim l 0
  rw [cnt_fold, fold_count]
  refine Finset.sum_congr rfl fun j _ => ?_
  rw [word_exp]
  simp only [decide_eq_true_eq]

/-- Both quantisers give one scale. -/
theorem exp_at (H : Vec Ideal S49152x3072 .f32) (r : Fin 49152) (l : Fin 1) :
    Quant.rS (k0_pay3 (F := Ideal) H (ix2 r l)) = Spec.scale (rowOf H r)
      ∧ Quant.rS (0#32 - k0_pay3 (F := Ideal) H (ix2 r l)) = Quant.kI (Quant.kE (Spec.scaled (rowOf H r))) := by
  have h := Quant.quant_eq (Spec.rowMax (rowOf H r)) (cnt (scl (mx H)) (ix2 r l)) (by rw [cnt_toNat, scl_at, mx_at])
  rw [pay3_eq, expOf_at, scl_at, mx_at]
  exact ⟨h.1.symm, h.2.symm⟩

theorem pay4_at (H : Vec Ideal S49152x3072 .f32) (i : S49152x1.Idx) : k0_pay4 (F := Ideal) H i = Quant.rS (k0_pay3 (F := Ideal) H i) := rfl

theorem pay1_at (v : FVec Ideal S49152x3072 .f32) (e : IVec S49152x1 32) (r : Fin 49152) (c : Fin 3072) :
    k0_pay1 (F := Ideal) v e (ix2 r c) = min (Quant.fb 0x43E00000#32) (max (Quant.fb 0xC3E00000#32) (v (ix2 r c) * Quant.rS (0#32 - e (ix2 r 0)))) := by
  unfold Quant.rS
  rw [Quant.fb_zero]
  pointwise [k0_pay1]
  rfl

theorem ld_0 (H : Vec Ideal S49152x3072 .f32) : View.ld H r0_0 = H := View.ld_unit_lit _ H (by decide)

theorem canon_0 (y : Vec Ideal S49152x3072 .fp8e4m3) : View.canon [⟨r0_0, y⟩] = y := View.canon_cons_unit_lit _ y _ (by decide)

theorem canon_1 (y : Vec Ideal S49152x1 .f32) : View.canon [⟨r0_1, y⟩] = y := View.canon_cons_unit_lit _ y _ (by decide)

theorem out1_at (H : Vec Ideal S49152x3072 .f32) (r : Fin 49152) (c : Fin 3072) : out0_1 (F := Ideal) H (ix2 r c) = Spec.value (rowOf H r) c := by
  unfold out0_1
  rw [ld_0, canon_0, pay1_at, (exp_at H r 0).2]
  unfold Spec.value
  rw [show k0_pay2 (F := Ideal) H (ix2 r c) = rowOf H r c by pointwise [k0_pay2]; rfl]

theorem out2_at (H : Vec Ideal S49152x3072 .f32) (r : Fin 49152) (l : Fin 1) : out0_2 (F := Ideal) H (ix2 r l) = Spec.scale (rowOf H r) := by
  unfold out0_2
  rw [ld_0, canon_1, pay4_at, (exp_at H r l).1]

end Cert.ReferenceIdeal
-- ==== Proof.ReferenceIdealHost.lean ====
module

public import proofs.«01_k».proof.Proof.Gen.ReferenceIdeal.Frame
public import proofs.«01_k».proof.Proof.Words
public import Idealize.ShloMosaic.Lib.StableHlo.Run

/-!
What the host operations of the reference compute, as one expression in its arguments.
-/

@[expose] public section

set_option maxHeartbeats 1600000
set_option maxRecDepth 16384

noncomputable section

namespace Cert.ReferenceIdeal

open Cert.ReferenceIdeal.Gen
open Idealize.ShloMosaic Idealize.ShloMosaic.TcCoe Idealize.ShloMosaic.Tactic
open Idealize.ShloMosaic.Routing (shape0 shape1)

variable {F : FTy → Type} [FloatOps F]

theorem hostOps0_3_plain : (hostOps0_3 : List (HloOp τ sig (Elt F))) =
  [ StableHlo.unary main_cst main_call1_v0 (id : (⟨S_, .f32⟩ : BufTy).Contents (Elt F) → (⟨S_, .f32⟩ : BufTy).Contents (Elt F)),
    StableHlo.unary main_v31 main_call1_v1 ((broadcastInDim S16x6144x49152 ![0, 1, 2] bcast_S16x1x49152_S16x6144x49152_0_1_2) : (⟨S16x1x49152, .i1⟩ : BufTy).Contents (Elt F) → (⟨S16x6144x49152, .i1⟩ : BufTy).Contents (Elt F)),
    StableHlo.unary main_call1_v0 main_call1_v2 ((broadcastInDim S16x6144x49152 ![] bcast_S_S16x6144x49152) : (⟨S_, .f32⟩ : BufTy).Contents (Elt F) → (⟨S16x6144x49152, .f32⟩ : BufTy).Contents (Elt F)),
    StableHlo.ternary main_call1_v1 main_v30 main_call1_v2 main_v32 (select : (⟨S16x6144x49152, .i1⟩ : BufTy).Contents (Elt F) → (⟨S16x6144x49152, .f32⟩ : BufTy).Contents (Elt F) → (⟨S16x6144x49152, .f32⟩ : BufTy).Contents (Elt F) → (⟨S16x6144x49152, .f32⟩ : BufTy).Contents (Elt F)) ] := rfl

theorem hostOps0_5_plain : (hostOps0_5 : List (HloOp τ sig (Elt F))) =
  [ StableHlo.unary main_v35 main_call2_v0 (Host.negf : (⟨S49152x3072, .f32⟩ : BufTy).Contents (Elt F) → (⟨S49152x3072, .f32⟩ : BufTy).Contents (Elt F)),
    StableHlo.unary main_call2_v0 main_call2_v1 (Host.exp : (⟨S49152x3072, .f32⟩ : BufTy).Contents (Elt F) → (⟨S49152x3072, .f32⟩ : BufTy).Contents (Elt F)),
    StableHlo.nullary main_call2_cst ((constant S_ .f32 0x3F800000#32) : (⟨S_, .f32⟩ : BufTy).Contents (Elt F)),
    StableHlo.unary main_call2_cst main_call2_v2 ((broadcastInDim S49152x3072 ![] bcast_S_S49152x3072) : (⟨S_, .f32⟩ : BufTy).Contents (Elt F) → (⟨S49152x3072, .f32⟩ : BufTy).Contents (Elt F)),
    StableHlo.binary main_call2_v2 main_call2_v1 main_call2_v3 (addf : (⟨S49152x3072, .f32⟩ : BufTy).Contents (Elt F) → (⟨S49152x3072, .f32⟩ : BufTy).Contents (Elt F) → (⟨S49152x3072, .f32⟩ : BufTy).Contents (Elt F)),
    StableHlo.nullary main_call2_cst_0 ((constant S_ .f32 0x3F800000#32) : (⟨S_, .f32⟩ : BufTy).Contents (Elt F)),
    StableHlo.unary main_call2_cst_0 main_call2_v4 ((broadcastInDim S49152x3072 ![] bcast_S_S49152x3072) : (⟨S_, .f32⟩ : BufTy).Contents (Elt F) → (⟨S49152x3072, .f32⟩ : BufTy).Contents (Elt F)),
    StableHlo.binary main_call2_v4 main_call2_v3 main_call2_v5 (Host.divf : (⟨S49152x3072, .f32⟩ : BufTy).Contents (Elt F) → (⟨S49152x3072, .f32⟩ : BufTy).Contents (Elt F) → (⟨S49152x3072, .f32⟩ : BufTy).Contents (Elt F)),
    StableHlo.binary main_v35 main_call2_v5 main_v37 (mulf : (⟨S49152x3072, .f32⟩ : BufTy).Contents (Elt F) → (⟨S49152x3072, .f32⟩ : BufTy).Contents (Elt F) → (⟨S49152x3072, .f32⟩ : BufTy).Contents (Elt F)) ] := rfl

theorem hostOps0_1_plain : (hostOps0_1 : List (HloOp τ sig (Elt F))) =
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_arg1 main_call0_call0_v0 main_v17 ((fun x v => Host.reduceWindow IntOp.addi ![16] ![1] ![15] ![0] x v reduceWindows_S16_S16_w16s1p15_0 h_S_) : (⟨S16, .i32⟩ : BufTy).Contents (Elt F) → (⟨S_, .i32⟩ : BufTy).Contents (Elt F) → (⟨S16, .i32⟩ : BufTy).Contents (Elt F)) ] := by
  have h : ∀ f : (⟨S16, .i32⟩ : BufTy).Contents (Elt F) → (⟨S_, .i32⟩ : BufTy).Contents (Elt F) → (⟨S16, .i32⟩ : BufTy).Contents (Elt F),
(  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_arg1 : StableHlo.TRef sig ⟨S16, .i32⟩) (.of main_call0_call0_v0 : StableHlo.TRef sig ⟨S_, .i32⟩) (.of main_v17 : StableHlo.TRef sig ⟨S16, .i32⟩) f ] : List (HloOp τ sig (Elt F))) =
  [ StableHlo.nullary main_call0_call0_c ((constantI S_ 32 0#32) : (⟨S_, .i32⟩ : BufTy).Contents (Elt F)),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_arg1 main_call0_call0_v0 main_v17 f ] := fun _ => rfl
  exact h _

/-- The four-bit values, unpacked. -/
def nib (w : IVec S16x1024x6144 8) : IVec S16x1024x2x6144 32 :=
  subi (andi (Host.shrsi
      (broadcastInDim S16x1024x2x6144 ![0, 1, 2, 3] bcast_S16x1024x1x6144_S16x1024x2x6144_0_1_2_3
        (extui 32 (broadcastInDim S16x1024x1x6144 ![0, 1, 3] bcast_S16x1024x6144_S16x1024x1x6144_0_1_3 w) natLt_8_32))
      (muli (iotaInDim S16x1024x2x6144 32 2) (broadcastInDim S16x1024x2x6144 ![] bcast_S_S16x1024x2x6144 (constantI S_ 32 4#32))))
    (broadcastInDim S16x1024x2x6144 ![] bcast_S_S16x1024x2x6144 (constantI S_ 32 15#32)))
  (broadcastInDim S16x1024x2x6144 ![] bcast_S_S16x1024x2x6144 (constantI S_ 32 8#32))

/-- The unpacked values times their scales, a group of 128 at a time. -/
def grp (w : IVec S16x1024x6144 8) (s : FVec F S16x16x6144 .bf16) : FVec F S16x16x128x6144 .bf16 :=
  mulf (shapeCast S16x16x128x6144 (sitofp .bf16 (nib w)) shapeCasts_S16x1024x2x6144_S16x16x128x6144)
    (broadcastInDim S16x16x128x6144 ![0, 1, 2, 3] bcast_S16x16x1x6144_S16x16x128x6144_0_1_2_3
      (broadcastInDim S16x16x1x6144 ![0, 1, 3] bcast_S16x16x6144_S16x16x1x6144_0_1_3 s))

/-- The weights. -/
def wide (w : IVec S16x1024x6144 8) (s : FVec F S16x16x6144 .bf16) : FVec F S16x2048x6144 .bf16 :=
  shapeCast S16x2048x6144 (grp w s) shapeCasts_S16x16x128x6144_S16x2048x6144

/-- Which rows are whose. -/
def mask (g : IVec S16 32) : IVec S16x1x49152 1 :=
  broadcastInDim S16x1x49152 ![0, 2] bcast_S16x49152_S16x1x49152_0_2
    (andi (cmpi .sge
        (broadcastInDim S16x49152 ![0, 1] bcast_S1x49152_S16x49152_0_1 (broadcastInDim S1x49152 ![1] bcast_S49152_S1x49152_1 (iotaInDim S49152 32 0)))
        (broadcastInDim S16x49152 ![0, 1] bcast_S16x1_S16x49152_0_1 (broadcastInDim S16x1 ![0] bcast_S16_S16x1_0 (subi (Words.cum g) g))))
      (cmpi .slt
        (broadcastInDim S16x49152 ![0, 1] bcast_S1x49152_S16x49152_0_1 (broadcastInDim S1x49152 ![1] bcast_S49152_S1x49152_1 (iotaInDim S49152 32 0)))
        (broadcastInDim S16x49152 ![0, 1] bcast_S16x1_S16x49152_0_1 (broadcastInDim S16x1 ![0] bcast_S16_S16x1_0 (Words.cum g)))))

/-- Every expert's products with every row. -/
def dots (W : FVec F S16x2048x6144 .bf16) (x : FVec F S49152x2048 .bf16) : FVec F S16x6144x49152 .f32 :=
  Host.dotGeneral dot_S16x2048x6144_S49152x2048_S16x6144x49152_1_1_02_0_n_n none W x

/-- The products of the rows kept. -/
def kept (M : IVec S16x1x49152 1) (D : FVec F S16x6144x49152 .f32) : FVec F S16x6144x49152 .f32 :=
  select (broadcastInDim S16x6144x49152 ![0, 1, 2] bcast_S16x1x49152_S16x6144x49152_0_1_2 M) D
    (broadcastInDim S16x6144x49152 ![] bcast_S_S16x6144x49152 (constant S_ .f32 0#32))

/-- Their sum over the experts, a row per token. -/
def summed (K : FVec F S16x6144x49152 .f32) : FVec F S49152x6144 .f32 :=
  transpose S49152x6144 [1, 0] (Host.reduceAdd K (constant S_ .f32 0#32) reducesTo_S16x6144x49152_S6144x49152_d0 h_S_) transposes_S6144x49152_S49152x6144_1_0

/-- The gate's half and the other. -/
def gate (H : FVec F S49152x6144 .f32) : FVec F S49152x3072 .f32 := extractStridedSlice S49152x3072 ![0, 0] H slices_S49152x6144_S49152x3072_0_0
def up (H : FVec F S49152x6144 .f32) : FVec F S49152x3072 .f32 := extractStridedSlice S49152x3072 ![0, 3072] H slices_S49152x6144_S49152x3072_0_3072

/-- The gated activation. -/
def silu (G U : FVec F S49152x3072 .f32) : FVec F S49152x3072 .f32 :=
  mulf (mulf G (Host.divf (broadcastInDim S49152x3072 ![] bcast_S_S49152x3072 (constant S_ .f32 1065353216#32))
    (addf (broadcastInDim S49152x3072 ![] bcast_S_S49152x3072 (constant S_ .f32 1065353216#32)) (Host.exp (Host.negf G))))) U

theorem after_v16 (X : Valuation τ sig (Elt F)) : StableHlo.after hostOps0 X (Proc.devRef .tc main_v16) = wide (X (Proc.devRef .tc main_arg2)) (X (Proc.devRef .tc main_arg3)) := by
  simp only [hostOps0, List.cons_append, List.nil_append]
  after_results_simp
  all_goals rfl

theorem after_0_arg0 (X : Valuation τ sig (Elt F)) : StableHlo.after hostOps0 X (Proc.devRef .tc main_arg0) = X (Proc.devRef .tc main_arg0) := by
  simp only [hostOps0, List.cons_append, List.nil_append]
  after_results_simp
  all_goals rfl

theorem after_0_arg1 (X : Valuation τ sig (Elt F)) : StableHlo.after hostOps0 X (Proc.devRef .tc main_arg1) = X (Proc.devRef .tc main_arg1) := by
  simp only [hostOps0, List.cons_append, List.nil_append]
  after_results_simp
  all_goals rfl

theorem after_v30 (X : Valuation τ sig (Elt F)) : StableHlo.after (hostOps0_1 ++ hostOps0_2) X (Proc.devRef .tc main_v30) = dots (X (Proc.devRef .tc main_v16)) (X (Proc.devRef .tc main_arg0)) := by
  simp only [hostOps0_1_plain, hostOps0_2, List.cons_append, List.nil_append]
  after_results_simp
  all_goals rfl

theorem after_v31 (X : Valuation τ sig (Elt F)) : StableHlo.after (hostOps0_1 ++ hostOps0_2) X (Proc.devRef .tc main_v31) = mask (X (Proc.devRef .tc main_arg1)) := by
  simp only [hostOps0_1_plain, hostOps0_2, List.cons_append, List.nil_append]
  after_results_simp
  all_goals rfl

theorem after_cst (X : Valuation τ sig (Elt F)) : StableHlo.after (hostOps0_1 ++ hostOps0_2) X (Proc.devRef .tc main_cst) = constant S_ .f32 0#32 := by
  simp only [hostOps0_1_plain, hostOps0_2, List.cons_append, List.nil_append]
  after_results_simp
  all_goals rfl

theorem after_v35 (X : Valuation τ sig (Elt F)) (h : X (Proc.devRef .tc main_cst) = constant S_ .f32 0#32) : StableHlo.after (hostOps0_3 ++ hostOps0_4) X (Proc.devRef .tc main_v35) = gate (summed (kept (X (Proc.devRef .tc main_v31)) (X (Proc.devRef .tc main_v30)))) := by
  simp only [hostOps0_3_plain, hostOps0_4, List.cons_append, List.nil_append]
  after_results_simp
  rw [h]
  all_goals rfl

theorem after_v36 (X : Valuation τ sig (Elt F)) (h : X (Proc.devRef .tc main_cst) = constant S_ .f32 0#32) : StableHlo.after (hostOps0_3 ++ hostOps0_4) X (Proc.devRef .tc main_v36) = up (summed (kept (X (Proc.devRef .tc main_v31)) (X (Proc.devRef .tc main_v30)))) := by
  simp only [hostOps0_3_plain, hostOps0_4, List.cons_append, List.nil_append]
  after_results_simp
  rw [h]
  all_goals rfl

theorem after_v38 (X : Valuation τ sig (Elt F)) : StableHlo.after (hostOps0_5 ++ hostOps0_6) X (Proc.devRef .tc main_v38) = silu (X (Proc.devRef .tc main_v35)) (X (Proc.devRef .tc main_v36)) := by
  simp only [hostOps0_5_plain, hostOps0_6, List.cons_append, List.nil_append]
  after_results_simp
  all_goals rfl

variable (m : (ℓ : Loc nD τ sig) → Buf (Elt F) ℓ)

/-- The activations, from the arguments. -/
def hidden (x : FVec F S49152x2048 .bf16) (g : IVec S16 32) (w : IVec S16x1024x6144 8) (s : FVec F S16x16x6144 .bf16) : FVec F S49152x3072 .f32 :=
  silu (gate (summed (kept (mask g) (dots (wide w s) x)))) (up (summed (kept (mask g) (dots (wide w s) x))))

theorem V_v38 (c : Dev nD) : V m c main_v38 = hidden (m (c, Proc.devRef .tc main_arg0)) (m (c, Proc.devRef .tc main_arg1)) (m (c, Proc.devRef .tc main_arg2)) (m (c, Proc.devRef .tc main_arg3)) := by
  have e : (List.flatten [hostOps0, hostOps0_1, hostOps0_2, hostOps0_3, hostOps0_4, hostOps0_5, hostOps0_6] : List (HloOp τ sig (Elt F)))
      = hostOps0 ++ ((hostOps0_1 ++ hostOps0_2) ++ ((hostOps0_3 ++ hostOps0_4) ++ (hostOps0_5 ++ hostOps0_6))) := by
    simp only [List.flatten_cons, List.flatten_nil, List.append_nil, List.append_assoc]
  unfold V
  rw [e, StableHlo.after_append, StableHlo.after_append, StableHlo.after_append, after_v38, after_v35 _ (after_cst _), after_v36 _ (after_cst _), after_v30, after_v31, after_v16, after_0_arg0, after_0_arg1]
  rfl

end Cert.ReferenceIdeal
-- ==== Proof.ReferenceIdealRun.lean ====
module

public import proofs.«01_k».proof.Proof.ReferenceIdealOut
public import proofs.«01_k».proof.Proof.ReferenceIdealHost

/-!
The run of the reference: what its two results hold, from the activations.
-/

@[expose] public section

set_option maxHeartbeats 400000
set_option maxRecDepth 16384

noncomputable section

namespace Cert.ReferenceIdeal

open Idealize.ShloMosaic Idealize.ShloMosaic.TcCoe Idealize.ShloMosaic.Pipeline Gen

theorem index_0 (t : Fin cfg0.N) : (cfg0.win 0).index t = ![0, 0] := by revert t; decide +kernel
theorem index_1 (t : Fin cfg0.N) : (cfg0.win 1).index t = ![0, 0] := by revert t; decide +kernel
theorem index_2 (t : Fin cfg0.N) : (cfg0.win 2).index t = ![0, 0] := by revert t; decide +kernel

theorem emb_0 (t : Fin cfg0.N) (y : S49152x3072.Idx) : (((cfg0.win 0).blk t).view.emb y : S49152x3072.Idx) = y := by
  funext a
  apply Fin.ext
  refine (Window.rect_emb_val (cfg0.win 0) t y a rfl).trans ?_
  rw [index_0]
  rcases a with ⟨_ | _ | n, hn⟩
  · exact (congrArg (· + (y 0).val) (Nat.zero_mul 49152)).trans (Nat.zero_add _)
  · exact (congrArg (· + (y 1).val) (Nat.zero_mul 3072)).trans (Nat.zero_add _)
  · exact absurd (show n + 2 < 2 from hn) (by omega)

theorem emb_1 (t : Fin cfg0.N) (y : S49152x3072.Idx) : (((cfg0.win 1).blk t).view.emb y : S49152x3072.Idx) = y := by
  funext a
  apply Fin.ext
  refine (Window.rect_emb_val (cfg0.win 1) t y a rfl).trans ?_
  rw [index_1]
  rcases a with ⟨_ | _ | n, hn⟩
  · exact (congrArg (· + (y 0).val) (Nat.zero_mul 49152)).trans (Nat.zero_add _)
  · exact (congrArg (· + (y 1).val) (Nat.zero_mul 3072)).trans (Nat.zero_add _)
  · exact absurd (show n + 2 < 2 from hn) (by omega)

theorem emb_2 (t : Fin cfg0.N) (y : S49152x1.Idx) : (((cfg0.win 2).blk t).view.emb y : S49152x1.Idx) = y := by
  funext a
  apply Fin.ext
  refine (Window.rect_emb_val (cfg0.win 2) t y a rfl).trans ?_
  rw [index_2]
  rcases a with ⟨_ | _ | n, hn⟩
  · exact (congrArg (· + (y 0).val) (Nat.zero_mul 49152)).trans (Nat.zero_add _)
  · exact (congrArg (· + (y 1).val) (Nat.zero_mul 1)).trans (Nat.zero_add _)
  · exact absurd (show n + 2 < 2 from hn) (by omega)

theorem read_0 (t : Fin cfg0.N) (g : Vec Ideal S49152x3072 .f32) : (((cfg0.win 0).blk t).view.read (Elt Ideal) g : Vec Ideal S49152x3072 .f32) = g := by
  funext y
  exact congrArg g (emb_0 t y)

variable (m : (ℓ : Loc nD τ sig) → Buf (Elt Ideal) ℓ)

theorem iblk_0 (c : Dev nD) (t : Fin cfg0.N) : (iblk m c 0 t : Vec Ideal S49152x3072 .f32) = V m c main_v38 := read_0 t _

theorem final_1 (c : Dev nD) (H : Vec Ideal S49152x3072 .f32) (hH : V m c main_v38 = H) :
    (dats m 0 c).arrAt 1 cfg0.N = (out0_1 (F := Ideal) H : Vec Ideal S49152x3072 .fp8e4m3) := by
  refine Dat.arrAt_eq_of_covers _ 1 _ (by decide +kernel) fun t ht y => ?_
  have e : (dats m 0 c).after 1 t = out0_1 H := by rw [after0_1, iblk_0, hH]
  have e' : ∀ y : S49152x3072.Idx, ((dats m 0 c).after 1 t : Vec Ideal S49152x3072 .fp8e4m3) y = (out0_1 (F := Ideal) H : Vec Ideal S49152x3072 .fp8e4m3) (((cfg0.win 1).blk t).view.emb y) := by
    intro y
    rw [e]
    exact (congrArg (out0_1 (F := Ideal) H) (emb_1 t y)).symm
  exact e' y

theorem final_2 (c : Dev nD) (H : Vec Ideal S49152x3072 .f32) (hH : V m c main_v38 = H) :
    (dats m 0 c).arrAt 2 cfg0.N = (out0_2 (F := Ideal) H : Vec Ideal S49152x1 .f32) := by
  refine Dat.arrAt_eq_of_covers _ 2 _ (by decide +kernel) fun t ht y => ?_
  have e : (dats m 0 c).after 2 t = out0_2 H := by rw [after0_2, iblk_0, hH]
  have e' : ∀ y : S49152x1.Idx, ((dats m 0 c).after 2 t : Vec Ideal S49152x1 .f32) y = (out0_2 (F := Ideal) H : Vec Ideal S49152x1 .f32) (((cfg0.win 2).blk t).view.emb y) := by
    intro y
    rw [e]
    exact (congrArg (out0_2 (F := Ideal) H) (emb_2 t y)).symm
  exact e' y

/-- The whole run. -/
theorem computes (ρ : Dev nD → PrngReg) :
    θ_run defs (onTc (τ := τ) (main (F := Ideal))) ⟨m, fun _ => 0, ρ⟩ (fun r => ∀ c : Dev nD,
        r.2.mem ((c.tc : Thread nD τ).loc main_v39_0) = (out0_1 (F := Ideal) (V m c main_v38) : Vec Ideal S49152x3072 .fp8e4m3)
        ∧ r.2.mem ((c.tc : Thread nD τ).loc main_v39_1) = (out0_2 (F := Ideal) (V m c main_v38) : Vec Ideal S49152x1 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨((h c).1 1).trans (final_1 m c _ rfl), ((h c).1 2).trans (final_2 m c _ rfl),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.ReferenceIdeal
-- ==== Proof.ReferenceIdealHidden.lean ====
module

public import proofs.«01_k».proof.Proof.ReferenceIdealHost
public import proofs.«01_k».proof.Proof.Spec

/-!
The activations the reference computes: each row is its own expert's.
-/

@[expose] public section

set_option maxHeartbeats 400000
set_option maxRecDepth 16384

noncomputable section

namespace Cert.ReferenceIdeal

open Idealize.ShloMosaic Idealize.ShloMosaic.TcCoe Idealize.ShloMosaic.Pipeline Gen

/-- The word arithmetic of the unpacking. -/
theorem word_code : ∀ (b : BitVec 8) (q : Fin 2),
    (IntOp.subi (IntOp.andi (IntOp.shrsi ArithUnit.host (BitVec.setWidth 32 b) (IntOp.muli (BitVec.ofNat 32 q.val) 4#32)) 15#32) 8#32).toInt
      = Spec.code b q.val := by
  have h : ∀ (b : Fin 256) (q : Fin 2),
    (IntOp.subi (IntOp.andi (IntOp.shrsi ArithUnit.host (BitVec.setWidth 32 (BitVec.ofFin b : BitVec 8)) (IntOp.muli (BitVec.ofNat 32 q.val) 4#32)) 15#32) 8#32).toInt
      = Spec.code (BitVec.ofFin b) q.val := by decide +kernel
  exact fun b q => h b.toFin q

/-- A signed four-bit value, unpacked. -/
theorem nib_at (w : IVec S16x1024x6144 8) (e : Fin 16) (p : Fin 1024) (q : Fin 2) (n : Fin 6144) :
    (nib w (ix4 e p q n)).toInt = Spec.code (w (ix3 e p n)) q.val := by
  pointwise [nib]
  exact word_code _ _

/-- A weight, in its group of 128. -/
theorem grp_at (w : IVec S16x1024x6144 8) (s : FVec Ideal S16x16x6144 .bf16) (e : Fin 16) (b : Fin 16) (j : Fin 128) (n : Fin 6144) :
    grp (F := Ideal) w s (ix4 e b j n) = ((Spec.code (w (ix3 e ⟨b.val * 64 + j.val / 2, by omega⟩ n)) (j.val % 2) : ℝ) : EReal) * s (ix3 e b n) := by
  pointwise [grp]
  refine congrArg (· * s (ix3 e b n)) ?_
  refine Eq.trans (b := (((nib w (ix4 e ⟨b.val * 64 + j.val / 2, by omega⟩ ⟨j.val % 2, by omega⟩ n)).toInt : ℝ) : EReal)) rfl ?_
  rw [nib_at]

theorem weights_at (w : IVec S16x1024x6144 8) (s : FVec Ideal S16x16x6144 .bf16) (e : Fin 16) (k : Fin 2048) (n : Fin 6144) :
    Spec.weights w s e.val k n = ((Spec.code (w (ix3 e ⟨k.val / 2, by omega⟩ n)) (k.val % 2) : ℝ) : EReal) * s (ix3 e ⟨k.val / 128, by omega⟩ n) := by
  have he : (⟨e.val % 16, Nat.mod_lt _ (by norm_num)⟩ : Fin 16) = e := Fin.ext (Nat.mod_eq_of_lt e.isLt)
  unfold Spec.weights
  rw [he]

/-- A weight. -/
theorem wide_at (w : IVec S16x1024x6144 8) (s : FVec Ideal S16x16x6144 .bf16) (e : Fin 16) (k : Fin 2048) (n : Fin 6144) :
    wide (F := Ideal) w s (ix3 e k n) = Spec.weights w s e.val k n := by
  pointwise [wide]
  rw [grp_at, weights_at]
  have h1 : (⟨k.val / 128 * 64 + k.val % 128 / 2, by omega⟩ : Fin 1024) = ⟨k.val / 2, by omega⟩ := Fin.ext (by show k.val / 128 * 64 + k.val % 128 / 2 = k.val / 2; omega)
  have h2 : k.val % 128 % 2 = k.val % 2 := by omega
  simp only [h1, h2]

theorem and_bit : ∀ a b : BitVec 1, IntOp.andi a b = 1#1 ↔ a = 1#1 ∧ b = 1#1 := by decide

/-- An expert's rows are the rows between its ends. -/
theorem mask_at (g : IVec S16 32) {f : ℕ → ℕ} (hf : Sched.P f 16 = 49152) (hg : ∀ i : Fin 16, g (ValueIdx.ix1 i) = BitVec.ofNat 32 (f i.val)) (e : Fin 16) (r : Fin 49152) :
    mask g (ix3 e 0 r) = 1#1 ↔ Sched.own f r.val = e.val := by
  have h1 : subi (Words.cum g) g (ValueIdx.ix1 e) = BitVec.ofNat 32 (Sched.P f e.val) := Words.starts_ap hf g hg e
  have h2 : Words.cum g (ValueIdx.ix1 e) = BitVec.ofNat 32 (Sched.P f (e.val + 1)) := Words.ends_ap hf g hg e
  have h : mask g (ix3 e 0 r) = IntOp.andi (IntOp.cmpi .sge (BitVec.ofNat 32 r.val) (subi (Words.cum g) g (ValueIdx.ix1 e)))
      (IntOp.cmpi .slt (BitVec.ofNat 32 r.val) (Words.cum g (ValueIdx.ix1 e))) := by
    pointwise [mask]
    rfl
  have l1 := Words.P_le hf g hg e.val (by omega)
  have l2 := Words.P_le hf g hg (e.val + 1) (by omega)
  rw [h, h1, h2, and_bit, Words.sge_word (by omega) (by omega), Words.slt_word (by omega) (by omega)]
  constructor
  · rintro ⟨a, b⟩
    exact Sched.idx_eq f _ 16 _ e.isLt a b
  · intro h
    have := Sched.idx_spec f r.val 16 (by omega)
    unfold Sched.own at h
    rw [h] at this
    exact this.2

/-- A product of an expert's column and a row. -/
theorem dots_at (W : FVec Ideal S16x2048x6144 .bf16) (x : FVec Ideal S49152x2048 .bf16) (e : Fin 16) (n : Fin 6144) (r : Fin 49152) :
    dots (F := Ideal) W x (ix3 e n r) = ∑ k : Fin 2048, x (ix2 r k) * W (ix3 e k n) := by
  pointwise [dots]
  exact Finset.sum_congr rfl fun k _ => mul_comm _ _

theorem kept_at (M : IVec S16x1x49152 1) (D : FVec Ideal S16x6144x49152 .f32) (e : Fin 16) (n : Fin 6144) (r : Fin 49152) :
    kept (F := Ideal) M D (ix3 e n r) = if M (ix3 e 0 r) = 1#1 then D (ix3 e n r) else 0 := by
  pointwise [kept]
  rfl

theorem summed_at (K : FVec Ideal S16x6144x49152 .f32) (r : Fin 49152) (n : Fin 6144) :
    summed (F := Ideal) K (ix2 r n) = ∑ e : Fin 16, K (ix3 e n r) := by
  pointwise [summed]

theorem gate_at (H : FVec Ideal S49152x6144 .f32) (r : Fin 49152) (c : Fin 3072) : gate (F := Ideal) H (ix2 r c) = H (ix2 r ⟨c.val, by omega⟩) := by
  pointwise [gate]

theorem up_at (H : FVec Ideal S49152x6144 .f32) (r : Fin 49152) (c : Fin 3072) : up (F := Ideal) H (ix2 r c) = H (ix2 r ⟨3072 + c.val, by omega⟩) := by
  pointwise [up]

theorem silu_at (G U : FVec Ideal S49152x3072 .f32) (i : S49152x3072.Idx) : silu (F := Ideal) G U i = Spec.act (G i) (U i) := by
  pointwise [silu]
  rfl

section Rows
variable (x : FVec Ideal S49152x2048 .bf16) (g : IVec S16 32) (w : IVec S16x1024x6144 8) (s : FVec Ideal S16x16x6144 .bf16)
  {f : ℕ → ℕ} (hf : Sched.P f 16 = 49152) (hg : ∀ i : Fin 16, g (ValueIdx.ix1 i) = BitVec.ofNat 32 (f i.val))
include hf hg

/-- Of the sixteen products of a row only its own expert's is kept. -/
theorem row_at (r : Fin 49152) (n : Fin 6144) :
    summed (F := Ideal) (kept (mask g) (dots (wide w s) x)) (ix2 r n) = ∑ k : Fin 2048, x (ix2 r k) * Spec.weights w s (Sched.own f r.val) k n := by
  have ho : Sched.own f r.val < 16 := (Sched.idx_spec f r.val 16 (by omega)).1
  rw [summed_at, Finset.sum_eq_single (⟨Sched.own f r.val, ho⟩ : Fin 16)]
  · rw [kept_at, if_pos ((mask_at g hf hg _ r).2 rfl), dots_at]
    exact Finset.sum_congr rfl fun k _ => by rw [wide_at]
  · intro e _ he
    rw [kept_at, if_neg fun h => he (Fin.ext ((mask_at g hf hg e r).1 h).symm)]
  · exact fun h => absurd (Finset.mem_univ _) h

/-- A row of activations. -/
theorem hidden_at (r : Fin 49152) (c : Fin 3072) :
    hidden (F := Ideal) x g w s (ix2 r c) = Spec.actRow (fun k => x (ix2 r k)) (Spec.weights w s (Sched.own f r.val)) c := by
  unfold hidden Spec.actRow
  rw [silu_at, gate_at, up_at, row_at x g w s hf hg, row_at x g w s hf hg]

end Rows

end Cert.ReferenceIdeal
-- ==== Proof.Agree.lean ====
module

public import proofs.«01_k».proof.Proof.KernelIdealFinal
public import proofs.«01_k».proof.Proof.ReferenceIdealRun
public import proofs.«01_k».proof.Proof.ReferenceIdealHidden
public import proofs.«01_k».proof.Proof.Grouped

/-!
The two programs compute the same two arrays.
-/

@[expose] public section

set_option maxHeartbeats 400000
set_option maxRecDepth 16384

noncomputable section

namespace Cert.Agree

open Idealize.ShloMosaic Idealize.ShloMosaic.TcCoe Idealize.ShloMosaic.Pipeline
open Idealize.SL Idealize.SL.Sem
open ReferenceIdeal (S49152x2048 S16x1024x6144 S16x16x6144 S49152x3072 S49152x1 S16)

section Arrays
variable (x : FVec Ideal S49152x2048 .bf16) (g : IVec S16 32) (w : IVec S16x1024x6144 8) (s : FVec Ideal S16x16x6144 .bf16)
  {f : ℕ → ℕ} (hf : Sched.P f 16 = 49152) (hg : ∀ i : Fin 16, g (ValueIdx.ix1 i) = BitVec.ofNat 32 (f i.val))
include hf hg

/-- Each row of activations is the same. -/
theorem rows (r : Fin 49152) : ReferenceIdeal.rowOf (ReferenceIdeal.hidden (F := Ideal) x g w s) r = KernelIdeal.acts x w s f r.val := by
  funext c
  refine (ReferenceIdeal.hidden_at x g w s hf hg r c).trans ?_
  have hr : (⟨r.val % 49152, Nat.mod_lt _ (by norm_num)⟩ : Fin 49152) = r := Fin.ext (Nat.mod_eq_of_lt r.isLt)
  unfold KernelIdeal.acts
  rw [hr]

/-- The quantised rows are the same. -/
theorem values : (ReferenceIdeal.Gen.out0_1 (F := Ideal) (ReferenceIdeal.hidden (F := Ideal) x g w s) : S49152x3072.Idx → EReal) = KernelIdeal.outY x w s f := by
  funext i
  obtain ⟨r, c, rfl⟩ : ∃ (r : Fin 49152) (c : Fin 3072), i = (ix2 r c : S49152x3072.Idx) := ⟨i 0, i 1, eq_ix2 i⟩
  refine (ReferenceIdeal.out1_at _ r c).trans ?_
  rw [rows x g w s hf hg]
  rfl

/-- Their scales are the same. -/
theorem scales : (ReferenceIdeal.Gen.out0_2 (F := Ideal) (ReferenceIdeal.hidden (F := Ideal) x g w s) : S49152x1.Idx → EReal) = KernelIdeal.outS x w s f := by
  funext i
  obtain ⟨r, l, rfl⟩ : ∃ (r : Fin 49152) (l : Fin 1), i = (ix2 r l : S49152x1.Idx) := ⟨i 0, i 1, eq_ix2 i⟩
  refine (ReferenceIdeal.out2_at _ r l).trans ?_
  rw [rows x g w s hf hg]
  rfl

end Arrays

/-- What the reference leaves, in the kernel's terms. -/
theorem reference (m : (ℓ : Loc ReferenceIdeal.nD ReferenceIdeal.τ ReferenceIdeal.sig) → Buf (Elt Ideal) ℓ) (ρ : Dev ReferenceIdeal.nD → PrngReg)
    (x : FVec Ideal S49152x2048 .bf16) (g : IVec S16 32) (w : IVec S16x1024x6144 8) (s : FVec Ideal S16x16x6144 .bf16)
    (h0 : ∀ c : Dev ReferenceIdeal.nD, m ((c.tc : Thread ReferenceIdeal.nD ReferenceIdeal.τ).loc ReferenceIdeal.main_arg0) = x)
    (h1 : ∀ c : Dev ReferenceIdeal.nD, m ((c.tc : Thread ReferenceIdeal.nD ReferenceIdeal.τ).loc ReferenceIdeal.main_arg1) = g)
    (h2 : ∀ c : Dev ReferenceIdeal.nD, m ((c.tc : Thread ReferenceIdeal.nD ReferenceIdeal.τ).loc ReferenceIdeal.main_arg2) = w)
    (h3 : ∀ c : Dev ReferenceIdeal.nD, m ((c.tc : Thread ReferenceIdeal.nD ReferenceIdeal.τ).loc ReferenceIdeal.main_arg3) = s)
    {f : ℕ → ℕ} (hf : Sched.P f 16 = 49152) (hg : ∀ i : Fin 16, g (ValueIdx.ix1 i) = BitVec.ofNat 32 (f i.val)) :
    θ_run ReferenceIdeal.defs (onTc (τ := ReferenceIdeal.τ) (ReferenceIdeal.main (F := Ideal))) ⟨m, fun _ => 0, ρ⟩ (fun r => ∀ c : Dev ReferenceIdeal.nD,
        r.2.mem ((c.tc : Thread ReferenceIdeal.nD ReferenceIdeal.τ).loc ReferenceIdeal.main_v39_0) = KernelIdeal.outY x w s f
        ∧ r.2.mem ((c.tc : Thread ReferenceIdeal.nD ReferenceIdeal.τ).loc ReferenceIdeal.main_v39_1) = KernelIdeal.outS x w s f
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)) := by
  refine (θ_run ReferenceIdeal.defs _ _).mono (fun r h c => ⟨(h c).1.trans ?_, (h c).2.1.trans ?_, (h c).2.2⟩) (ReferenceIdeal.computes m ρ)
  · have e : ReferenceIdeal.Gen.V m c ReferenceIdeal.main_v38 = ReferenceIdeal.hidden (F := Ideal) x g w s := by
      rw [ReferenceIdeal.V_v38]
      exact congr (congr (congr (congrArg _ (h0 c)) (h1 c)) (h2 c)) (h3 c)
    rw [e]
    exact values x g w s hf hg
  · have e : ReferenceIdeal.Gen.V m c ReferenceIdeal.main_v38 = ReferenceIdeal.hidden (F := Ideal) x g w s := by
      rw [ReferenceIdeal.V_v38]
      exact congr (congr (congr (congrArg _ (h0 c)) (h1 c)) (h2 c)) (h3 c)
    rw [e]
    exact scales x g w s hf hg

end Cert.Agree
-- ==== Proof.lean ====
/-
  The claim, assembled: the program as printed and its idealization run to the end and leave their arguments as they were, whatever rounding
  does (KernelRun.lean, KernelIdealRun.lean); so does the reference; the two printed forms are the same text; and over the extended reals
  the kernel and the reference end with equal results (KernelIdealFinal.lean, Agree.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_rows_grouped
public import proofs.«01_k».proof.Proof.KernelRun
public import proofs.«01_k».proof.Proof.KernelIdealRun
public import proofs.«01_k».proof.Proof.Agree

@[expose] public section

noncomputable section

namespace Cert.Proof

open Idealize.ShloMosaic Idealize.SL.Sem

/-- The kernel and the reference end with equal results. -/
theorem agree : Cert.algebraic_KernelIdeal_ReferenceIdeal := by
  intro m g m' g' hp ha
  have hf := grouped _ (m ((0 : Dev Cert.KernelIdeal.nD), Proc.devRef (τ := Cert.KernelIdeal.τ) .tc Cert.KernelIdeal.main_arg1)) _ _ (hp 0)
  have hs := sizes_ap (m ((0 : Dev Cert.KernelIdeal.nD), Proc.devRef (τ := Cert.KernelIdeal.τ) .tc Cert.KernelIdeal.main_arg1))
  refine ⟨fun _ => Cert.KernelIdeal.outY (Cert.KernelIdeal.argX m) (Cert.KernelIdeal.argW m) (Cert.KernelIdeal.argS m) (sizes (m ((0 : Dev Cert.KernelIdeal.nD), Proc.devRef (τ := Cert.KernelIdeal.τ) .tc Cert.KernelIdeal.main_arg1))),
    fun _ => Cert.KernelIdeal.outS (Cert.KernelIdeal.argX m) (Cert.KernelIdeal.argW m) (Cert.KernelIdeal.argS m) (sizes (m ((0 : Dev Cert.KernelIdeal.nD), Proc.devRef (τ := Cert.KernelIdeal.τ) .tc Cert.KernelIdeal.main_arg1))), ?_, ?_⟩
  · exact Cert.KernelIdeal.computes m hf (fun c => by rw [Subsingleton.elim c 0]; exact hs) g
  · exact Cert.Agree.reference m' g' _ (m ((0 : Dev Cert.KernelIdeal.nD), Proc.devRef (τ := Cert.KernelIdeal.τ) .tc Cert.KernelIdeal.main_arg1)) _ _
      (fun c => by rw [Subsingleton.elim c 0]; exact (ha 0).1) (fun c => by rw [Subsingleton.elim c 0]; exact (ha 0).2.1)
      (fun c => by rw [Subsingleton.elim c 0]; exact (ha 0).2.2.1) (fun c => by rw [Subsingleton.elim c 0]; exact (ha 0).2.2.2) hf hs

theorem claim : Cert.Claim := ⟨Cert.Kernel.Gen.facts, Cert.KernelIdeal.Gen.facts, Cert.ReferenceIdeal.Gen.facts, Cert.Pre_rows_grouped.Gen.facts,
  fun m g h => Cert.Kernel.unharmed (F := Bits) m g h,
  fun m g h => Cert.KernelIdeal.unharmed (F := Ideal) m g h,
  fun m g _ => Cert.ReferenceIdeal.Gen.frame (F := Ideal) m g,
  fun m g _ => Cert.ReferenceIdeal.Gen.frame (F := Ideal) m g,
  trivial, agree⟩

end Cert.Proof

end
